-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 8192, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 8192, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S1024x1024 : Shape := ⟨2, ![1024, 1024]⟩
abbrev S1x2048x8x128 : Shape := ⟨4, ![1, 2048, 8, 128]⟩
abbrev S1024x256 : Shape := ⟨2, ![1024, 256]⟩
abbrev S2x2x2048x128 : Shape := ⟨4, ![2, 2, 2048, 128]⟩
abbrev S2x2x2048x136 : Shape := ⟨4, ![2, 2, 2048, 136]⟩
abbrev S8x136x512 : Shape := ⟨3, ![8, 136, 512]⟩
abbrev S8x136x128 : Shape := ⟨3, ![8, 136, 128]⟩
abbrev S3x8x136x128 : Shape := ⟨4, ![3, 8, 136, 128]⟩
abbrev S128x1024 : Shape := ⟨2, ![128, 1024]⟩
abbrev S3x128x1024 : Shape := ⟨3, ![3, 128, 1024]⟩
abbrev S2x2 : Shape := ⟨2, ![2, 2]⟩
abbrev S_ : Shape := ⟨0, ![]⟩
abbrev S3 : Shape := ⟨1, ![3]⟩
abbrev S2048x8 : Shape := ⟨2, ![2048, 8]⟩
abbrev S1x1x2048x8 : Shape := ⟨4, ![1, 1, 2048, 8]⟩
abbrev S1x1 : Shape := ⟨2, ![1, 1]⟩
abbrev S1x1x2048x128 : Shape := ⟨4, ![1, 1, 2048, 128]⟩
abbrev S2048x128 : Shape := ⟨2, ![2048, 128]⟩
abbrev S1x2048x1x128 : Shape := ⟨4, ![1, 2048, 1, 128]⟩
abbrev S512x1024 : Shape := ⟨2, ![512, 1024]⟩
abbrev S1024x128 : Shape := ⟨2, ![1024, 128]⟩
abbrev S512x128 : Shape := ⟨2, ![512, 128]⟩
abbrev S1x1x2048x136 : Shape := ⟨4, ![1, 1, 2048, 136]⟩
abbrev S2048x136 : Shape := ⟨2, ![2048, 136]⟩
abbrev S2048x512 : Shape := ⟨2, ![2048, 512]⟩
abbrev S512 : Shape := ⟨1, ![512]⟩
abbrev S1x512 : Shape := ⟨2, ![1, 512]⟩
abbrev S136x512 : Shape := ⟨2, ![136, 512]⟩
abbrev S1x136x512 : Shape := ⟨3, ![1, 136, 512]⟩
abbrev S1x1x512 : Shape := ⟨3, ![1, 1, 512]⟩
abbrev S1x2x512 : Shape := ⟨3, ![1, 2, 512]⟩
abbrev S1 : Shape := ⟨1, ![1]⟩
abbrev S1x1x136x128 : Shape := ⟨4, ![1, 1, 136, 128]⟩
abbrev S136x128 : Shape := ⟨2, ![136, 128]⟩
abbrev S1x136x128 : Shape := ⟨3, ![1, 136, 128]⟩
abbrev S1x1x128 : Shape := ⟨3, ![1, 1, 128]⟩
abbrev S1x128 : Shape := ⟨2, ![1, 128]⟩
abbrev S1x8x136x128 : Shape := ⟨4, ![1, 8, 136, 128]⟩
abbrev S128x128 : Shape := ⟨2, ![128, 128]⟩
abbrev S1x128x128 : Shape := ⟨3, ![1, 128, 128]⟩
abbrev S1x128x1024 : Shape := ⟨3, ![1, 128, 1024]⟩

abbrev nBuf : Space → Nat
  | .hbm => 6
  | .vmem => 12
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1x2048x8x128, .f32⟩
  | .hbm, ⟨3, _⟩ => ⟨S1x2048x8x128, .f32⟩
  | .hbm, ⟨4, _⟩ => ⟨S1024x1024, .f32⟩
  | .hbm, ⟨5, _⟩ => ⟨S1x512x1024, .f32⟩
  | .local _ .vmem, ⟨0, _⟩ => ⟨S1x512x1024, .f32⟩
  | .local _ .vmem, ⟨1, _⟩ => ⟨S1024x256, .f32⟩
  | .local _ .vmem, ⟨2, _⟩ => ⟨S1024x256, .f32⟩
  | .local _ .vmem, ⟨3, _⟩ => ⟨S1024x1024, .f32⟩
  | .local _ .vmem, ⟨4, _⟩ => ⟨S1x512x1024, .f32⟩
  | .local _ .vmem, ⟨5, _⟩ => ⟨S2x2x2048x128, .f32⟩
  | .local _ .vmem, ⟨6, _⟩ => ⟨S2x2x2048x136, .f32⟩
  | .local _ .vmem, ⟨7, _⟩ => ⟨S8x136x512, .bf16⟩
  | .local _ .vmem, ⟨8, _⟩ => ⟨S8x136x128, .bf16⟩
  | .local _ .vmem, ⟨9, _⟩ => ⟨S3x8x136x128, .bf16⟩
  | .local _ .vmem, ⟨10, _⟩ => ⟨S128x1024, .bf16⟩
  | .local _ .vmem, ⟨11, _⟩ => ⟨S3x128x1024, .bf16⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev barrier0 : Sem sig := 0

abbrev nD : Nat := 4
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v6 : BitVec 1 := Scalar.cmpi .slt arg0 c3_i32
  let v7 : BitVec 32 := Scalar.extui v6
  let c0_i32_1 : BitVec 32 := 0#32
  let v8 : BitVec 1 := Scalar.cmpi .ne v7 c0_i32_1
  v8

def k0_off1 (i : grid0.Coords) : Fin 2 → Nat :=
  let arg0 : BitVec 32 := BitVec.ofNat 32 (i 0).val
  let c1_i32_179 : BitVec 32 := 1#32
  let v261 : BitVec 32 := Scalar.addi arg0 c1_i32_179
  let c2_i32_180 : BitVec 32 := 2#32
  let c0_i32_181 : BitVec 32 := 0#32
  let v262 : BitVec 1 := Scalar.cmpi .eq c2_i32_180 c0_i32_181
  let c1_i32_182 : BitVec 32 := 1#32
  let v263 : BitVec 32 := Scalar.select v262 c1_i32_182 c2_i32_180
  let v264 : BitVec 32 := Scalar.remsi v261 v263
  let c0_i32_184 : BitVec 32 := 0#32
  let v266 : BitVec 1 := Scalar.cmpi .slt v264 c0_i32_184
  let c0_i32_185 : BitVec 32 := 0#32
  let v267 : BitVec 1 := Scalar.cmpi .slt v263 c0_i32_185
  let v268 : BitVec 1 := Scalar.xori v266 v267
  let c0_i32_183 : BitVec 32 := 0#32
  let v265 : BitVec 1 := Scalar.cmpi .ne v264 c0_i32_183
  let v269 : BitVec 1 := Scalar.andi v268 v265
  let v270 : BitVec 32 := Scalar.addi v264 v263
  let v271 : BitVec 32 := Scalar.select v269 v270 v264
  let c0_i32_190 : BitVec 32 := 0#32
  ![v271.toNat, 0]
def k0_off2 (i : grid0.Coords) : Fin 4 → Nat :=
  let arg0 : BitVec 32 := BitVec.ofNat 32 (i 0).val
  let c1_i32_179 : BitVec 32 := 1#32
  let v261 : BitVec 32 := Scalar.addi arg0 c1_i32_179
  let c2_i32_180 : BitVec 32 := 2#32
  let c0_i32_181 : BitVec 32 := 0#32
  let v262 : BitVec 1 := Scalar.cmpi .eq c2_i32_180 c0_i32_181
  let c1_i32_182 : BitVec 32 := 1#32
  let v263 : BitVec 32 := Scalar.select v262 c1_i32_182 c2_i32_180
  let v264 : BitVec 32 := Scalar.remsi v261 v263
  let c0_i32_184 : BitVec 32 := 0#32
  let v266 : BitVec 1 := Scalar.cmpi .slt v264 c0_i32_184
  let c0_i32_185 : BitVec 32 := 0#32
  let v267 : BitVec 1 := Scalar.cmpi .slt v263 c0_i32_185
  let v268 : BitVec 1 := Scalar.xori v266 v267
  let c0_i32_183 : BitVec 32 := 0#32
  let v265 : BitVec 1 := Scalar.cmpi .ne v264 c0_i32_183
  let v269 : BitVec 1 := Scalar.andi v268 v265
  let v270 : BitVec 32 := Scalar.addi v264 v263
  let v271 : BitVec 32 := Scalar.select v269 v270 v264
  let c0_i32_189 : BitVec 32 := 0#32
  let c0_i32_191 : BitVec 32 := 0#32
  let c0_i32_192 : BitVec 32 := 0#32
  ![v271.toNat, 0, 0, 0]
def k0_off3 (i : grid0.Coords) (c0_i32_187 : BitVec 32) : Fin 4 → Nat :=
  let c0_i32_188 : BitVec 32 := 0#32
  let c0_i32_193 : BitVec 32 := 0#32
  let arg0 : BitVec 32 := BitVec.ofNat 32 (i 0).val
  let c1_i32_178 : BitVec 32 := 1#32
  let v260 : BitVec 32 := Scalar.addi arg0 c1_i32_178
  let c2_i32_186 : BitVec 32 := 2#32
  let v272 : BitVec 32 := Scalar.muli v260 c2_i32_186
  let v273 : BitVec 32 := Scalar.addi v272 c0_i32_187
  let c0_i32_194 : BitVec 32 := 0#32
  ![0, 0, v273.toNat, 0]
def k0_off4 (i : grid0.Coords) : Fin 4 → Nat :=
  let arg0 : BitVec 32 := BitVec.ofNat 32 (i 0).val
  let c1_i32_179 : BitVec 32 := 1#32
  let v261 : BitVec 32 := Scalar.addi arg0 c1_i32_179
  let c2_i32_180 : BitVec 32 := 2#32
  let c0_i32_181 : BitVec 32 := 0#32
  let v262 : BitVec 1 := Scalar.cmpi .eq c2_i32_180 c0_i32_181
  let c1_i32_182 : BitVec 32 := 1#32
  let v263 : BitVec 32 := Scalar.select v262 c1_i32_182 c2_i32_180
  let v264 : BitVec 32 := Scalar.remsi v261 v263
  let c0_i32_184 : BitVec 32 := 0#32
  let v266 : BitVec 1 := Scalar.cmpi .slt v264 c0_i32_184
  let c0_i32_185 : BitVec 32 := 0#32
  let v267 : BitVec 1 := Scalar.cmpi .slt v263 c0_i32_185
  let v268 : BitVec 1 := Scalar.xori v266 v267
  let c0_i32_183 : BitVec 32 := 0#32
  let v265 : BitVec 1 := Scalar.cmpi .ne v264 c0_i32_183
  let v269 : BitVec 1 := Scalar.andi v268 v265
  let v270 : BitVec 32 := Scalar.addi v264 v263
  let v271 : BitVec 32 := Scalar.select v269 v270 v264
  let c0_i32_198 : BitVec 32 := 0#32
  let c0_i32_200 : BitVec 32 := 0#32
  let c0_i32_201 : BitVec 32 := 0#32
  ![v271.toNat, 0, 0, 0]
def k0_off5 (i : grid0.Coords) : Fin 2 → Nat :=
  let arg0 : BitVec 32 := BitVec.ofNat 32 (i 0).val
  let c1_i32_179 : BitVec 32 := 1#32
  let v261 : BitVec 32 := Scalar.addi arg0 c1_i32_179
  let c2_i32_180 : BitVec 32 := 2#32
  let c0_i32_181 : BitVec 32 := 0#32
  let v262 : BitVec 1 := Scalar.cmpi .eq c2_i32_180 c0_i32_181
  let c1_i32_182 : BitVec 32 := 1#32
  let v263 : BitVec 32 := Scalar.select v262 c1_i32_182 c2_i32_180
  let v264 : BitVec 32 := Scalar.remsi v261 v263
  let c0_i32_184 : BitVec 32 := 0#32
  let v266 : BitVec 1 := Scalar.cmpi .slt v264 c0_i32_184
  let c0_i32_185 : BitVec 32 := 0#32
  let v267 : BitVec 1 := Scalar.cmpi .slt v263 c0_i32_185
  let v268 : BitVec 1 := Scalar.xori v266 v267
  let c0_i32_183 : BitVec 32 := 0#32
  let v265 : BitVec 1 := Scalar.cmpi .ne v264 c0_i32_183
  let v269 : BitVec 1 := Scalar.andi v268 v265
  let v270 : BitVec 32 := Scalar.addi v264 v263
  let v271 : BitVec 32 := Scalar.select v269 v270 v264
  let c1_i32_208 : BitVec 32 := 1#32
  ![v271.toNat, 1]
def k0_off6 (i : grid0.Coords) : Fin 4 → Nat :=
  let arg0 : BitVec 32 := BitVec.ofNat 32 (i 0).val
  let c1_i32_179 : BitVec 32 := 1#32
  let v261 : BitVec 32 := Scalar.addi arg0 c1_i32_179
  let c2_i32_180 : BitVec 32 := 2#32
  let c0_i32_181 : BitVec 32 := 0#32
  let v262 : BitVec 1 := Scalar.cmpi .eq c2_i32_180 c0_i32_181
  let c1_i32_182 : BitVec 32 := 1#32
  let v263 : BitVec 32 := Scalar.select v262 c1_i32_182 c2_i32_180
  let v264 : BitVec 32 := Scalar.remsi v261 v263
  let c0_i32_184 : BitVec 32 := 0#32
  let v266 : BitVec 1 := Scalar.cmpi .slt v264 c0_i32_184
  let c0_i32_185 : BitVec 32 := 0#32
  let v267 : BitVec 1 := Scalar.cmpi .slt v263 c0_i32_185
  let v268 : BitVec 1 := Scalar.xori v266 v267
  let c0_i32_183 : BitVec 32 := 0#32
  let v265 : BitVec 1 := Scalar.cmpi .ne v264 c0_i32_183
  let v269 : BitVec 1 := Scalar.andi v268 v265
  let v270 : BitVec 32 := Scalar.addi v264 v263
  let v271 : BitVec 32 := Scalar.select v269 v270 v264
  let c1_i32_207 : BitVec 32 := 1#32
  let c0_i32_209 : BitVec 32 := 0#32
  let c0_i32_210 : BitVec 32 := 0#32
  ![v271.toNat, 1, 0, 0]
def k0_off7 (i : grid0.Coords) : Fin 4 → Nat :=
  let arg0 : BitVec 32 := BitVec.ofNat 32 (i 0).val
  let c1_i32_179 : BitVec 32 := 1#32
  let v261 : BitVec 32 := Scalar.addi arg0 c1_i32_179
  let c2_i32_180 : BitVec 32 := 2#32
  let c0_i32_181 : BitVec 32 := 0#32
  let v262 : BitVec 1 := Scalar.cmpi .eq c2_i32_180 c0_i32_181
  let c1_i32_182 : BitVec 32 := 1#32
  let v263 : BitVec 32 := Scalar.select v262 c1_i32_182 c2_i32_180
  let v264 : BitVec 32 := Scalar.remsi v261 v263
  let c0_i32_184 : BitVec 32 := 0#32
  let v266 : BitVec 1 := Scalar.cmpi .slt v264 c0_i32_184
  let c0_i32_185 : BitVec 32 := 0#32
  let v267 : BitVec 1 := Scalar.cmpi .slt v263 c0_i32_185
  let v268 : BitVec 1 := Scalar.xori v266 v267
  let c0_i32_183 : BitVec 32 := 0#32
  let v265 : BitVec 1 := Scalar.cmpi .ne v264 c0_i32_183
  let v269 : BitVec 1 := Scalar.andi v268 v265
  let v270 : BitVec 32 := Scalar.addi v264 v263
  let v271 : BitVec 32 := Scalar.select v269 v270 v264
  let c1_i32_216 : BitVec 32 := 1#32
  let c0_i32_218 : BitVec 32 := 0#32
  let c0_i32_219 : BitVec 32 := 0#32
  ![v271.toNat, 1, 0, 0]
def k0_cond3 (i : grid0.Coords) : BitVec 1 :=
  let arg0 : BitVec 32 := BitVec.ofNat 32 (i 0).val
  let c0_i32_2 : BitVec 32 := 0#32
  let v9 : BitVec 1 := Scalar.cmpi .eq arg0 c0_i32_2
  let v10 : BitVec 32 := Scalar.extui v9
  let c0_i32_3 : BitVec 32 := 0#32
  let v11 : BitVec 1 := Scalar.cmpi .ne v10 c0_i32_3
  v11

def k0_dev1 (d0 : Dev nD) : Nat :=
  let c0_i32_187 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_178 : BitVec 32 := 1#32
  let v261 : BitVec 32 := Scalar.addi v2 c1_i32_178
  let c4_i32_179 : BitVec 32 := 4#32
  let c0_i32_180 : BitVec 32 := 0#32
  let v262 : BitVec 1 := Scalar.cmpi .eq c4_i32_179 c0_i32_180
  let c1_i32_181 : BitVec 32 := 1#32
  let v263 : BitVec 32 := Scalar.select v262 c1_i32_181 c4_i32_179
  let v264 : BitVec 32 := Scalar.remsi v261 v263
  let c0_i32_183 : BitVec 32 := 0#32
  let v266 : BitVec 1 := Scalar.cmpi .slt v264 c0_i32_183
  let c0_i32_184 : BitVec 32 := 0#32
  let v267 : BitVec 1 := Scalar.cmpi .slt v263 c0_i32_184
  let v268 : BitVec 1 := Scalar.xori v266 v267
  let c0_i32_182 : BitVec 32 := 0#32
  let v265 : BitVec 1 := Scalar.cmpi .ne v264 c0_i32_182
  let v269 : BitVec 1 := Scalar.andi v268 v265
  let v270 : BitVec 32 := Scalar.addi v264 v263
  let v271 : BitVec 32 := Scalar.select v269 v270 v264
  let c1_i32_186 : BitVec 32 := 1#32
  let v272 : BitVec 32 := Scalar.muli v271 c1_i32_186
  let v273 : BitVec 32 := Scalar.addi c0_i32_187 v272
  v273.toNat
def k0_dev2 (d0 : Dev nD) : Nat :=
  let c0_i32_197 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_188 : BitVec 32 := 2#32
  let v274 : BitVec 32 := Scalar.addi v2 c2_i32_188
  let c4_i32_189 : BitVec 32 := 4#32
  let c0_i32_190 : BitVec 32 := 0#32
  let v275 : BitVec 1 := Scalar.cmpi .eq c4_i32_189 c0_i32_190
  let c1_i32_191 : BitVec 32 := 1#32
  let v276 : BitVec 32 := Scalar.select v275 c1_i32_191 c4_i32_189
  let v277 : BitVec 32 := Scalar.remsi v274 v276
  let c0_i32_193 : BitVec 32 := 0#32
  let v279 : BitVec 1 := Scalar.cmpi .slt v277 c0_i32_193
  let c0_i32_194 : BitVec 32 := 0#32
  let v280 : BitVec 1 := Scalar.cmpi .slt v276 c0_i32_194
  let v281 : BitVec 1 := Scalar.xori v279 v280
  let c0_i32_192 : BitVec 32 := 0#32
  let v278 : BitVec 1 := Scalar.cmpi .ne v277 c0_i32_192
  let v282 : BitVec 1 := Scalar.andi v281 v278
  let v283 : BitVec 32 := Scalar.addi v277 v276
  let v284 : BitVec 32 := Scalar.select v282 v283 v277
  let c1_i32_196 : BitVec 32 := 1#32
  let v285 : BitVec 32 := Scalar.muli v284 c1_i32_196
  let v286 : BitVec 32 := Scalar.addi c0_i32_197 v285
  v286.toNat
def k0_dev3 (d0 : Dev nD) : Nat :=
  let c0_i32_207 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_198 : BitVec 32 := 3#32
  let v287 : BitVec 32 := Scalar.addi v2 c3_i32_198
  let c4_i32_199 : BitVec 32 := 4#32
  let c0_i32_200 : BitVec 32 := 0#32
  let v288 : BitVec 1 := Scalar.cmpi .eq c4_i32_199 c0_i32_200
  let c1_i32_201 : BitVec 32 := 1#32
  let v289 : BitVec 32 := Scalar.select v288 c1_i32_201 c4_i32_199
  let v290 : BitVec 32 := Scalar.remsi v287 v289
  let c0_i32_203 : BitVec 32 := 0#32
  let v292 : BitVec 1 := Scalar.cmpi .slt v290 c0_i32_203
  let c0_i32_204 : BitVec 32 := 0#32
  let v293 : BitVec 1 := Scalar.cmpi .slt v289 c0_i32_204
  let v294 : BitVec 1 := Scalar.xori v292 v293
  let c0_i32_202 : BitVec 32 := 0#32
  let v291 : BitVec 1 := Scalar.cmpi .ne v290 c0_i32_202
  let v295 : BitVec 1 := Scalar.andi v294 v291
  let v296 : BitVec 32 := Scalar.addi v290 v289
  let v297 : BitVec 32 := Scalar.select v295 v296 v290
  let c1_i32_206 : BitVec 32 := 1#32
  let v298 : BitVec 32 := Scalar.muli v297 c1_i32_206
  let v299 : BitVec 32 := Scalar.addi c0_i32_207 v298
  v299.toNat
def k0_off8 (i : grid0.Coords) : Fin 2 → Nat :=
  let arg0 : BitVec 32 := BitVec.ofNat 32 (i 0).val
  let c2_i32 : BitVec 32 := 2#32
  let c0_i32_4 : BitVec 32 := 0#32
  let v12 : BitVec 1 := Scalar.cmpi .eq c2_i32 c0_i32_4
  let c1_i32_5 : BitVec 32 := 1#32
  let v13 : BitVec 32 := Scalar.select v12 c1_i32_5 c2_i32
  let v14 : BitVec 32 := Scalar.remsi arg0 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_13 : BitVec 32 := 0#32
  ![v21.toNat, 0]
def k0_off9 (i : grid0.Coords) : Fin 4 → Nat :=
  let arg0 : BitVec 32 := BitVec.ofNat 32 (i 0).val
  let c2_i32 : BitVec 32 := 2#32
  let c0_i32_4 : BitVec 32 := 0#32
  let v12 : BitVec 1 := Scalar.cmpi .eq c2_i32 c0_i32_4
  let c1_i32_5 : BitVec 32 := 1#32
  let v13 : BitVec 32 := Scalar.select v12 c1_i32_5 c2_i32
  let v14 : BitVec 32 := Scalar.remsi arg0 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_12 : BitVec 32 := 0#32
  let c0_i32_14 : BitVec 32 := 0#32
  let c0_i32_15 : BitVec 32 := 0#32
  ![v21.toNat, 0, 0, 0]
def k0_off10 (i : grid0.Coords) (c0_i32_10 : BitVec 32) : Fin 4 → Nat :=
  let c0_i32_11 : BitVec 32 := 0#32
  let c0_i32_16 : BitVec 32 := 0#32
  let arg0 : BitVec 32 := BitVec.ofNat 32 (i 0).val
  let c2_i32_9 : BitVec 32 := 2#32
  let v22 : BitVec 32 := Scalar.muli arg0 c2_i32_9
  let v23 : BitVec 32 := Scalar.addi v22 c0_i32_10
  let c0_i32_17 : BitVec 32 := 0#32
  ![0, 0, v23.toNat, 0]
def k0_off11 (i : grid0.Coords) : Fin 4 → Nat :=
  let arg0 : BitVec 32 := BitVec.ofNat 32 (i 0).val
  let c2_i32 : BitVec 32 := 2#32
  let c0_i32_4 : BitVec 32 := 0#32
  let v12 : BitVec 1 := Scalar.cmpi .eq c2_i32 c0_i32_4
  let c1_i32_5 : BitVec 32 := 1#32
  let v13 : BitVec 32 := Scalar.select v12 c1_i32_5 c2_i32
  let v14 : BitVec 32 := Scalar.remsi arg0 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_21 : BitVec 32 := 0#32
  let c0_i32_23 : BitVec 32 := 0#32
  let c0_i32_24 : BitVec 32 := 0#32
  ![v21.toNat, 0, 0, 0]
def k0_off12 (i : grid0.Coords) : Fin 2 → Nat :=
  let arg0 : BitVec 32 := BitVec.ofNat 32 (i 0).val
  let c2_i32 : BitVec 32 := 2#32
  let c0_i32_4 : BitVec 32 := 0#32
  let v12 : BitVec 1 := Scalar.cmpi .eq c2_i32 c0_i32_4
  let c1_i32_5 : BitVec 32 := 1#32
  let v13 : BitVec 32 := Scalar.select v12 c1_i32_5 c2_i32
  let v14 : BitVec 32 := Scalar.remsi arg0 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_31 : BitVec 32 := 1#32
  ![v21.toNat, 1]
def k0_off13 (i : grid0.Coords) : Fin 4 → Nat :=
  let arg0 : BitVec 32 := BitVec.ofNat 32 (i 0).val
  let c2_i32 : BitVec 32 := 2#32
  let c0_i32_4 : BitVec 32 := 0#32
  let v12 : BitVec 1 := Scalar.cmpi .eq c2_i32 c0_i32_4
  let c1_i32_5 : BitVec 32 := 1#32
  let v13 : BitVec 32 := Scalar.select v12 c1_i32_5 c2_i32
  let v14 : BitVec 32 := Scalar.remsi arg0 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_30 : BitVec 32 := 1#32
  let c0_i32_32 : BitVec 32 := 0#32
  let c0_i32_33 : BitVec 32 := 0#32
  ![v21.toNat, 1, 0, 0]
def k0_off14 (i : grid0.Coords) : Fin 4 → Nat :=
  let arg0 : BitVec 32 := BitVec.ofNat 32 (i 0).val
  let c2_i32 : BitVec 32 := 2#32
  let c0_i32_4 : BitVec 32 := 0#32
  let v12 : BitVec 1 := Scalar.cmpi .eq c2_i32 c0_i32_4
  let c1_i32_5 : BitVec 32 := 1#32
  let v13 : BitVec 32 := Scalar.select v12 c1_i32_5 c2_i32
  let v14 : BitVec 32 := Scalar.remsi arg0 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_39 : BitVec 32 := 1#32
  let c0_i32_41 : BitVec 32 := 0#32
  let c0_i32_42 : BitVec 32 := 0#32
  ![v21.toNat, 1, 0, 0]
def k0_off15 (i : grid0.Coords) : Fin 4 → Nat :=
  let arg0 : BitVec 32 := BitVec.ofNat 32 (i 0).val
  let c2_i32 : BitVec 32 := 2#32
  let c0_i32_4 : BitVec 32 := 0#32
  let v12 : BitVec 1 := Scalar.cmpi .eq c2_i32 c0_i32_4
  let c1_i32_5 : BitVec 32 := 1#32
  let v13 : BitVec 32 := Scalar.select v12 c1_i32_5 c2_i32
  let v14 : BitVec 32 := Scalar.remsi arg0 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let v66 : Index := Scalar.indexCast v21
  let c0_52 : Index := 0#32
  let c0_53 : Index := 0#32
  let c0_54 : Index := 0#32
  ![v66.toNat, 0, 0, 0]
def k0_off16 (i : grid0.Coords) : Fin 4 → Nat :=
  let arg0 : BitVec 32 := BitVec.ofNat 32 (i 0).val
  let c2_i32 : BitVec 32 := 2#32
  let c0_i32_4 : BitVec 32 := 0#32
  let v12 : BitVec 1 := Scalar.cmpi .eq c2_i32 c0_i32_4
  let c1_i32_5 : BitVec 32 := 1#32
  let v13 : BitVec 32 := Scalar.select v12 c1_i32_5 c2_i32
  let v14 : BitVec 32 := Scalar.remsi arg0 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let v70 : Index := Scalar.indexCast v21
  let c0_55 : Index := 0#32
  let c0_56 : Index := 0#32
  let c0_57 : Index := 0#32
  ![v70.toNat, 0, 0, 0]
def k0_off17 (i : grid0.Coords) (c0_i32_48 : BitVec 32) : Fin 3 → Nat :=
  let arg0 : BitVec 32 := BitVec.ofNat 32 (i 0).val
  let c2_i32_47 : BitVec 32 := 2#32
  let v57 : BitVec 32 := Scalar.muli arg0 c2_i32_47
  let v58 : BitVec 32 := Scalar.addi v57 c0_i32_48
  let v83 : Index := Scalar.indexCast v58
  let c0_61 : Index := 0#32
  let c0_62 : Index := 0#32
  ![v83.toNat, 0, 0]
def k0_off18 (i : grid0.Coords) (c0_i32_48 : BitVec 32) : Fin 3 → Nat :=
  let arg0 : BitVec 32 := BitVec.ofNat 32 (i 0).val
  let c2_i32_47 : BitVec 32 := 2#32
  let v57 : BitVec 32 := Scalar.muli arg0 c2_i32_47
  let v58 : BitVec 32 := Scalar.addi v57 c0_i32_48
  let v87 : Index := Scalar.indexCast v58
  let c129 : Index := 129#32
  let c0_63 : Index := 0#32
  ![v87.toNat, 129, 0]
def k0_off19 (i : grid0.Coords) (c0_i32_48 : BitVec 32) : Fin 3 → Nat :=
  let arg0 : BitVec 32 := BitVec.ofNat 32 (i 0).val
  let c2_i32_47 : BitVec 32 := 2#32
  let v57 : BitVec 32 := Scalar.muli arg0 c2_i32_47
  let v58 : BitVec 32 := Scalar.addi v57 c0_i32_48
  let v87 : Index := Scalar.indexCast v58
  let c0_63 : Index := 0#32
  ![v87.toNat, 128, 0]
def k0_off20 (i : grid0.Coords) (c0_i32_48 : BitVec 32) : Fin 4 → Nat :=
  let c2_i32_71 : BitVec 32 := 2#32
  let arg0 : BitVec 32 := BitVec.ofNat 32 (i 0).val
  let c2_i32_47 : BitVec 32 := 2#32
  let v57 : BitVec 32 := Scalar.muli arg0 c2_i32_47
  let v58 : BitVec 32 := Scalar.addi v57 c0_i32_48
  let c0_i32_76 : BitVec 32 := 0#32
  let c0_i32_77 : BitVec 32 := 0#32
  ![2, v58.toNat, 0, 0]
def k0_off21 (i : grid0.Coords) (d0 : Dev nD) (c0_i32_48 : BitVec 32) (c1_i32_64 : BitVec 32) : Fin 3 → Nat :=
  let arg0 : BitVec 32 := BitVec.ofNat 32 (i 0).val
  let c2_i32_47 : BitVec 32 := 2#32
  let v57 : BitVec 32 := Scalar.muli arg0 c2_i32_47
  let v58 : BitVec 32 := Scalar.addi v57 c0_i32_48
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v91 : BitVec 32 := Scalar.addi v2 c1_i32_64
  let c4_i32_65 : BitVec 32 := 4#32
  let c0_i32_66 : BitVec 32 := 0#32
  let v92 : BitVec 1 := Scalar.cmpi .eq c4_i32_65 c0_i32_66
  let c1_i32_67 : BitVec 32 := 1#32
  let v93 : BitVec 32 := Scalar.select v92 c1_i32_67 c4_i32_65
  let v94 : BitVec 32 := Scalar.remsi v91 v93
  let c0_i32_69 : BitVec 32 := 0#32
  let v96 : BitVec 1 := Scalar.cmpi .slt v94 c0_i32_69
  let c0_i32_70 : BitVec 32 := 0#32
  let v97 : BitVec 1 := Scalar.cmpi .slt v93 c0_i32_70
  let v98 : BitVec 1 := Scalar.xori v96 v97
  let c0_i32_68 : BitVec 32 := 0#32
  let v95 : BitVec 1 := Scalar.cmpi .ne v94 c0_i32_68
  let v99 : BitVec 1 := Scalar.andi v98 v95
  let v100 : BitVec 32 := Scalar.addi v94 v93
  let v101 : BitVec 32 := Scalar.select v99 v100 v94
  let c128_i32 : BitVec 32 := 128#32
  let v102 : BitVec 32 := Scalar.muli v101 c128_i32
  ![v58.toNat, 0, v102.toNat]
def k0_dev4 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_64 : BitVec 32 := 1#32
  let v91 : BitVec 32 := Scalar.addi v2 c1_i32_64
  let c4_i32_65 : BitVec 32 := 4#32
  let c0_i32_66 : BitVec 32 := 0#32
  let v92 : BitVec 1 := Scalar.cmpi .eq c4_i32_65 c0_i32_66
  let c1_i32_67 : BitVec 32 := 1#32
  let v93 : BitVec 32 := Scalar.select v92 c1_i32_67 c4_i32_65
  let v94 : BitVec 32 := Scalar.remsi v91 v93
  let c0_i32_69 : BitVec 32 := 0#32
  let v96 : BitVec 1 := Scalar.cmpi .slt v94 c0_i32_69
  let c0_i32_70 : BitVec 32 := 0#32
  let v97 : BitVec 1 := Scalar.cmpi .slt v93 c0_i32_70
  let v98 : BitVec 1 := Scalar.xori v96 v97
  let c0_i32_68 : BitVec 32 := 0#32
  let v95 : BitVec 1 := Scalar.cmpi .ne v94 c0_i32_68
  let v99 : BitVec 1 := Scalar.andi v98 v95
  let v100 : BitVec 32 := Scalar.addi v94 v93
  let v101 : BitVec 32 := Scalar.select v99 v100 v94
  let c1_i32_74 : BitVec 32 := 1#32
  let v103 : BitVec 32 := Scalar.muli v101 c1_i32_74
  let v104 : BitVec 32 := Scalar.addi c0_i32_75 v103
  v104.toNat
def k0_off22 (i : grid0.Coords) (c0_i32_48 : BitVec 32) : Fin 4 → Nat :=
  let c1_i32_87 : BitVec 32 := 1#32
  let arg0 : BitVec 32 := BitVec.ofNat 32 (i 0).val
  let c2_i32_47 : BitVec 32 := 2#32
  let v57 : BitVec 32 := Scalar.muli arg0 c2_i32_47
  let v58 : BitVec 32 := Scalar.addi v57 c0_i32_48
  let c0_i32_92 : BitVec 32 := 0#32
  let c0_i32_93 : BitVec 32 := 0#32
  ![1, v58.toNat, 0, 0]
def k0_dev5 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_79 : BitVec 32 := 2#32
  let v113 : BitVec 32 := Scalar.addi v2 c2_i32_79
  let c4_i32_80 : BitVec 32 := 4#32
  let c0_i32_81 : BitVec 32 := 0#32
  let v114 : BitVec 1 := Scalar.cmpi .eq c4_i32_80 c0_i32_81
  let c1_i32_82 : BitVec 32 := 1#32
  let v115 : BitVec 32 := Scalar.select v114 c1_i32_82 c4_i32_80
  let v116 : BitVec 32 := Scalar.remsi v113 v115
  let c0_i32_84 : BitVec 32 := 0#32
  let v118 : BitVec 1 := Scalar.cmpi .slt v116 c0_i32_84
  let c0_i32_85 : BitVec 32 := 0#32
  let v119 : BitVec 1 := Scalar.cmpi .slt v115 c0_i32_85
  let v120 : BitVec 1 := Scalar.xori v118 v119
  let c0_i32_83 : BitVec 32 := 0#32
  let v117 : BitVec 1 := Scalar.cmpi .ne v116 c0_i32_83
  let v121 : BitVec 1 := Scalar.andi v120 v117
  let v122 : BitVec 32 := Scalar.addi v116 v115
  let v123 : BitVec 32 := Scalar.select v121 v122 v116
  let c1_i32_90 : BitVec 32 := 1#32
  let v125 : BitVec 32 := Scalar.muli v123 c1_i32_90
  let v126 : BitVec 32 := Scalar.addi c0_i32_91 v125
  v126.toNat
def k0_off23 (i : grid0.Coords) (c0_i32_48 : BitVec 32) : Fin 4 → Nat :=
  let c0_i32_103 : BitVec 32 := 0#32
  let arg0 : BitVec 32 := BitVec.ofNat 32 (i 0).val
  let c2_i32_47 : BitVec 32 := 2#32
  let v57 : BitVec 32 := Scalar.muli arg0 c2_i32_47
  let v58 : BitVec 32 := Scalar.addi v57 c0_i32_48
  let c0_i32_108 : BitVec 32 := 0#32
  let c0_i32_109 : BitVec 32 := 0#32
  ![0, v58.toNat, 0, 0]
def k0_dev6 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_95 : BitVec 32 := 3#32
  let v135 : BitVec 32 := Scalar.addi v2 c3_i32_95
  let c4_i32_96 : BitVec 32 := 4#32
  let c0_i32_97 : BitVec 32 := 0#32
  let v136 : BitVec 1 := Scalar.cmpi .eq c4_i32_96 c0_i32_97
  let c1_i32_98 : BitVec 32 := 1#32
  let v137 : BitVec 32 := Scalar.select v136 c1_i32_98 c4_i32_96
  let v138 : BitVec 32 := Scalar.remsi v135 v137
  let c0_i32_100 : BitVec 32 := 0#32
  let v140 : BitVec 1 := Scalar.cmpi .slt v138 c0_i32_100
  let c0_i32_101 : BitVec 32 := 0#32
  let v141 : BitVec 1 := Scalar.cmpi .slt v137 c0_i32_101
  let v142 : BitVec 1 := Scalar.xori v140 v141
  let c0_i32_99 : BitVec 32 := 0#32
  let v139 : BitVec 1 := Scalar.cmpi .ne v138 c0_i32_99
  let v143 : BitVec 1 := Scalar.andi v142 v139
  let v144 : BitVec 32 := Scalar.addi v138 v137
  let v145 : BitVec 32 := Scalar.select v143 v144 v138
  let c1_i32_106 : BitVec 32 := 1#32
  let v147 : BitVec 32 := Scalar.muli v145 c1_i32_106
  let v148 : BitVec 32 := Scalar.addi c0_i32_107 v147
  v148.toNat
def k0_off24 (i : grid0.Coords) : Fin 4 → Nat :=
  let arg0 : BitVec 32 := BitVec.ofNat 32 (i 0).val
  let c2_i32 : BitVec 32 := 2#32
  let c0_i32_4 : BitVec 32 := 0#32
  let v12 : BitVec 1 := Scalar.cmpi .eq c2_i32 c0_i32_4
  let c1_i32_5 : BitVec 32 := 1#32
  let v13 : BitVec 32 := Scalar.select v12 c1_i32_5 c2_i32
  let v14 : BitVec 32 := Scalar.remsi arg0 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let v166 : Index := Scalar.indexCast v21
  let c1 : Index := 1#32
  let c0_116 : Index := 0#32
  let c0_117 : Index := 0#32
  ![v166.toNat, 1, 0, 0]
def k0_off25 (i : grid0.Coords) : Fin 4 → Nat :=
  let arg0 : BitVec 32 := BitVec.ofNat 32 (i 0).val
  let c2_i32 : BitVec 32 := 2#32
  let c0_i32_4 : BitVec 32 := 0#32
  let v12 : BitVec 1 := Scalar.cmpi .eq c2_i32 c0_i32_4
  let c1_i32_5 : BitVec 32 := 1#32
  let v13 : BitVec 32 := Scalar.select v12 c1_i32_5 c2_i32
  let v14 : BitVec 32 := Scalar.remsi arg0 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let v170 : Index := Scalar.indexCast v21
  let c1_118 : Index := 1#32
  let c0_119 : Index := 0#32
  let c0_120 : Index := 0#32
  ![v170.toNat, 1, 0, 0]
def k0_dev7 (d0 : Dev nD) : Nat :=
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_128 : BitVec 32 := 1#32
  let v191 : BitVec 32 := Scalar.addi v2 c1_i32_128
  let c4_i32_129 : BitVec 32 := 4#32
  let c0_i32_130 : BitVec 32 := 0#32
  let v192 : BitVec 1 := Scalar.cmpi .eq c4_i32_129 c0_i32_130
  let c1_i32_131 : BitVec 32 := 1#32
  let v193 : BitVec 32 := Scalar.select v192 c1_i32_131 c4_i32_129
  let v194 : BitVec 32 := Scalar.remsi v191 v193
  let c0_i32_133 : BitVec 32 := 0#32
  let v196 : BitVec 1 := Scalar.cmpi .slt v194 c0_i32_133
  let c0_i32_134 : BitVec 32 := 0#32
  let v197 : BitVec 1 := Scalar.cmpi .slt v193 c0_i32_134
  let v198 : BitVec 1 := Scalar.xori v196 v197
  let c0_i32_132 : BitVec 32 := 0#32
  let v195 : BitVec 1 := Scalar.cmpi .ne v194 c0_i32_132
  let v199 : BitVec 1 := Scalar.andi v198 v195
  let v200 : BitVec 32 := Scalar.addi v194 v193
  let v201 : BitVec 32 := Scalar.select v199 v200 v194
  let c1_i32_139 : BitVec 32 := 1#32
  let v203 : BitVec 32 := Scalar.muli v201 c1_i32_139
  let v204 : BitVec 32 := Scalar.addi c0_i32_140 v203
  v204.toNat
def k0_dev8 (d0 : Dev nD) : Nat :=
  let c0_i32_156 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_144 : BitVec 32 := 2#32
  let v213 : BitVec 32 := Scalar.addi v2 c2_i32_144
  let c4_i32_145 : BitVec 32 := 4#32
  let c0_i32_146 : BitVec 32 := 0#32
  let v214 : BitVec 1 := Scalar.cmpi .eq c4_i32_145 c0_i32_146
  let c1_i32_147 : BitVec 32 := 1#32
  let v215 : BitVec 32 := Scalar.select v214 c1_i32_147 c4_i32_145
  let v216 : BitVec 32 := Scalar.remsi v213 v215
  let c0_i32_149 : BitVec 32 := 0#32
  let v218 : BitVec 1 := Scalar.cmpi .slt v216 c0_i32_149
  let c0_i32_150 : BitVec 32 := 0#32
  let v219 : BitVec 1 := Scalar.cmpi .slt v215 c0_i32_150
  let v220 : BitVec 1 := Scalar.xori v218 v219
  let c0_i32_148 : BitVec 32 := 0#32
  let v217 : BitVec 1 := Scalar.cmpi .ne v216 c0_i32_148
  let v221 : BitVec 1 := Scalar.andi v220 v217
  let v222 : BitVec 32 := Scalar.addi v216 v215
  let v223 : BitVec 32 := Scalar.select v221 v222 v216
  let c1_i32_155 : BitVec 32 := 1#32
  let v225 : BitVec 32 := Scalar.muli v223 c1_i32_155
  let v226 : BitVec 32 := Scalar.addi c0_i32_156 v225
  v226.toNat
def k0_dev9 (d0 : Dev nD) : Nat :=
  let c0_i32_172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_160 : BitVec 32 := 3#32
  let v235 : BitVec 32 := Scalar.addi v2 c3_i32_160
  let c4_i32_161 : BitVec 32 := 4#32
  let c0_i32_162 : BitVec 32 := 0#32
  let v236 : BitVec 1 := Scalar.cmpi .eq c4_i32_161 c0_i32_162
  let c1_i32_163 : BitVec 32 := 1#32
  let v237 : BitVec 32 := Scalar.select v236 c1_i32_163 c4_i32_161
  let v238 : BitVec 32 := Scalar.remsi v235 v237
  let c0_i32_165 : BitVec 32 := 0#32
  let v240 : BitVec 1 := Scalar.cmpi .slt v238 c0_i32_165
  let c0_i32_166 : BitVec 32 := 0#32
  let v241 : BitVec 1 := Scalar.cmpi .slt v237 c0_i32_166
  let v242 : BitVec 1 := Scalar.xori v240 v241
  let c0_i32_164 : BitVec 32 := 0#32
  let v239 : BitVec 1 := Scalar.cmpi .ne v238 c0_i32_164
  let v243 : BitVec 1 := Scalar.andi v242 v239
  let v244 : BitVec 32 := Scalar.addi v238 v237
  let v245 : BitVec 32 := Scalar.select v243 v244 v238
  let c1_i32_171 : BitVec 32 := 1#32
  let v247 : BitVec 32 := Scalar.muli v245 c1_i32_171
  let v248 : BitVec 32 := Scalar.addi c0_i32_172 v247
  v248.toNat
def k0_cond4 (i : grid0.Coords) : BitVec 1 :=
  let arg0 : BitVec 32 := BitVec.ofNat 32 (i 0).val
  let c3_i32_176 : BitVec 32 := 3#32
  let v257 : BitVec 1 := Scalar.cmpi .eq arg0 c3_i32_176
  let v258 : BitVec 32 := Scalar.extui v257
  let c0_i32_177 : BitVec 32 := 0#32
  let v259 : BitVec 1 := Scalar.cmpi .ne v258 c0_i32_177
  v259

def k0_off26 (d0 : Dev nD) : Fin 3 → Nat :=
  let c0_i32_179 : BitVec 32 := 0#32
  let c0_i32_180 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_178 : BitVec 32 := 128#32
  let v260 : BitVec 32 := Scalar.muli v2 c128_i32_178
  ![0, 0, v260.toNat]
def k0_off27 (d0 : Dev nD) : Fin 3 → Nat :=
  let c0_i32_184 : BitVec 32 := 0#32
  let c0_i32_193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_183 : BitVec 32 := 128#32
  let v263 : BitVec 32 := Scalar.muli v2 c128_i32_183
  ![0, 0, v263.toNat]
def k0_off28 (d0 : Dev nD) : Fin 3 → Nat :=
  let c1_i32_195 : BitVec 32 := 1#32
  let c0_i32_204 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_194 : BitVec 32 := 128#32
  let v272 : BitVec 32 := Scalar.muli v2 c128_i32_194
  ![1, 0, v272.toNat]
def k0_off29 (d0 : Dev nD) : Fin 3 → Nat :=
  let c2_i32_206 : BitVec 32 := 2#32
  let c0_i32_215 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_205 : BitVec 32 := 128#32
  let v281 : BitVec 32 := Scalar.muli v2 c128_i32_205
  ![2, 0, v281.toNat]
def k0_off30 (d0 : Dev nD) : Fin 3 → Nat :=
  let c3_i32_217 : BitVec 32 := 3#32
  let c0_i32_226 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_216 : BitVec 32 := 128#32
  let v290 : BitVec 32 := Scalar.muli v2 c128_i32_216
  ![3, 0, v290.toNat]
def k0_off31 (d0 : Dev nD) : Fin 3 → Nat :=
  let c4_i32_228 : BitVec 32 := 4#32
  let c0_i32_237 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_227 : BitVec 32 := 128#32
  let v299 : BitVec 32 := Scalar.muli v2 c128_i32_227
  ![4, 0, v299.toNat]
def k0_off32 (d0 : Dev nD) : Fin 3 → Nat :=
  let c5_i32 : BitVec 32 := 5#32
  let c0_i32_247 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_238 : BitVec 32 := 128#32
  let v308 : BitVec 32 := Scalar.muli v2 c128_i32_238
  ![5, 0, v308.toNat]
def k0_off33 (d0 : Dev nD) : Fin 3 → Nat :=
  let c6_i32 : BitVec 32 := 6#32
  let c0_i32_257 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_248 : BitVec 32 := 128#32
  let v317 : BitVec 32 := Scalar.muli v2 c128_i32_248
  ![6, 0, v317.toNat]
def k0_off34 (d0 : Dev nD) : Fin 3 → Nat :=
  let c7_i32 : BitVec 32 := 7#32
  let c0_i32_267 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_258 : BitVec 32 := 128#32
  let v326 : BitVec 32 := Scalar.muli v2 c128_i32_258
  ![7, 0, v326.toNat]
def k0_off35 (d0 : Dev nD) : Fin 3 → Nat :=
  let c0_1090 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_1089 : BitVec 32 := 128#32
  let v1267 : BitVec 32 := Scalar.muli v2 c128_i32_1089
  let v1268 : Index := Scalar.indexCast v1267
  let c0_1091 : Index := 0#32
  ![0, v1268.toNat, 0]
def k0_dev10 (d0 : Dev nD) : Nat :=
  let c0_i32_1105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1094 : BitVec 32 := 1#32
  let v1276 : BitVec 32 := Scalar.addi v2 c1_i32_1094
  let c4_i32_1095 : BitVec 32 := 4#32
  let c0_i32_1096 : BitVec 32 := 0#32
  let v1277 : BitVec 1 := Scalar.cmpi .eq c4_i32_1095 c0_i32_1096
  let c1_i32_1097 : BitVec 32 := 1#32
  let v1278 : BitVec 32 := Scalar.select v1277 c1_i32_1097 c4_i32_1095
  let v1279 : BitVec 32 := Scalar.remsi v1276 v1278
  let c0_i32_1099 : BitVec 32 := 0#32
  let v1281 : BitVec 1 := Scalar.cmpi .slt v1279 c0_i32_1099
  let c0_i32_1100 : BitVec 32 := 0#32
  let v1282 : BitVec 1 := Scalar.cmpi .slt v1278 c0_i32_1100
  let v1283 : BitVec 1 := Scalar.xori v1281 v1282
  let c0_i32_1098 : BitVec 32 := 0#32
  let v1280 : BitVec 1 := Scalar.cmpi .ne v1279 c0_i32_1098
  let v1284 : BitVec 1 := Scalar.andi v1283 v1280
  let v1285 : BitVec 32 := Scalar.addi v1279 v1278
  let v1286 : BitVec 32 := Scalar.select v1284 v1285 v1279
  let c1_i32_1104 : BitVec 32 := 1#32
  let v1287 : BitVec 32 := Scalar.muli v1286 c1_i32_1104
  let v1288 : BitVec 32 := Scalar.addi c0_i32_1105 v1287
  v1288.toNat
def k0_dev11 (d0 : Dev nD) : Nat :=
  let c0_i32_1119 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1108 : BitVec 32 := 2#32
  let v1295 : BitVec 32 := Scalar.addi v2 c2_i32_1108
  let c4_i32_1109 : BitVec 32 := 4#32
  let c0_i32_1110 : BitVec 32 := 0#32
  let v1296 : BitVec 1 := Scalar.cmpi .eq c4_i32_1109 c0_i32_1110
  let c1_i32_1111 : BitVec 32 := 1#32
  let v1297 : BitVec 32 := Scalar.select v1296 c1_i32_1111 c4_i32_1109
  let v1298 : BitVec 32 := Scalar.remsi v1295 v1297
  let c0_i32_1113 : BitVec 32 := 0#32
  let v1300 : BitVec 1 := Scalar.cmpi .slt v1298 c0_i32_1113
  let c0_i32_1114 : BitVec 32 := 0#32
  let v1301 : BitVec 1 := Scalar.cmpi .slt v1297 c0_i32_1114
  let v1302 : BitVec 1 := Scalar.xori v1300 v1301
  let c0_i32_1112 : BitVec 32 := 0#32
  let v1299 : BitVec 1 := Scalar.cmpi .ne v1298 c0_i32_1112
  let v1303 : BitVec 1 := Scalar.andi v1302 v1299
  let v1304 : BitVec 32 := Scalar.addi v1298 v1297
  let v1305 : BitVec 32 := Scalar.select v1303 v1304 v1298
  let c1_i32_1118 : BitVec 32 := 1#32
  let v1306 : BitVec 32 := Scalar.muli v1305 c1_i32_1118
  let v1307 : BitVec 32 := Scalar.addi c0_i32_1119 v1306
  v1307.toNat
def k0_dev12 (d0 : Dev nD) : Nat :=
  let c0_i32_1133 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1122 : BitVec 32 := 3#32
  let v1314 : BitVec 32 := Scalar.addi v2 c3_i32_1122
  let c4_i32_1123 : BitVec 32 := 4#32
  let c0_i32_1124 : BitVec 32 := 0#32
  let v1315 : BitVec 1 := Scalar.cmpi .eq c4_i32_1123 c0_i32_1124
  let c1_i32_1125 : BitVec 32 := 1#32
  let v1316 : BitVec 32 := Scalar.select v1315 c1_i32_1125 c4_i32_1123
  let v1317 : BitVec 32 := Scalar.remsi v1314 v1316
  let c0_i32_1127 : BitVec 32 := 0#32
  let v1319 : BitVec 1 := Scalar.cmpi .slt v1317 c0_i32_1127
  let c0_i32_1128 : BitVec 32 := 0#32
  let v1320 : BitVec 1 := Scalar.cmpi .slt v1316 c0_i32_1128
  let v1321 : BitVec 1 := Scalar.xori v1319 v1320
  let c0_i32_1126 : BitVec 32 := 0#32
  let v1318 : BitVec 1 := Scalar.cmpi .ne v1317 c0_i32_1126
  let v1322 : BitVec 1 := Scalar.andi v1321 v1318
  let v1323 : BitVec 32 := Scalar.addi v1317 v1316
  let v1324 : BitVec 32 := Scalar.select v1322 v1323 v1317
  let c1_i32_1132 : BitVec 32 := 1#32
  let v1325 : BitVec 32 := Scalar.muli v1324 c1_i32_1132
  let v1326 : BitVec 32 := Scalar.addi c0_i32_1133 v1325
  v1326.toNat
def k0_off36 (d0 : Dev nD) (c0_i32_1144 : BitVec 32) : Fin 3 → Nat :=
  let c0_1155 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1143 : BitVec 32 := 1#32
  let v1339 : BitVec 32 := Scalar.addi v2 c1_i32_1143
  let v1340 : BitVec 32 := Scalar.addi v1339 c0_i32_1144
  let c4_i32_1145 : BitVec 32 := 4#32
  let c0_i32_1146 : BitVec 32 := 0#32
  let v1341 : BitVec 1 := Scalar.cmpi .eq c4_i32_1145 c0_i32_1146
  let c1_i32_1147 : BitVec 32 := 1#32
  let v1342 : BitVec 32 := Scalar.select v1341 c1_i32_1147 c4_i32_1145
  let v1343 : BitVec 32 := Scalar.remsi v1340 v1342
  let c0_i32_1149 : BitVec 32 := 0#32
  let v1345 : BitVec 1 := Scalar.cmpi .slt v1343 c0_i32_1149
  let c0_i32_1150 : BitVec 32 := 0#32
  let v1346 : BitVec 1 := Scalar.cmpi .slt v1342 c0_i32_1150
  let v1347 : BitVec 1 := Scalar.xori v1345 v1346
  let c0_i32_1148 : BitVec 32 := 0#32
  let v1344 : BitVec 1 := Scalar.cmpi .ne v1343 c0_i32_1148
  let v1348 : BitVec 1 := Scalar.andi v1347 v1344
  let v1349 : BitVec 32 := Scalar.addi v1343 v1342
  let v1350 : BitVec 32 := Scalar.select v1348 v1349 v1343
  let c128_i32_1154 : BitVec 32 := 128#32
  let v1354 : BitVec 32 := Scalar.muli v1350 c128_i32_1154
  let v1355 : Index := Scalar.indexCast v1354
  let c0_1156 : Index := 0#32
  ![0, v1355.toNat, 0]
def k0_off37 (d0 : Dev nD) (c1_i32_1199 : BitVec 32) : Fin 3 → Nat :=
  let c0_i32_1209 : BitVec 32 := 0#32
  let c0_i32_1213 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1411 : BitVec 32 := Scalar.addi v2 c1_i32_1199
  let c4_i32_1200 : BitVec 32 := 4#32
  let c0_i32_1201 : BitVec 32 := 0#32
  let v1412 : BitVec 1 := Scalar.cmpi .eq c4_i32_1200 c0_i32_1201
  let c1_i32_1202 : BitVec 32 := 1#32
  let v1413 : BitVec 32 := Scalar.select v1412 c1_i32_1202 c4_i32_1200
  let v1414 : BitVec 32 := Scalar.remsi v1411 v1413
  let c0_i32_1204 : BitVec 32 := 0#32
  let v1416 : BitVec 1 := Scalar.cmpi .slt v1414 c0_i32_1204
  let c0_i32_1205 : BitVec 32 := 0#32
  let v1417 : BitVec 1 := Scalar.cmpi .slt v1413 c0_i32_1205
  let v1418 : BitVec 1 := Scalar.xori v1416 v1417
  let c0_i32_1203 : BitVec 32 := 0#32
  let v1415 : BitVec 1 := Scalar.cmpi .ne v1414 c0_i32_1203
  let v1419 : BitVec 1 := Scalar.andi v1418 v1415
  let v1420 : BitVec 32 := Scalar.addi v1414 v1413
  let v1421 : BitVec 32 := Scalar.select v1419 v1420 v1414
  let c128_i32_1206 : BitVec 32 := 128#32
  let v1422 : BitVec 32 := Scalar.muli v1421 c128_i32_1206
  ![0, 0, v1422.toNat]
def k0_off38 (d0 : Dev nD) (c1_i32_1199 : BitVec 32) : Fin 3 → Nat :=
  let c1_i32_1219 : BitVec 32 := 1#32
  let c0_i32_1223 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1411 : BitVec 32 := Scalar.addi v2 c1_i32_1199
  let c4_i32_1200 : BitVec 32 := 4#32
  let c0_i32_1201 : BitVec 32 := 0#32
  let v1412 : BitVec 1 := Scalar.cmpi .eq c4_i32_1200 c0_i32_1201
  let c1_i32_1202 : BitVec 32 := 1#32
  let v1413 : BitVec 32 := Scalar.select v1412 c1_i32_1202 c4_i32_1200
  let v1414 : BitVec 32 := Scalar.remsi v1411 v1413
  let c0_i32_1204 : BitVec 32 := 0#32
  let v1416 : BitVec 1 := Scalar.cmpi .slt v1414 c0_i32_1204
  let c0_i32_1205 : BitVec 32 := 0#32
  let v1417 : BitVec 1 := Scalar.cmpi .slt v1413 c0_i32_1205
  let v1418 : BitVec 1 := Scalar.xori v1416 v1417
  let c0_i32_1203 : BitVec 32 := 0#32
  let v1415 : BitVec 1 := Scalar.cmpi .ne v1414 c0_i32_1203
  let v1419 : BitVec 1 := Scalar.andi v1418 v1415
  let v1420 : BitVec 32 := Scalar.addi v1414 v1413
  let v1421 : BitVec 32 := Scalar.select v1419 v1420 v1414
  let c128_i32_1216 : BitVec 32 := 128#32
  let v1429 : BitVec 32 := Scalar.muli v1421 c128_i32_1216
  ![1, 0, v1429.toNat]
def k0_off39 (d0 : Dev nD) (c1_i32_1199 : BitVec 32) : Fin 3 → Nat :=
  let c2_i32_1229 : BitVec 32 := 2#32
  let c0_i32_1233 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1411 : BitVec 32 := Scalar.addi v2 c1_i32_1199
  let c4_i32_1200 : BitVec 32 := 4#32
  let c0_i32_1201 : BitVec 32 := 0#32
  let v1412 : BitVec 1 := Scalar.cmpi .eq c4_i32_1200 c0_i32_1201
  let c1_i32_1202 : BitVec 32 := 1#32
  let v1413 : BitVec 32 := Scalar.select v1412 c1_i32_1202 c4_i32_1200
  let v1414 : BitVec 32 := Scalar.remsi v1411 v1413
  let c0_i32_1204 : BitVec 32 := 0#32
  let v1416 : BitVec 1 := Scalar.cmpi .slt v1414 c0_i32_1204
  let c0_i32_1205 : BitVec 32 := 0#32
  let v1417 : BitVec 1 := Scalar.cmpi .slt v1413 c0_i32_1205
  let v1418 : BitVec 1 := Scalar.xori v1416 v1417
  let c0_i32_1203 : BitVec 32 := 0#32
  let v1415 : BitVec 1 := Scalar.cmpi .ne v1414 c0_i32_1203
  let v1419 : BitVec 1 := Scalar.andi v1418 v1415
  let v1420 : BitVec 32 := Scalar.addi v1414 v1413
  let v1421 : BitVec 32 := Scalar.select v1419 v1420 v1414
  let c128_i32_1226 : BitVec 32 := 128#32
  let v1436 : BitVec 32 := Scalar.muli v1421 c128_i32_1226
  ![2, 0, v1436.toNat]
def k0_off40 (d0 : Dev nD) (c1_i32_1199 : BitVec 32) : Fin 3 → Nat :=
  let c3_i32_1239 : BitVec 32 := 3#32
  let c0_i32_1243 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1411 : BitVec 32 := Scalar.addi v2 c1_i32_1199
  let c4_i32_1200 : BitVec 32 := 4#32
  let c0_i32_1201 : BitVec 32 := 0#32
  let v1412 : BitVec 1 := Scalar.cmpi .eq c4_i32_1200 c0_i32_1201
  let c1_i32_1202 : BitVec 32 := 1#32
  let v1413 : BitVec 32 := Scalar.select v1412 c1_i32_1202 c4_i32_1200
  let v1414 : BitVec 32 := Scalar.remsi v1411 v1413
  let c0_i32_1204 : BitVec 32 := 0#32
  let v1416 : BitVec 1 := Scalar.cmpi .slt v1414 c0_i32_1204
  let c0_i32_1205 : BitVec 32 := 0#32
  let v1417 : BitVec 1 := Scalar.cmpi .slt v1413 c0_i32_1205
  let v1418 : BitVec 1 := Scalar.xori v1416 v1417
  let c0_i32_1203 : BitVec 32 := 0#32
  let v1415 : BitVec 1 := Scalar.cmpi .ne v1414 c0_i32_1203
  let v1419 : BitVec 1 := Scalar.andi v1418 v1415
  let v1420 : BitVec 32 := Scalar.addi v1414 v1413
  let v1421 : BitVec 32 := Scalar.select v1419 v1420 v1414
  let c128_i32_1236 : BitVec 32 := 128#32
  let v1443 : BitVec 32 := Scalar.muli v1421 c128_i32_1236
  ![3, 0, v1443.toNat]
def k0_off41 (d0 : Dev nD) (c1_i32_1199 : BitVec 32) : Fin 3 → Nat :=
  let c4_i32_1249 : BitVec 32 := 4#32
  let c0_i32_1253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1411 : BitVec 32 := Scalar.addi v2 c1_i32_1199
  let c4_i32_1200 : BitVec 32 := 4#32
  let c0_i32_1201 : BitVec 32 := 0#32
  let v1412 : BitVec 1 := Scalar.cmpi .eq c4_i32_1200 c0_i32_1201
  let c1_i32_1202 : BitVec 32 := 1#32
  let v1413 : BitVec 32 := Scalar.select v1412 c1_i32_1202 c4_i32_1200
  let v1414 : BitVec 32 := Scalar.remsi v1411 v1413
  let c0_i32_1204 : BitVec 32 := 0#32
  let v1416 : BitVec 1 := Scalar.cmpi .slt v1414 c0_i32_1204
  let c0_i32_1205 : BitVec 32 := 0#32
  let v1417 : BitVec 1 := Scalar.cmpi .slt v1413 c0_i32_1205
  let v1418 : BitVec 1 := Scalar.xori v1416 v1417
  let c0_i32_1203 : BitVec 32 := 0#32
  let v1415 : BitVec 1 := Scalar.cmpi .ne v1414 c0_i32_1203
  let v1419 : BitVec 1 := Scalar.andi v1418 v1415
  let v1420 : BitVec 32 := Scalar.addi v1414 v1413
  let v1421 : BitVec 32 := Scalar.select v1419 v1420 v1414
  let c128_i32_1246 : BitVec 32 := 128#32
  let v1450 : BitVec 32 := Scalar.muli v1421 c128_i32_1246
  ![4, 0, v1450.toNat]
def k0_off42 (d0 : Dev nD) (c1_i32_1199 : BitVec 32) : Fin 3 → Nat :=
  let c5_i32_1259 : BitVec 32 := 5#32
  let c0_i32_1263 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1411 : BitVec 32 := Scalar.addi v2 c1_i32_1199
  let c4_i32_1200 : BitVec 32 := 4#32
  let c0_i32_1201 : BitVec 32 := 0#32
  let v1412 : BitVec 1 := Scalar.cmpi .eq c4_i32_1200 c0_i32_1201
  let c1_i32_1202 : BitVec 32 := 1#32
  let v1413 : BitVec 32 := Scalar.select v1412 c1_i32_1202 c4_i32_1200
  let v1414 : BitVec 32 := Scalar.remsi v1411 v1413
  let c0_i32_1204 : BitVec 32 := 0#32
  let v1416 : BitVec 1 := Scalar.cmpi .slt v1414 c0_i32_1204
  let c0_i32_1205 : BitVec 32 := 0#32
  let v1417 : BitVec 1 := Scalar.cmpi .slt v1413 c0_i32_1205
  let v1418 : BitVec 1 := Scalar.xori v1416 v1417
  let c0_i32_1203 : BitVec 32 := 0#32
  let v1415 : BitVec 1 := Scalar.cmpi .ne v1414 c0_i32_1203
  let v1419 : BitVec 1 := Scalar.andi v1418 v1415
  let v1420 : BitVec 32 := Scalar.addi v1414 v1413
  let v1421 : BitVec 32 := Scalar.select v1419 v1420 v1414
  let c128_i32_1256 : BitVec 32 := 128#32
  let v1457 : BitVec 32 := Scalar.muli v1421 c128_i32_1256
  ![5, 0, v1457.toNat]
def k0_off43 (d0 : Dev nD) (c1_i32_1199 : BitVec 32) : Fin 3 → Nat :=
  let c6_i32_1269 : BitVec 32 := 6#32
  let c0_i32_1273 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1411 : BitVec 32 := Scalar.addi v2 c1_i32_1199
  let c4_i32_1200 : BitVec 32 := 4#32
  let c0_i32_1201 : BitVec 32 := 0#32
  let v1412 : BitVec 1 := Scalar.cmpi .eq c4_i32_1200 c0_i32_1201
  let c1_i32_1202 : BitVec 32 := 1#32
  let v1413 : BitVec 32 := Scalar.select v1412 c1_i32_1202 c4_i32_1200
  let v1414 : BitVec 32 := Scalar.remsi v1411 v1413
  let c0_i32_1204 : BitVec 32 := 0#32
  let v1416 : BitVec 1 := Scalar.cmpi .slt v1414 c0_i32_1204
  let c0_i32_1205 : BitVec 32 := 0#32
  let v1417 : BitVec 1 := Scalar.cmpi .slt v1413 c0_i32_1205
  let v1418 : BitVec 1 := Scalar.xori v1416 v1417
  let c0_i32_1203 : BitVec 32 := 0#32
  let v1415 : BitVec 1 := Scalar.cmpi .ne v1414 c0_i32_1203
  let v1419 : BitVec 1 := Scalar.andi v1418 v1415
  let v1420 : BitVec 32 := Scalar.addi v1414 v1413
  let v1421 : BitVec 32 := Scalar.select v1419 v1420 v1414
  let c128_i32_1266 : BitVec 32 := 128#32
  let v1464 : BitVec 32 := Scalar.muli v1421 c128_i32_1266
  ![6, 0, v1464.toNat]
def k0_off44 (d0 : Dev nD) (c1_i32_1199 : BitVec 32) : Fin 3 → Nat :=
  let c7_i32_1279 : BitVec 32 := 7#32
  let c0_i32_1283 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1411 : BitVec 32 := Scalar.addi v2 c1_i32_1199
  let c4_i32_1200 : BitVec 32 := 4#32
  let c0_i32_1201 : BitVec 32 := 0#32
  let v1412 : BitVec 1 := Scalar.cmpi .eq c4_i32_1200 c0_i32_1201
  let c1_i32_1202 : BitVec 32 := 1#32
  let v1413 : BitVec 32 := Scalar.select v1412 c1_i32_1202 c4_i32_1200
  let v1414 : BitVec 32 := Scalar.remsi v1411 v1413
  let c0_i32_1204 : BitVec 32 := 0#32
  let v1416 : BitVec 1 := Scalar.cmpi .slt v1414 c0_i32_1204
  let c0_i32_1205 : BitVec 32 := 0#32
  let v1417 : BitVec 1 := Scalar.cmpi .slt v1413 c0_i32_1205
  let v1418 : BitVec 1 := Scalar.xori v1416 v1417
  let c0_i32_1203 : BitVec 32 := 0#32
  let v1415 : BitVec 1 := Scalar.cmpi .ne v1414 c0_i32_1203
  let v1419 : BitVec 1 := Scalar.andi v1418 v1415
  let v1420 : BitVec 32 := Scalar.addi v1414 v1413
  let v1421 : BitVec 32 := Scalar.select v1419 v1420 v1414
  let c128_i32_1276 : BitVec 32 := 128#32
  let v1471 : BitVec 32 := Scalar.muli v1421 c128_i32_1276
  ![7, 0, v1471.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1x512x1024 : Shape := ⟨3, ![1, 512, 1024]⟩
abbrev S1024x1024 : Shape := ⟨2, ![1024, 1024]⟩
abbrev S1x8192x8x128 : Shape := ⟨4, ![1, 8192, 8, 128]⟩
abbrev S1x512x8x128 : Shape := ⟨4, ![1, 512, 8, 128]⟩
abbrev S1x8x512x8192 : Shape := ⟨4, ![1, 8, 512, 8192]⟩
abbrev S_ : Shape := ⟨0, ![]⟩
abbrev S1x8x512 : Shape := ⟨3, ![1, 8, 512]⟩
abbrev S1x8x512x1 : Shape := ⟨4, ![1, 8, 512, 1]⟩
abbrev S1x8x128x512 : Shape := ⟨4, ![1, 8, 128, 512]⟩
abbrev S1x512x8x1 : Shape := ⟨4, ![1, 512, 8, 1]⟩

abbrev nBuf : Space → Nat
  | .hbm => 27
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1x8192x8x128, .f32⟩
  | .hbm, ⟨3, _⟩ => ⟨S1x8192x8x128, .f32⟩
  | .hbm, ⟨4, _⟩ => ⟨S1024x1024, .f32⟩
  | .hbm, ⟨5, _⟩ => ⟨S1x512x1024, .f32⟩
  | .hbm, ⟨6, _⟩ => ⟨S1x512x8x128, .f32⟩
  | .hbm, ⟨7, _⟩ => ⟨S1x8x512x8192, .f32⟩
  | .hbm, ⟨8, _⟩ => ⟨S_, .f32⟩
  | .hbm, ⟨9, _⟩ => ⟨S1x8x512x8192, .f32⟩
  | .hbm, ⟨10, _⟩ => ⟨S1x8x512x8192, .f32⟩
  | .hbm, ⟨11, _⟩ => ⟨S_, .f32⟩
  | .hbm, ⟨12, _⟩ => ⟨S1x8x512, .f32⟩
  | .hbm, ⟨13, _⟩ => ⟨S1x8x512x1, .f32⟩
  | .hbm, ⟨14, _⟩ => ⟨S1x8x512x8192, .f32⟩
  | .hbm, ⟨15, _⟩ => ⟨S1x8x512x8192, .f32⟩
  | .hbm, ⟨16, _⟩ => ⟨S1x8x512x8192, .f32⟩
  | .hbm, ⟨17, _⟩ => ⟨S_, .f32⟩
  | .hbm, ⟨18, _⟩ => ⟨S1x8x512, .f32⟩
  | .hbm, ⟨19, _⟩ => ⟨S1x8x512x1, .f32⟩
  | .hbm, ⟨20, _⟩ => ⟨S1x8x128x512, .f32⟩
  | .hbm, ⟨21, _⟩ => ⟨S1x512x8x128, .f32⟩
  | .hbm, ⟨22, _⟩ => ⟨S1x512x8x1, .f32⟩
  | .hbm, ⟨23, _⟩ => ⟨S1x512x8x128, .f32⟩
  | .hbm, ⟨24, _⟩ => ⟨S1x512x8x128, .f32⟩
  | .hbm, ⟨25, _⟩ => ⟨S1x512x1024, .f32⟩
  | .hbm, ⟨26, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.Base.lean ====
/-
  The machine's algebra for this kernel, its devices' offsets around the mesh, the contents each buffer
  comes to hold, and the semaphore cells.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.ValueIdxCore
public import Idealize.ShloMosaic.Lib.Tactic

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## The resource algebra: the pipeline's copy, the remote cells' rounds, the local transfers' counters -/

abbrev UB : Type := URounds (GSem nD τ sig) (Fin 8)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh: who sends to whom -/

set_option backward.proofsInPublic true in
/-- The device whose transfers land in slot `j` of device `c`'s landing buffers. -/
def src (c : Dev nD) (j : Fin 3) : Dev nD := ⟨(c.val + j.val + 1) % 4, Nat.mod_lt _ (by decide)⟩
set_option backward.proofsInPublic true in
/-- The device in whose slot `j` device `c`'s transfers land. -/
def tgt (c : Dev nD) (j : Fin 3) : Dev nD := ⟨(c.val + 3 - j.val) % 4, Nat.mod_lt _ (by decide)⟩

theorem tgt_src (j : Fin 3) (c : Dev nD) : tgt (src c j) j = c := by revert c j; decide
theorem src_tgt (j : Fin 3) (c : Dev nD) : src (tgt c j) j = c := by revert c j; decide

/-- Slot `j`'s senders are the devices again, each once. -/
def ring (j : Fin 3) : Dev nD ≃ Dev nD := ⟨(src · j), (tgt · j), tgt_src j, src_tgt j⟩

/-! ## The cells -/

/-- The barrier's semaphore. -/
abbrev barS : Sem sig := (SemArray.scalar (sig.barrier 0 rfl) : Sems sig S_).sem

/-- A remote cell's kind: the barrier; `(0, j)` the receive cell of the head partials' slot `j`, `(1, j)` the send cell of the
    transfers into the peers' slot `j`; `(2, j)` and `(3, j)` the same for the output blocks. -/
abbrev Kd : Type := Option (Fin 4 × Fin 3)

set_option backward.proofsInPublic true in
def csem : Kd → SemLoc sig
  | none => .reg barS
  | some (0, j) => .dma ⟨17 + j.val, by have := j.isLt; show 17 + j.val < 26; omega⟩
  | some (1, j) => .dma ⟨16 - j.val, by show 16 - j.val < 26; omega⟩
  | some (2, j) => .dma ⟨23 + j.val, by have := j.isLt; show 23 + j.val < 26; omega⟩
  | some (3, j) => .dma ⟨22 - j.val, by show 22 - j.val < 26; omega⟩

theorem csem_inj : Function.Injective csem := by unfold Function.Injective; decide

abbrev kcell (c : Dev nD) (k : Kd) : GSem nD τ sig := ((c : Thread nD τ), csem k)

/-- The cells of local transfers: keys' and values' slot `s`, head `i` of the pair; the own partials' copy. -/
abbrev kSem (s i : Fin 2) : DmaSem sig := ⟨5 + 2 * s.val + i.val, by have := s.isLt; have := i.isLt; show 5 + 2 * s.val + i.val < 26; omega⟩
abbrev vSem (s i : Fin 2) : DmaSem sig := ⟨9 + 2 * s.val + i.val, by have := s.isLt; have := i.isLt; show 9 + 2 * s.val + i.val < 26; omega⟩
abbrev oSem : DmaSem sig := ⟨13, by decide⟩

/-! ## Contents -/

abbrev Xa (c : Dev nD) : Vec F S1x512x1024 .f32 := m ((c : Thread nD τ).loc main_arg0)
abbrev Wqa (c : Dev nD) : Vec F S1024x1024 .f32 := m ((c : Thread nD τ).loc main_arg1)
abbrev Ka (c : Dev nD) : Vec F S1x2048x8x128 .f32 := m ((c : Thread nD τ).loc main_arg2)
abbrev Va (c : Dev nD) : Vec F S1x2048x8x128 .f32 := m ((c : Thread nD τ).loc main_arg3)
abbrev Woa (c : Dev nD) : Vec F S1024x1024 .f32 := m ((c : Thread nD τ).loc main_arg4)

/-- Head `h`'s columns of the query projection. -/
def Wh (c : Dev nD) (h : Fin 8) : Vec F S1024x128 .f32 :=
  fun i => Wqa m c (ix2 (i 0) ⟨128 * h.val + (i 1).val, by have := h.isLt; have := idx2_lt1 i; omega⟩)
/-- Head `h`'s keys on device `c`. -/
def Kh (c : Dev nD) (h : Fin 8) : Vec F S1x1x2048x128 .f32 := fun i => Ka m c (ix4 0 (i 2) h (i 3))
/-- The constant one, as the kernel writes it. -/
abbrev oneV : F .f32 := Scalar.ofBits .f32 0x3F800000#32
/-- Head `h`'s values on device `c`, eight columns of ones after them. -/
def Vh (c : Dev nD) (h : Fin 8) : Vec F S1x1x2048x136 .f32 :=
  fun i => if hi : (i 3).val < 128 then Va m c (ix4 0 (i 2) h ⟨(i 3).val, hi⟩) else oneV

/-- The key and value slots holding head `h`. -/
def KF (c : Dev nD) (h : Fin 8) : Vec F S2x2x2048x128 .f32 := fun i => Ka m c (ix4 0 (i 2) h (i 3))
def VF (c : Dev nD) (h : Fin 8) : Vec F S2x2x2048x136 .f32 :=
  fun i => if hi : (i 3).val < 128 then Va m c (ix4 0 (i 2) h ⟨(i 3).val, hi⟩) else oneV

/-- What head `h` stores of its partial on device `c`: rows 0 to 135 first … -/
abbrev oVec (c : Dev nD) (h : Fin 8) : FVec F S1x136x512 .bf16 := k0_pay132 (k0_pay129 (Xa m c)) (Wh m c h) (Kh m c h) (Vh m c h)
/-- … then row 129, the running maximum. -/
abbrev mVec (c : Dev nD) (h : Fin 8) : FVec F S1x1x512 .bf16 := k0_pay133 (k0_pay129 (Xa m c)) (Wh m c h) (Kh m c h)

/-- The head partials of device `p`: entry `q` of row `r` of head `h`. -/
def opv (p : Dev nD) (h : Fin 8) (r : Fin 136) (q : Fin 512) : F .bf16 :=
  if r.val = 129 then mVec m p h (ix3 0 0 q) else oVec m p h (ix3 0 r q)

/-- Column `q` of device `c`'s quarter. -/
def qcol (c : Dev nD) (q : Fin 128) : Fin 512 := ⟨128 * c.val + q.val, by have h1 : c.val < 4 := c.isLt; have := q.isLt; omega⟩

/-- The partials buffer; the own-quarter copy; the landing buffer, slot `j` filled by device `src c j`. -/
def OP (c : Dev nD) : Vec F S8x136x512 .bf16 := fun i => opv m c (i 0) (i 1) (i 2)
def OWN (c : Dev nD) : Vec F S8x136x128 .bf16 := fun i => opv m c (i 0) (i 1) (qcol c (i 2))
def OC (c : Dev nD) : Vec F S3x8x136x128 .bf16 := fun i => opv m (src c (i 0)) (i 1) (i 2) (qcol c (i 3))

/-- Device `p`'s maxima, numerators and denominators of head `h` at device `c`'s quarter. -/
def mRow (p c : Dev nD) (h : Fin 8) : Vec F S1x1x128 .bf16 := fun i => opv m p h 129 (qcol c (i 2))
def lRow (p c : Dev nD) (h : Fin 8) : Vec F S1x1x128 .bf16 := fun i => opv m p h 128 (qcol c (i 2))
def oRow (p c : Dev nD) (h : Fin 8) : Vec F S1x128x128 .bf16 :=
  fun i => opv m p h ⟨(i 1).val, Nat.lt_trans (i 1).isLt (by decide : (128 : ℕ) < 136)⟩ (qcol c (i 2))

/-- The four partials of a head merged, as the kernel writes it. -/
def mergeF (mo m0 m1 m2 : Vec F S1x1x128 .bf16) (oo o0 o1 o2 : Vec F S1x128x128 .bf16) (lo l0 l1 l2 : Vec F S1x1x128 .bf16) :
    FVec F S1x128x128 .bf16 :=
  k0_pay20
    (k0_pay17 (k0_pay8 m1) (k0_pay10 (k0_pay6 mo) (k0_pay7 m0) m1 m2) (k0_pay12 (k0_pay6 mo) (k0_pay7 m0) m1 m2 oo)
      (k0_pay14 (k0_pay6 mo) (k0_pay7 m0) m1 m2) (k0_pay15 o0) o1)
    (k0_pay18 (k0_pay8 m1) (k0_pay10 (k0_pay6 mo) (k0_pay7 m0) m1 m2) (k0_pay13 (k0_pay6 mo) (k0_pay7 m0) m1 m2 lo)
      (k0_pay14 (k0_pay6 mo) (k0_pay7 m0) m1 m2) l0 l1)
    (k0_pay19 (k0_pay9 m2) (k0_pay10 (k0_pay6 mo) (k0_pay7 m0) m1 m2)) o2 l2

/-- Head `h`'s attention output at device `c`'s quarter. -/
def ATT (c : Dev nD) (h : Fin 8) : FVec F S1x128x128 .bf16 :=
  mergeF (mRow m c c h) (mRow m (src c 0) c h) (mRow m (src c 1) c h) (mRow m (src c 2) c h)
    (oRow m c c h) (oRow m (src c 0) c h) (oRow m (src c 1) c h) (oRow m (src c 2) c h)
    (lRow m c c h) (lRow m (src c 0) c h) (lRow m (src c 1) c h) (lRow m (src c 2) c h)

abbrev WOb (c : Dev nD) : FVec F S1024x1024 .bf16 := k0_pay5 (Woa m c)

/-- Device `c`'s block of the result, as it stores it and as it sends it. -/
def OUTq (c : Dev nD) : FVec F S1x128x1024 .f32 :=
  k0_pay123 (WOb m c) (k0_pay121 (WOb m c) (ATT m c 0) (ATT m c 1) (ATT m c 2)) (ATT m c 3) (ATT m c 4) (ATT m c 5) (ATT m c 6) (ATT m c 7)
def OG (c : Dev nD) : FVec F S128x1024 .bf16 :=
  k0_pay124 (WOb m c) (k0_pay121 (WOb m c) (ATT m c 0) (ATT m c 1) (ATT m c 2)) (ATT m c 3) (ATT m c 4) (ATT m c 5) (ATT m c 6) (ATT m c 7)

/-- The output blocks' landing buffer, slot `j` filled by device `src c j`. -/
def GC (c : Dev nD) : Vec F S3x128x1024 .bf16 := fun i => OG m (src c (i 0)) (ix2 (i 1) (i 2))

/-- Slot `j`'s block as the kernel stores it. -/
def OUTs (c : Dev nD) (j : Fin 3) : FVec F S1x128x1024 .f32 := k0_pay125 fun i => OG m (src c j) (ix2 (i 1) (i 2))

/-- The result on device `c`: its own block at its quarter of the rows, slot `j`'s at `src c j`'s. -/
def RES (c : Dev nD) : Vec F S1x512x1024 .f32 := fun i =>
  have h128 : (i 1).val % 128 < 128 := Nat.mod_lt _ (by decide)
  if (i 1).val / 128 = c.val then OUTq m c (ix3 0 ⟨(i 1).val % 128, h128⟩ (i 2))
  else if (i 1).val / 128 = (src c 0).val then OUTs m c 0 (ix3 0 ⟨(i 1).val % 128, h128⟩ (i 2))
  else if (i 1).val / 128 = (src c 1).val then OUTs m c 1 (ix3 0 ⟨(i 1).val % 128, h128⟩ (i 2))
  else OUTs m c 2 (ix3 0 ⟨(i 1).val % 128, h128⟩ (i 2))

/-! ## The pieces of the buffers -/

def ocSet (j : Fin 3) (h : Fin 8) : Finset S3x8x136x128.Idx := Finset.univ.filter fun i => (i 0).val = j.val ∧ (i 1).val = h.val
def ogSet (j : Fin 3) : Finset S3x128x1024.Idx := Finset.univ.filter fun i => (i 0).val = j.val
def opSet (h : Fin 8) (c : Dev nD) : Finset S8x136x512.Idx := Finset.univ.filter fun i => (i 0).val = h.val ∧ (i 2).val / 128 = c.val
def slabSet (h : Fin 8) : Finset S8x136x512.Idx := Finset.univ.filter fun i => (i 0).val = h.val
def ownSet (h : Fin 8) : Finset S8x136x128.Idx := Finset.univ.filter fun i => (i 0).val = h.val
def kSet (s i : Fin 2) : Finset S2x2x2048x128.Idx := Finset.univ.filter fun x => (x 0).val = s.val ∧ (x 1).val = i.val
def vSet (s i : Fin 2) : Finset S2x2x2048x136.Idx := Finset.univ.filter fun x => (x 0).val = s.val ∧ (x 1).val = i.val

end Cert.KP

end
-- ==== Proof.Proto.lean ====
/-
  The protocol of the remote cells: duties, amounts and payloads; what each device owes its peers; the levels.
-/
module

public import proofs.«01_k».proof.Proof.Base

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Buffers and pieces owned -/

abbrev loc0 (c : Dev nD) : Loc nD τ sig := (c : Thread nD τ).loc cc0_scratch0
abbrev loc1 (c : Dev nD) : Loc nD τ sig := (c : Thread nD τ).loc cc0_scratch1
abbrev loc2 (c : Dev nD) : Loc nD τ sig := (c : Thread nD τ).loc cc0_scratch2
abbrev loc3 (c : Dev nD) : Loc nD τ sig := (c : Thread nD τ).loc cc0_scratch3
abbrev loc4 (c : Dev nD) : Loc nD τ sig := (c : Thread nD τ).loc cc0_scratch4
abbrev loc5 (c : Dev nD) : Loc nD τ sig := (c : Thread nD τ).loc cc0_scratch5
abbrev loc6 (c : Dev nD) : Loc nD τ sig := (c : Thread nD τ).loc cc0_scratch6

/-- Slot `j`, head `h` of the partials' landing buffer; slot `j` of the blocks'; head `h`, quarter `t` of the partials. -/
def ocP (c : Dev nD) (j : Fin 3) (h : Fin 8) (f : Buf (Elt F) (loc4 c)) : sProp 𝕄 := loc4 c ↦[ocSet j h]{fullShare} f
def ogP (c : Dev nD) (j : Fin 3) (f : Buf (Elt F) (loc6 c)) : sProp 𝕄 := loc6 c ↦[ogSet j]{fullShare} f
def opP (c : Dev nD) (h : Fin 8) (t : Dev nD) (f : Buf (Elt F) (loc2 c)) : sProp 𝕄 := loc2 c ↦[opSet h t]{fullShare} f
/-- The share of the sent block lent to the transfer into slot `j`. -/
abbrev gq (j : Fin 3) : PosShare TreeShare := Transfers.shareTok fullShare 3 j
def gsP (c : Dev nD) (j : Fin 3) (f : Buf (Elt F) (loc5 c)) : sProp 𝕄 := loc5 c ↦{gq j} f

/-- The landing pieces of device `t`'s slot `j`, at some contents. -/
def landP (t : Dev nD) (j : Fin 3) : sProp 𝕄 :=
  iprop(bigSep Finset.univ (fun h : Fin 8 => iprop(∃ f, ocP t j h f)) ∗ ∃ f, ogP t j f)

omit [FloatOps F] in
instance (c : Dev nD) (j : Fin 3) (h : Fin 8) (f) : BI.Storable (upEmb : UEmb _ 𝕄) (ocP (F := F) c j h f) := by unfold ocP; infer_instance
omit [FloatOps F] in
instance (c : Dev nD) (j : Fin 3) (f) : BI.Storable (upEmb : UEmb _ 𝕄) (ogP (F := F) c j f) := by unfold ogP; infer_instance
omit [FloatOps F] in
instance (c : Dev nD) (h : Fin 8) (t : Dev nD) (f) : BI.Storable (upEmb : UEmb _ 𝕄) (opP (F := F) c h t f) := by unfold opP; infer_instance
omit [FloatOps F] in
instance (c : Dev nD) (j : Fin 3) (f) : BI.Storable (upEmb : UEmb _ 𝕄) (gsP (F := F) c j f) := by unfold gsP; infer_instance
omit [FloatOps F] in
instance (c : Dev nD) (j : Fin 3) : BI.Storable (upEmb : UEmb _ 𝕄) (landP (F := F) c j) := by unfold landP; infer_instance

/-! ## The schedule -/

/-- The credit of a head partial's transfer, and of an output block's. -/
abbrev NO : ℕ := (cc0_scratch4 : Ref sig .tc).dmaCredit S136x128 .bf16
abbrev NG : ℕ := (cc0_scratch6 : Ref sig .tc).dmaCredit S128x1024 .bf16

theorem NO_pos : 0 < NO := sig.dmaCredit_pos _ _ _ S136x128 .bf16 (by decide)
theorem NG_pos : 0 < NG := sig.dmaCredit_pos _ _ _ S128x1024 .bf16 (by decide)

/-- A cell's duties: the barrier's three (one per slot), a head-partials cell's eight (one per head), a block cell's one. -/
def dutK : Kd → Finset (Fin 8)
  | none => {0, 1, 2}
  | some (0, _) => Finset.univ
  | some (1, _) => Finset.univ
  | some (2, _) => {0}
  | some (3, _) => {0}

def amtK : Kd → ℕ
  | none => 1
  | some (0, _) => NO
  | some (1, _) => NO
  | some (2, _) => NG
  | some (3, _) => NG

theorem amtK_pos : ∀ k, 0 < amtK k
  | none => Nat.one_pos
  | some (0, _) => NO_pos
  | some (1, _) => NO_pos
  | some (2, _) => NG_pos
  | some (3, _) => NG_pos

/-- The slot a barrier duty stands for. -/
def slotOf (d : Fin 8) : Fin 3 := ⟨d.val % 3, Nat.mod_lt _ (by decide)⟩

/-- A duty's payload on device `c`'s cell: the barrier's duty `j` hands over the landing pieces of the device `c` sends slot `j`
    to; a receive cell's, the piece landed; a send cell's, the piece lent. -/
def payK : Kd → Dev nD → Fin 8 → sProp 𝕄
  | none, c, d => landP (tgt c (slotOf d)) (slotOf d)
  | some (0, j), c, h => ocP c j h (OC m c)
  | some (1, j), c, h => opP c h (tgt c j) (OP m c)
  | some (2, j), c, _ => ogP c j (GC m c)
  | some (3, j), c, _ => gsP c j (OG m c)

instance payK_storable (k : Kd) (c : Dev nD) (d : Fin 8) : BI.Storable (upEmb : UEmb _ 𝕄) (payK (F := F) m k c d) := by
  match k with
  | none => unfold payK; infer_instance
  | some (0, _) => unfold payK; infer_instance
  | some (1, _) => unfold payK; infer_instance
  | some (2, _) => unfold payK; infer_instance
  | some (3, _) => unfold payK; infer_instance

/-- The kind of a semaphore that is a remote cell's. -/
def kOf (s : SemLoc sig) : Kd := Function.invFun csem s
theorem kOf_csem (k : Kd) : kOf (csem k) = k := Function.leftInverse_invFun csem_inj k

abbrev IsK (g : GSem nD τ sig) : Prop := g.1.2 = .tc ∧ ∃ k, csem k = g.2

open Classical in
def Rd : Rounds.Schedule (GSem nD τ sig) (Fin 8) 𝕄 where
  duties g r := if r = 0 ∧ IsK g then dutK (kOf g.2) else ∅
  unitless _ := False
  amount g _ _ := amtK (kOf g.2)
  payload g _ d := payK m (kOf g.2) g.1.1 d
  amount_pos g _ _ _ := amtK_pos _

instance Rd_payload_storable (g : GSem nD τ sig) (r : ℕ) (d : Fin 8) :
    BI.Storable (upEmb : UEmb _ 𝕄) ((Rd (F := F) m).payload g r d) := by
  show BI.Storable upEmb (payK m (kOf g.2) g.1.1 d); infer_instance

section Sched
variable (c : Dev nD) (k : Kd)

theorem duties_k : (Rd (F := F) m).duties (kcell c k) 0 = dutK k := by
  dsimp only [Rd]; rw [kOf_csem]; exact if_pos ⟨rfl, rfl, k, rfl⟩
theorem duties_later (g : GSem nD τ sig) : ∀ r, 1 ≤ r → (Rd (F := F) m).duties g r = ∅ :=
  fun r hr => by dsimp only [Rd]; rw [if_neg fun h => by omega]
theorem amount_k (r : ℕ) (d : Fin 8) : (Rd (F := F) m).amount (kcell c k) r d = amtK k := by dsimp only [Rd]; rw [kOf_csem]
theorem payload_k (r : ℕ) (d : Fin 8) : (Rd (F := F) m).payload (kcell c k) r d = payK m k c d := by
  dsimp only [Rd]; rw [kOf_csem]
theorem expect_k : (Rd (F := F) m).expect (kcell c k) 0 = (dutK k).card * amtK k := by
  unfold Schedule.expect Schedule.amountOf
  rw [duties_k, Finset.sum_congr rfl fun d _ => amount_k m c k 0 d, Finset.sum_const, smul_eq_mul]
end Sched

/-! ## Payments: what a device pays, and to whom -/

/-- A payment: a cell kind and one of its duties. -/
abbrev Pm : Type := Kd × Fin 8

def pays : Finset Pm := Finset.univ.filter fun p => p.2 ∈ dutK p.1

/-- The device whose cell the payer's payment goes to. -/
def whoP : Pm → (Dev nD ≃ Dev nD)
  | (none, d) => ring (slotOf d)
  | (some (0, j), _) => (ring j).symm
  | (some (1, _), _) => Equiv.refl _
  | (some (2, j), _) => (ring j).symm
  | (some (3, _), _) => Equiv.refl _

/-- The payments owed (the send cells' are not: the payer itself waits for them). -/
def owedK : Kd → Bool
  | none => true
  | some (0, _) => true
  | some (1, _) => false
  | some (2, _) => true
  | some (3, _) => false

def owedAll : Finset Pm := pays.filter fun p => owedK p.1 = true

abbrev payCell (c : Dev nD) (p : Pm) : GSem nD τ sig := kcell (whoP p c) p.1

/-- What device `c` owes for the payments `s`. -/
def Ow (c : Dev nD) (s : Finset Pm) : CellTallies nD τ sig Unit := ∑ p ∈ s, tallyAt (payCell c p) () (amtK p.1)

theorem Ow_erase (c : Dev nD) (s : Finset Pm) (p : Pm) (hp : p ∈ s) : Ow c s = Ow c (s.erase p) + tallyAt (payCell c p) () (amtK p.1) := by
  unfold Ow; rw [add_comm]; exact (Finset.add_sum_erase s _ hp).symm
theorem Ow_empty (c : Dev nD) : Ow c ∅ = 0 := Finset.sum_empty

def O₀ (c : Dev nD) : CellTallies nD τ sig Unit := Ow c owedAll

/-! ## Levels -/

def L (g : GSem nD τ sig) : Finset Unit := if g.1.2 = .tc then {()} else ∅

def lvK : Kd → ℕ
  | none => 1
  | some (0, _) => 2
  | some (1, _) => 0
  | some (2, _) => 3
  | some (3, _) => 0

open Classical in
def lv (g : GSem nD τ sig) (_ : Unit) : ℕ := if ∃ k, csem k = g.2 then lvK (kOf g.2) else 0

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : Kd) (u : Unit) : lv (kcell c k) u = lvK k := by
  unfold lv; rw [if_pos ⟨k, rfl⟩, kOf_csem]
theorem lv_other (c : Dev nD) (sm : SemLoc sig) (h : ∀ k, csem k ≠ sm) (u : Unit) : lv ((c : Thread nD τ), sm) u = 0 := by
  unfold lv; rw [if_neg fun ⟨k, hk⟩ => h k hk]

theorem Ow_pos {c : Dev nD} {s : Finset Pm} {g : GSem nD τ sig} {u : Unit} (h : 0 < Ow c s g u) : ∃ p ∈ s, g = payCell c p := by
  by_contra hn
  have : Ow c s g u = 0 := by
    unfold Ow; rw [Finset.sum_apply, Finsupp.finset_sum_apply]
    refine Finset.sum_eq_zero fun p hp => ?_
    rw [tallyAt_apply, if_neg fun h' => hn ⟨p, hp, h'.1⟩]
  omega

/-- A wait on a cell below every payment still owed. -/
theorem mayWait_of (c : Dev nD) (sm : SemLoc sig) (s : Finset Pm) (n : ℕ) (hn : lv ((c : Thread nD τ), sm) () ≤ n)
    (h : ∀ p ∈ s, n < lvK p.1) : (levAts L lv : sProp 𝕄) ⊢ MayWait (c : Thread nD τ) sm () (Ow c s) := by
  refine MayOwe.of_cut (L := L) (lev := lv) n (fun p hp => by rw [Finset.mem_singleton.mp hp, L_tc]; exact Finset.mem_singleton_self _)
    (fun g u hg => ?_) (fun p hp => by rw [Finset.mem_singleton.mp hp]; exact hn) (fun g u hg => ?_)
  · obtain ⟨p, _, rfl⟩ := Ow_pos hg; rw [L_tc]; exact Finset.mem_singleton_self _
  · obtain ⟨p, hp, rfl⟩ := Ow_pos hg; rw [lv_k]; exact h p hp

/-! ## Landing counts: several transfers of one round completing on one cell -/

/-- Device `c`'s cell `k` after `n` of its duties' amounts were waited for: some of the payloads taken. -/
def WX (c : Dev nD) (k : Kd) (n : ℕ) : sProp 𝕄 :=
  iprop(∃ S : Finset (Fin 8), ⌜S ⊆ dutK k⌝ ∗ atPos ER (kcell c k) 0 S (n * amtK k) ∗ bigSep S (fun d => payK m k c d))

abbrev 𝒱₀ : Variants := Variants.none

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem WX_start (c : Dev nD) (k : Kd) : (atPos ER (kcell c k) 0 ∅ 0 : sProp 𝕄) ⊢ WX m c k 0 := by
  unfold WX
  iintro H
  iexists ∅
  isplitr; · ipureintro; exact Finset.empty_subset _
  isplitl [H]
  · rw [Nat.zero_mul]; iexact H
  · rw [bigSep_empty]; iempintro

/-- One wait of one duty's amount. -/
theorem wp_waitX (c : Dev nD) (k : Kd) (n : ℕ) {κ : ℕ} {w : TpuEff nD τ sig (Elt F) Λ₀ .tc PUnit} {sm : SemLoc sig} {N : ℕ}
    (hsm : sm = csem k) (hN : N = amtK k)
    (hw : ∀ Kt : PUnit → sProp 𝕄, wpE (defs₀ (F := F)) 𝒱₀ (c : Thread nD τ) none Set.univ w Kt = waitSpec (c : Thread nD τ) Set.univ sm N Kt)
    {α : Type} {Q : α → sProp 𝕄} {kt : PUnit → Prog (TpuEff nD τ sig (Elt F) Λ₀ .tc) α} (O : CellTallies nD τ sig Unit) :
    iprop(cellInv ER (Rd m) κ (kcell c k) ∗ cred (tallyAt (kcell c k) () (amtK k)) ∗ (∃ W, owes (c : Thread nD τ) O W)
        ∗ MayWait (c : Thread nD τ) (csem k) () O ∗ WX m c k n)
      ⊢ iprop((((∃ W, owes (c : Thread nD τ) O W) ∗ WX m c k (n + 1)) -∗ WP c (kt ⟨⟩) Q) -∗ WP c (.op w kt) Q) := by
  subst hsm; subst hN
  unfold WX
  iintro ⟨Hi, Hc, ⟨%W, HO⟩, Hm, ⟨%S, %hS, Hat, HS⟩⟩ Hk
  iapply (Rounds.wp_wait 𝒱₀ ER (Rd m) (c : Thread nD τ) none (κ := κ) hw (Set.mem_univ _) {(csem k, ())} (cr := Finsupp.single () (amtK k))
    (by rw [Util.total_single]) (image_single_subset (csem k) () (amtK k))) $$ [Hi Hc HO Hm Hat]
  · isplitl [Hi]; · iexact Hi
    isplitl [Hc]; · iexact Hc
    isplitl [HO]; · iexact HO
    isplitl [Hm]; · iexact Hm
    iexact Hat
  iintro %S' ⟨%h, HO, Hat, Hp⟩
  iapply Hk
  isplitl [HO]; · iexists _; iexact HO
  iexists S'
  isplitr
  · ipureintro; rw [← duties_k m c k]; exact h.2.1
  isplitl [Hat]
  · rw [Nat.succ_mul]; iexact Hat
  · ihave Hp := (show bigSep (S' \ S) (fun d => (Rd m).payload (kcell c k) 0 d) ⊢ bigSep (S' \ S) (fun d => payK m k c d) from
      Entails.of_eq (bigSep_congr fun d _ => payload_k m c k 0 d)) $$ Hp
    iapply (show iprop(bigSep S (fun d => payK m k c d) ∗ bigSep (S' \ S) (fun d => payK m k c d)) ⊢ bigSep S' (fun d => payK m k c d) from
      Entails.of_eq (bigSep_sdiff_split h.1).symm)
    isplitl [HS] <;> iassumption

/-- The last wait of a cell: every payload, and the counter at zero. -/
theorem wp_waitLast (c : Dev nD) (k : Kd) (n : ℕ) (hn : n + 1 = (dutK k).card) {κ : ℕ} {w : TpuEff nD τ sig (Elt F) Λ₀ .tc PUnit} {sm : SemLoc sig} {N : ℕ}
    (hsm : sm = csem k) (hN : N = amtK k)
    (hw : ∀ Kt : PUnit → sProp 𝕄, wpE (defs₀ (F := F)) 𝒱₀ (c : Thread nD τ) none Set.univ w Kt = waitSpec (c : Thread nD τ) Set.univ sm N Kt)
    {α : Type} {Q : α → sProp 𝕄} {kt : PUnit → Prog (TpuEff nD τ sig (Elt F) Λ₀ .tc) α} (O : CellTallies nD τ sig Unit) :
    iprop(cellInv ER (Rd m) κ (kcell c k) ∗ cred (tallyAt (kcell c k) () (amtK k)) ∗ (∃ W, owes (c : Thread nD τ) O W)
        ∗ MayWait (c : Thread nD τ) (csem k) () O ∗ WX m c k n)
      ⊢ iprop((((∃ W, owes (c : Thread nD τ) O W) ∗ semVal (kcell c k) 0 ∗ bigSep (dutK k) (fun d => payK m k c d)) -∗ WP c (kt ⟨⟩) Q)
          -∗ WP c (.op w kt) Q) := by
  subst hsm; subst hN
  unfold WX
  iintro ⟨#Hi, Hc, ⟨%W, HO⟩, Hm, ⟨%S, %hS, Hat, HS⟩⟩ Hk
  iapply (Rounds.wp_wait_rest_token 𝒱₀ ER (Rd m) (c : Thread nD τ) none (κ := κ) hw (Set.mem_univ _) () (O := O) (W := W) (R := 0)
    (m := n * amtK k) (T := S) (by rw [expect_k, ← hn, Nat.succ_mul])) $$ [Hc HO Hm Hat]
  · isplitr; · iexact Hi
    isplitl [Hc]; · iexact Hc
    isplitl [HO]; · iexact HO
    isplitl [Hm]; · iexact Hm
    iexact Hat
  iintro ⟨HO, Hat, -, Hp⟩
  imod (Rounds.cell_close ER (Rd m) (Set.mem_univ κ) (fun h => h) (R := 0 + 1) (duties_later m (kcell c k))) $$ [Hat] with Hz
  · isplitr; · iexact Hi
    iexact Hat
  iapply Hk
  isplitl [HO]; · iexists _; iexact HO
  isplitl [Hz]; · iexact Hz
  ihave Hp := (show bigSep ((Rd (F := F) m).duties (kcell c k) 0 \ S) (fun d => (Rd m).payload (kcell c k) 0 d)
      ⊢ bigSep (dutK k \ S) (fun d => payK m k c d) from
    Entails.of_eq (by rw [duties_k]; exact bigSep_congr fun d _ => payload_k m c k 0 d)) $$ Hp
  iapply (show iprop(bigSep S (fun d => payK m k c d) ∗ bigSep (dutK k \ S) (fun d => payK m k c d)) ⊢ bigSep (dutK k) (fun d => payK m k c d) from
    Entails.of_eq (bigSep_sdiff_split hS).symm)
  isplitl [HS] <;> iassumption

end Cert.KP

end
-- ==== Proof.Views.lean ====
/-
  The views the kernel takes of its buffers: where their elements lie, and what a transfer through them writes.
-/
module

public import proofs.«01_k».proof.Proof.Proto
public import Idealize.ShloMosaic.Lib.ValueLayout

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Grid points, devices, semaphores -/

abbrev hd (t : Fin cfg0.N) (i : Fin 2) : Fin 8 :=
  ⟨2 * t.val + i.val, by have h : t.val < 4 := lt_of_lt_of_eq t.isLt N_0; have := i.isLt; omega⟩
abbrev sl (t : Fin cfg0.N) : Fin 2 := ⟨t.val % 2, Nat.mod_lt _ (by decide)⟩

abbrev crd (t : Fin cfg0.N) : grid0.Coords := grid0.coords t

theorem dev1_eq (c : Dev nD) : k0_dev1 c = (src c 0).val := by revert c; decide +kernel
theorem dev2_eq (c : Dev nD) : k0_dev2 c = (src c 1).val := by revert c; decide +kernel
theorem dev3_eq (c : Dev nD) : k0_dev3 c = (src c 2).val := by revert c; decide +kernel
theorem dev4_eq (c : Dev nD) : k0_dev4 c = (tgt c 2).val := by revert c; decide +kernel
theorem dev5_eq (c : Dev nD) : k0_dev5 c = (tgt c 1).val := by revert c; decide +kernel
theorem dev6_eq (c : Dev nD) : k0_dev6 c = (tgt c 0).val := by revert c; decide +kernel
theorem dev7_eq (c : Dev nD) : k0_dev7 c = (tgt c 2).val := by revert c; decide +kernel
theorem dev8_eq (c : Dev nD) : k0_dev8 c = (tgt c 1).val := by revert c; decide +kernel
theorem dev9_eq (c : Dev nD) : k0_dev9 c = (tgt c 0).val := by revert c; decide +kernel
theorem dev10_eq (c : Dev nD) : k0_dev10 c = (tgt c 2).val := by revert c; decide +kernel
theorem dev11_eq (c : Dev nD) : k0_dev11 c = (tgt c 1).val := by revert c; decide +kernel
theorem dev12_eq (c : Dev nD) : k0_dev12 c = (tgt c 0).val := by revert c; decide +kernel

theorem cond1_iff : ∀ t : Fin cfg0.N, (Scalar.cmpi .ne (Scalar.extui (Scalar.cmpi .eq (BitVec.ofNat 32 ((crd t) 0).val) 0#32) : BitVec 32) 0#32 : BitVec 1) = 1#1 ↔ t.val = 0 := by decide +kernel
theorem cond2_iff : ∀ t : Fin cfg0.N, k0_cond2 (crd t) = 1#1 ↔ t.val < 3 := by decide +kernel
theorem cond3_iff : ∀ t : Fin cfg0.N, k0_cond3 (crd t) = 1#1 ↔ t.val = 0 := by decide +kernel
theorem cond4_iff : ∀ t : Fin cfg0.N, k0_cond4 (crd t) = 1#1 ↔ t.val = 3 := by decide +kernel

theorem off1_eq : ∀ t : Fin cfg0.N, k0_off1 (crd t) = ![(t.val + 1) % 2, 0] := by decide +kernel
theorem off2_eq : ∀ t : Fin cfg0.N, k0_off2 (crd t) = ![(t.val + 1) % 2, 0, 0, 0] := by decide +kernel
theorem off3_eq : ∀ (t : Fin cfg0.N) (r : Fin 2), k0_off3 (crd t) (BitVec.ofNat 32 r.val) = ![0, 0, 2 * t.val + r.val + 2, 0] := by decide +kernel
theorem off4_eq : ∀ t : Fin cfg0.N, k0_off4 (crd t) = ![(t.val + 1) % 2, 0, 0, 0] := by decide +kernel
theorem off5_eq : ∀ t : Fin cfg0.N, k0_off5 (crd t) = ![(t.val + 1) % 2, 1] := by decide +kernel
theorem off6_eq : ∀ t : Fin cfg0.N, k0_off6 (crd t) = ![(t.val + 1) % 2, 1, 0, 0] := by decide +kernel
theorem off7_eq : ∀ t : Fin cfg0.N, k0_off7 (crd t) = ![(t.val + 1) % 2, 1, 0, 0] := by decide +kernel
theorem off8_eq : ∀ t : Fin cfg0.N, k0_off8 (crd t) = ![t.val % 2, 0] := by decide +kernel
theorem off9_eq : ∀ t : Fin cfg0.N, k0_off9 (crd t) = ![t.val % 2, 0, 0, 0] := by decide +kernel
theorem off10_eq : ∀ (t : Fin cfg0.N) (r : Fin 2), k0_off10 (crd t) (BitVec.ofNat 32 r.val) = ![0, 0, 2 * t.val + r.val, 0] := by decide +kernel
theorem off11_eq : ∀ t : Fin cfg0.N, k0_off11 (crd t) = ![t.val % 2, 0, 0, 0] := by decide +kernel
theorem off12_eq : ∀ t : Fin cfg0.N, k0_off12 (crd t) = ![t.val % 2, 1] := by decide +kernel
theorem off13_eq : ∀ t : Fin cfg0.N, k0_off13 (crd t) = ![t.val % 2, 1, 0, 0] := by decide +kernel
theorem off14_eq : ∀ t : Fin cfg0.N, k0_off14 (crd t) = ![t.val % 2, 1, 0, 0] := by decide +kernel
theorem off15_eq : ∀ t : Fin cfg0.N, k0_off15 (crd t) = ![t.val % 2, 0, 0, 0] := by decide +kernel
theorem off16_eq : ∀ t : Fin cfg0.N, k0_off16 (crd t) = ![t.val % 2, 0, 0, 0] := by decide +kernel
theorem off24_eq : ∀ t : Fin cfg0.N, k0_off24 (crd t) = ![t.val % 2, 1, 0, 0] := by decide +kernel
theorem off25_eq : ∀ t : Fin cfg0.N, k0_off25 (crd t) = ![t.val % 2, 1, 0, 0] := by decide +kernel
theorem off17_eq : ∀ (t : Fin cfg0.N) (r : Fin 2), k0_off17 (crd t) (BitVec.ofNat 32 r.val) = ![2 * t.val + r.val, 0, 0] := by decide +kernel
theorem off18_eq : ∀ (t : Fin cfg0.N) (r : Fin 2), k0_off18 (crd t) (BitVec.ofNat 32 r.val) = ![2 * t.val + r.val, 129, 0] := by decide +kernel
theorem off19_eq : ∀ (t : Fin cfg0.N) (r : Fin 2), k0_off19 (crd t) (BitVec.ofNat 32 r.val) = ![2 * t.val + r.val, 128, 0] := by decide +kernel
theorem off20_eq : ∀ (t : Fin cfg0.N) (r : Fin 2), k0_off20 (crd t) (BitVec.ofNat 32 r.val) = ![2, 2 * t.val + r.val, 0, 0] := by decide +kernel
theorem off22_eq : ∀ (t : Fin cfg0.N) (r : Fin 2), k0_off22 (crd t) (BitVec.ofNat 32 r.val) = ![1, 2 * t.val + r.val, 0, 0] := by decide +kernel
theorem off23_eq : ∀ (t : Fin cfg0.N) (r : Fin 2), k0_off23 (crd t) (BitVec.ofNat 32 r.val) = ![0, 2 * t.val + r.val, 0, 0] := by decide +kernel
/-- The send of offset `d = 1 + r` takes the quarter of the device whose slot `2 - r` it fills. -/
theorem off21_eq : ∀ (t : Fin cfg0.N) (c : Dev nD) (r : Fin 2) (d : Fin 3),
    k0_off21 (crd t) c (BitVec.ofNat 32 r.val) (BitVec.ofNat 32 (1 + d.val)) = ![2 * t.val + r.val, 0, 128 * (tgt c ⟨2 - d.val, by omega⟩).val] := by decide +kernel
theorem off36_eq : ∀ (c : Dev nD) (j : Fin 3), k0_off36 c (BitVec.ofNat 32 j.val) = ![0, 128 * (src c j).val, 0] := by decide +kernel
theorem off37_eq : ∀ (c : Dev nD) (d : Fin 3), k0_off37 c (BitVec.ofNat 32 (1 + d.val)) = ![0, 0, 128 * (tgt c ⟨2 - d.val, by omega⟩).val] := by decide +kernel

/-! ## The views -/

abbrev ocM (off : Fin 4 → ℕ) (inb : ∀ a, off a + S1x1x136x128.size a ≤ S3x8x136x128.size a) : Memref sig .tc .vmem S136x128 .bf16 :=
  ((Memref.whole cc0_scratch4 : Memref sig .tc .vmem S3x8x136x128 .bf16).slice (Rect.unit (s := S3x8x136x128) off S1x1x136x128.size inb) (fun _ => rfl)).squeeze
    S136x128 squeezes_S1x1x136x128_S136x128
abbrev opM (off : Fin 3 → ℕ) (inb : ∀ a, off a + S1x136x128.size a ≤ S8x136x512.size a) : Memref sig .tc .vmem S136x128 .bf16 :=
  ((Memref.whole cc0_scratch2 : Memref sig .tc .vmem S8x136x512 .bf16).slice (Rect.unit (s := S8x136x512) off S1x136x128.size inb) (fun _ => rfl)).squeeze
    S136x128 squeezes_S1x136x128_S136x128
abbrev ogM (off : Fin 3 → ℕ) (inb : ∀ a, off a + S1x128x1024.size a ≤ S3x128x1024.size a) : Memref sig .tc .vmem S128x1024 .bf16 :=
  ((Memref.whole cc0_scratch6 : Memref sig .tc .vmem S3x128x1024 .bf16).slice (Rect.unit (s := S3x128x1024) off S1x128x1024.size inb) (fun _ => rfl)).squeeze
    S128x1024 squeezes_S1x128x1024_S128x1024
abbrev kM (off : Fin 4 → ℕ) (inb : ∀ a, off a + S1x1x2048x128.size a ≤ S2x2x2048x128.size a) : Memref sig .tc .vmem S2048x128 .f32 :=
  ((Memref.whole cc0_scratch0 : Memref sig .tc .vmem S2x2x2048x128 .f32).slice (Rect.unit (s := S2x2x2048x128) off S1x1x2048x128.size inb) (fun _ => rfl)).squeeze
    S2048x128 squeezes_S1x1x2048x128_S2048x128
abbrev vM (off : Fin 4 → ℕ) (inb : ∀ a, off a + S1x1x2048x128.size a ≤ S2x2x2048x136.size a) : Memref sig .tc .vmem S2048x128 .f32 :=
  ((Memref.whole cc0_scratch1 : Memref sig .tc .vmem S2x2x2048x136 .f32).slice (Rect.unit (s := S2x2x2048x136) off S1x1x2048x128.size inb) (fun _ => rfl)).squeeze
    S2048x128 squeezes_S1x1x2048x128_S2048x128
abbrev kaM (off : Fin 4 → ℕ) (inb : ∀ a, off a + S1x2048x1x128.size a ≤ S1x2048x8x128.size a) : Memref sig .tc .hbm S2048x128 .f32 :=
  ((Memref.whole main_arg2 : Memref sig .tc .hbm S1x2048x8x128 .f32).slice (Rect.unit (s := S1x2048x8x128) off S1x2048x1x128.size inb) (fun _ => rfl)).squeeze
    S2048x128 squeezes_S1x2048x1x128_S2048x128
abbrev vaM (off : Fin 4 → ℕ) (inb : ∀ a, off a + S1x2048x1x128.size a ≤ S1x2048x8x128.size a) : Memref sig .tc .hbm S2048x128 .f32 :=
  ((Memref.whole main_arg3 : Memref sig .tc .hbm S1x2048x8x128 .f32).slice (Rect.unit (s := S1x2048x8x128) off S1x2048x1x128.size inb) (fun _ => rfl)).squeeze
    S2048x128 squeezes_S1x2048x1x128_S2048x128

/-! ### Where a view's elements lie -/

theorem emb_oc (j : Fin 3) (h : Fin 8) {off} (ho : off = ![j.val, h.val, 0, 0]) (inb) (a : Fin 136) (b : Fin 128) :
    (ocM off inb).view.emb (ix2 a b) = (ix4 j h a b : S3x8x136x128.Idx) := by
  subst ho
  show (Rect.unit (s := S3x8x136x128) _ S1x1x136x128.size inb).emb (Shape.reshapeEquiv _ (ix2 a b)) = _
  rw [reshapeEquiv_ix2_11ab]
  funext x; apply Fin.ext; rw [Rect.emb_apply]; fin_cases x <;> simp [Rect.unit, ix4]

theorem emb_op (h : Fin 8) (t : Dev nD) {off} (ho : off = ![h.val, 0, 128 * t.val]) (inb) (a : Fin 136) (b : Fin 128) :
    (opM off inb).view.emb (ix2 a b) = (ix3 h a (qcol t b) : S8x136x512.Idx) := by
  subst ho
  show (Rect.unit (s := S8x136x512) _ S1x136x128.size inb).emb (Shape.reshapeEquiv _ (ix2 a b)) = _
  rw [reshapeEquiv_ix2_1ab]
  funext x; apply Fin.ext; rw [Rect.emb_apply]; fin_cases x <;> simp [Rect.unit, ix3, qcol]

theorem emb_og (j : Fin 3) {off} (ho : off = ![j.val, 0, 0]) (inb) (a : Fin 128) (b : Fin 1024) :
    (ogM off inb).view.emb (ix2 a b) = (ix3 j a b : S3x128x1024.Idx) := by
  subst ho
  show (Rect.unit (s := S3x128x1024) _ S1x128x1024.size inb).emb (Shape.reshapeEquiv _ (ix2 a b)) = _
  rw [reshapeEquiv_ix2_1ab]
  funext x; apply Fin.ext; rw [Rect.emb_apply]; fin_cases x <;> simp [Rect.unit, ix3]

theorem emb_k (s i : Fin 2) {off} (ho : off = ![s.val, i.val, 0, 0]) (inb) (a : Fin 2048) (b : Fin 128) :
    (kM off inb).view.emb (ix2 a b) = (ix4 s i a b : S2x2x2048x128.Idx) := by
  subst ho
  show (Rect.unit (s := S2x2x2048x128) _ S1x1x2048x128.size inb).emb (Shape.reshapeEquiv _ (ix2 a b)) = _
  rw [reshapeEquiv_ix2_11ab]
  funext x; apply Fin.ext; rw [Rect.emb_apply]; fin_cases x <;> simp [Rect.unit, ix4]

theorem emb_v (s i : Fin 2) {off} (ho : off = ![s.val, i.val, 0, 0]) (inb) (a : Fin 2048) (b : Fin 128) :
    (vM off inb).view.emb (ix2 a b) = (ix4 s i a ⟨b.val, by omega⟩ : S2x2x2048x136.Idx) := by
  subst ho
  show (Rect.unit (s := S2x2x2048x136) _ S1x1x2048x128.size inb).emb (Shape.reshapeEquiv _ (ix2 a b)) = _
  rw [reshapeEquiv_ix2_11ab]
  funext x; apply Fin.ext; rw [Rect.emb_apply]; fin_cases x <;> simp [Rect.unit, ix4]

theorem reshape_1a1b {p q : ℕ} (h : (⟨2, ![p, q]⟩ : Shape).numel = (⟨4, ![1, p, 1, q]⟩ : Shape).numel) (x : Fin p) (y : Fin q) :
    Shape.reshapeEquiv h (ix2 x y) = ix4 (⟨0, Nat.one_pos⟩ : Fin 1) x (⟨0, Nat.one_pos⟩ : Fin 1) y :=
  Shape.reshapeEquiv_eq_of_rowMajor h (by
    rw [Shape.rowMajor_val_four, Shape.rowMajor_val_two]
    show ((0 * p + x.val) * 1 + 0) * q + y.val = x.val * q + y.val
    simp)

theorem emb_ka (h : Fin 8) {off} (ho : off = ![0, 0, h.val, 0]) (inb) (a : Fin 2048) (b : Fin 128) :
    (kaM off inb).view.emb (ix2 a b) = (ix4 0 a h b : S1x2048x8x128.Idx) := by
  subst ho
  show (Rect.unit (s := S1x2048x8x128) _ S1x2048x1x128.size inb).emb (Shape.reshapeEquiv _ (ix2 a b)) = _
  rw [reshape_1a1b]
  funext x; apply Fin.ext; rw [Rect.emb_apply]; fin_cases x <;> simp [Rect.unit, ix4]

theorem emb_va (h : Fin 8) {off} (ho : off = ![0, 0, h.val, 0]) (inb) (a : Fin 2048) (b : Fin 128) :
    (vaM off inb).view.emb (ix2 a b) = (ix4 0 a h b : S1x2048x8x128.Idx) := by
  subst ho
  show (Rect.unit (s := S1x2048x8x128) _ S1x2048x1x128.size inb).emb (Shape.reshapeEquiv _ (ix2 a b)) = _
  rw [reshape_1a1b]
  funext x; apply Fin.ext; rw [Rect.emb_apply]; fin_cases x <;> simp [Rect.unit, ix4]

/-! ### The views' elements -/

theorem set_oc (j : Fin 3) (h : Fin 8) {off} (ho : off = ![j.val, h.val, 0, 0]) (inb) : (ocM off inb).view.set = ocSet j h := by
  ext i
  constructor
  · intro hi
    obtain ⟨y, -, rfl⟩ := Finset.mem_map.mp hi
    obtain ⟨a, b, rfl⟩ : ∃ (a : Fin 136) (b : Fin 128), y = ix2 a b := ⟨y 0, y 1, eq_ix2 y⟩
    rw [emb_oc j h ho]
    exact Finset.mem_filter.mpr ⟨Finset.mem_univ _, rfl, rfl⟩
  · intro hi
    obtain ⟨p, q, a, b, rfl⟩ : ∃ (p : Fin 3) (q : Fin 8) (a : Fin 136) (b : Fin 128), i = ix4 p q a b := ⟨i 0, i 1, i 2, i 3, eq_ix4 i⟩
    obtain ⟨-, h0, h1⟩ := Finset.mem_filter.mp hi
    obtain rfl : p = j := Fin.ext h0
    obtain rfl : q = h := Fin.ext h1
    exact Finset.mem_map.mpr ⟨ix2 a b, Finset.mem_univ _, emb_oc p q ho inb a b⟩

theorem set_op (h : Fin 8) (t : Dev nD) {off} (ho : off = ![h.val, 0, 128 * t.val]) (inb) : (opM off inb).view.set = opSet h t := by
  ext i
  constructor
  · intro hi
    obtain ⟨y, -, rfl⟩ := Finset.mem_map.mp hi
    obtain ⟨a, b, rfl⟩ : ∃ (a : Fin 136) (b : Fin 128), y = ix2 a b := ⟨y 0, y 1, eq_ix2 y⟩
    rw [emb_op h t ho]
    exact Finset.mem_filter.mpr ⟨Finset.mem_univ _, rfl, (by have := b.isLt; show (128 * t.val + b.val) / 128 = t.val; omega)⟩
  · intro hi
    obtain ⟨p, a, q, rfl⟩ : ∃ (p : Fin 8) (a : Fin 136) (q : Fin 512), i = ix3 p a q := ⟨i 0, i 1, i 2, eq_ix3 i⟩
    obtain ⟨-, h0, h1⟩ := Finset.mem_filter.mp hi
    obtain rfl : p = h := Fin.ext h0
    replace h1 : q.val / 128 = t.val := h1
    refine Finset.mem_map.mpr ⟨ix2 a ⟨q.val % 128, Nat.mod_lt _ (by decide)⟩, Finset.mem_univ _, (emb_op p t ho inb a _).trans ?_⟩
    exact congrArg (ix3 p a) (Fin.ext (by show 128 * t.val + q.val % 128 = q.val; omega))

theorem set_og (j : Fin 3) {off} (ho : off = ![j.val, 0, 0]) (inb) : (ogM off inb).view.set = ogSet j := by
  ext i
  constructor
  · intro hi
    obtain ⟨y, -, rfl⟩ := Finset.mem_map.mp hi
    obtain ⟨a, b, rfl⟩ : ∃ (a : Fin 128) (b : Fin 1024), y = ix2 a b := ⟨y 0, y 1, eq_ix2 y⟩
    rw [emb_og j ho]
    exact Finset.mem_filter.mpr ⟨Finset.mem_univ _, rfl⟩
  · intro hi
    obtain ⟨p, a, b, rfl⟩ : ∃ (p : Fin 3) (a : Fin 128) (b : Fin 1024), i = ix3 p a b := ⟨i 0, i 1, i 2, eq_ix3 i⟩
    obtain ⟨-, h0⟩ := Finset.mem_filter.mp hi
    obtain rfl : p = j := Fin.ext h0
    exact Finset.mem_map.mpr ⟨ix2 a b, Finset.mem_univ _, emb_og p ho inb a b⟩

theorem set_k (s j : Fin 2) {off} (ho : off = ![s.val, j.val, 0, 0]) (inb) : (kM off inb).view.set = kSet s j := by
  ext i
  constructor
  · intro hi
    obtain ⟨y, -, rfl⟩ := Finset.mem_map.mp hi
    obtain ⟨a, b, rfl⟩ : ∃ (a : Fin 2048) (b : Fin 128), y = ix2 a b := ⟨y 0, y 1, eq_ix2 y⟩
    rw [emb_k s j ho]
    exact Finset.mem_filter.mpr ⟨Finset.mem_univ _, rfl, rfl⟩
  · intro hi
    obtain ⟨p, q, a, b, rfl⟩ : ∃ (p : Fin 2) (q : Fin 2) (a : Fin 2048) (b : Fin 128), i = ix4 p q a b := ⟨i 0, i 1, i 2, i 3, eq_ix4 i⟩
    obtain ⟨-, h0, h1⟩ := Finset.mem_filter.mp hi
    obtain rfl : p = s := Fin.ext h0
    obtain rfl : q = j := Fin.ext h1
    exact Finset.mem_map.mpr ⟨ix2 a b, Finset.mem_univ _, emb_k p q ho inb a b⟩

theorem set_v_sub (s i : Fin 2) {off} (ho : off = ![s.val, i.val, 0, 0]) (inb) : (vM off inb).view.set ⊆ vSet s i := by
  intro x hx
  obtain ⟨y, -, rfl⟩ := Finset.mem_map.mp hx
  obtain ⟨a, b, rfl⟩ : ∃ (a : Fin 2048) (b : Fin 128), y = ix2 a b := ⟨y 0, y 1, eq_ix2 y⟩
  rw [emb_v s i ho]
  exact Finset.mem_filter.mpr ⟨Finset.mem_univ _, rfl, rfl⟩

/-! ### What a transfer writes -/

/-- A head partial landed in slot `j` of the device it was sent to. -/
theorem write_oc (c : Dev nD) (j : Fin 3) (h : Fin 8) {off off'} (ho : off = ![j.val, h.val, 0, 0]) (ho' : off' = ![h.val, 0, 128 * (tgt c j).val]) (inb inb')
    (fd : Vec F S3x8x136x128 .bf16) : ∀ x ∈ ocSet j h, (ocM off inb).view.write (Elt F) fd ((opM off' inb').view.read (Elt F) (OP m c)) Finset.univ x = OC m (tgt c j) x := by
  intro x hx
  rw [← set_oc j h ho inb] at hx
  obtain ⟨y, -, rfl⟩ := Finset.mem_map.mp hx
  obtain ⟨a, b, rfl⟩ : ∃ (a : Fin 136) (b : Fin 128), y = ix2 a b := ⟨y 0, y 1, eq_ix2 y⟩
  rw [View.write_emb_of_mem _ _ (Finset.mem_univ _), View.read_apply, emb_oc j h ho, emb_op h _ ho']
  show opv m c h _ _ = opv m (src (tgt c j) j) h _ _
  rw [src_tgt]

/-- An output block landed in slot `j`. -/
theorem write_og (c : Dev nD) (j : Fin 3) {off} (ho : off = ![j.val, 0, 0]) (inb) (fd : Vec F S3x128x1024 .bf16) :
    ∀ x ∈ ogSet j, (ogM off inb).view.write (Elt F) fd ((Memref.whole cc0_scratch5 : Memref sig .tc .vmem S128x1024 .bf16).view.read (Elt F) (OG m c)) Finset.univ x
      = GC m (tgt c j) x := by
  intro x hx
  rw [← set_og j ho inb] at hx
  obtain ⟨y, -, rfl⟩ := Finset.mem_map.mp hx
  obtain ⟨a, b, rfl⟩ : ∃ (a : Fin 128) (b : Fin 1024), y = ix2 a b := ⟨y 0, y 1, eq_ix2 y⟩
  rw [View.write_emb_of_mem _ _ (Finset.mem_univ _), View.read_apply, emb_og j ho]
  show OG m c _ = OG m (src (tgt c j) j) _
  rw [src_tgt]; rfl

/-- Head `h`'s keys in slot `(s, i)`. -/
theorem write_k (c : Dev nD) (s i : Fin 2) (h : Fin 8) {off off'} (ho : off = ![s.val, i.val, 0, 0]) (ho' : off' = ![0, 0, h.val, 0]) (inb inb')
    (fd : Vec F S2x2x2048x128 .f32) : ∀ x ∈ kSet s i, (kM off inb).view.write (Elt F) fd ((kaM off' inb').view.read (Elt F) (Ka m c)) Finset.univ x = KF m c h x := by
  intro x hx
  rw [← set_k s i ho inb] at hx
  obtain ⟨y, -, rfl⟩ := Finset.mem_map.mp hx
  obtain ⟨a, b, rfl⟩ : ∃ (a : Fin 2048) (b : Fin 128), y = ix2 a b := ⟨y 0, y 1, eq_ix2 y⟩
  rw [View.write_emb_of_mem _ _ (Finset.mem_univ _), View.read_apply, emb_k s i ho, emb_ka h ho']
  rfl

/-- Head `h`'s values in slot `(s, i)`, the columns of ones kept. -/
theorem write_v (c : Dev nD) (s i : Fin 2) (h : Fin 8) {off off'} (ho : off = ![s.val, i.val, 0, 0]) (ho' : off' = ![0, 0, h.val, 0]) (inb inb')
    (fd : Vec F S2x2x2048x136 .f32) (hfd : ∀ x ∈ vSet s i, 128 ≤ (x 3).val → fd x = oneV) :
    ∀ x ∈ vSet s i, (vM off inb).view.write (Elt F) fd ((vaM off' inb').view.read (Elt F) (Va m c)) Finset.univ x = VF m c h x := by
  intro x hx
  by_cases hi : (x 3).val < 128
  · obtain ⟨a, b, rfl⟩ : ∃ (a : Fin 2048) (b : Fin 128), x = (vM off inb).view.emb (ix2 a b) := by
      obtain ⟨-, h0, h1⟩ := Finset.mem_filter.mp hx
      refine ⟨x 2, ⟨(x 3).val, hi⟩, ?_⟩
      refine Eq.trans ?_ (emb_v s i ho inb (x 2) ⟨(x 3).val, hi⟩).symm
      rw [← (Fin.ext h0 : x 0 = s), ← (Fin.ext h1 : x 1 = i)]; exact eq_ix4 x
    rw [View.write_emb_of_mem _ _ (Finset.mem_univ _), View.read_apply, emb_va h ho']
    rw [emb_v s i ho]
    unfold VF; rw [dif_pos (show ((ix4 s i a (⟨b.val, by omega⟩ : Fin 136) : S2x2x2048x136.Idx) 3).val < 128 from b.isLt)]; rfl
  · rw [View.write_of_not_mem, hfd x hx (Nat.le_of_not_lt hi)]
    · unfold VF; rw [dif_neg hi]
    · intro hm
      obtain ⟨y, -, rfl⟩ := Finset.mem_map.mp hm
      obtain ⟨a, b, rfl⟩ : ∃ (a : Fin 2048) (b : Fin 128), y = ix2 a b := ⟨y 0, y 1, eq_ix2 y⟩
      rw [emb_v s i ho] at hi
      exact hi b.isLt

end Cert.KP

end
-- ==== Proof.Comm.lean ====
/-
  What each communicating operation of the kernel needs and gives: the transfers between devices, the barrier, the copies within a device.
-/
module

public import proofs.«01_k».proof.Proof.Views

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What every device knows, what it owes, what it may pay -/

/-- Every remote cell's invariant, its first round begun. -/
def Rec : sProp 𝕄 :=
  bigSep (Finset.univ : Finset (Dev nD × Kd)) fun ck => iprop((∃ κ, cellInv ER (Rd m) κ (kcell ck.1 ck.2)) ∗ reached ER (kcell ck.1 ck.2) 0)

instance Rec_persistent : Persistent (Rec (F := F) m) := by unfold Rec; infer_instance

theorem Rec_elim (c : Dev nD) (k : Kd) : Rec m ⊢ (iprop((∃ κ, cellInv ER (Rd m) κ (kcell c k)) ∗ reached ER (kcell c k) 0) : sProp 𝕄) := by
  unfold Rec
  exact bigSep_elim (Φ := fun ck : Dev nD × Kd => iprop((∃ κ, cellInv ER (Rd (F := F) m) κ (kcell ck.1 ck.2)) ∗ reached ER (kcell ck.1 ck.2) 0))
    (i := (c, k)) (Finset.mem_univ (c, k))

/-- Device `c` owing the payments `s`. -/
def Owes (c : Dev nD) (s : Finset Pm) : sProp 𝕄 := iprop(∃ W, owes (c : Thread nD τ) (Ow c s) W)
/-- The right to make payment `p`. -/
def ptok (c : Dev nD) (p : Pm) : sProp 𝕄 := dutyTok ER (payCell c p) 0 p.2
/-- Credit for one duty of the device's own cell `k`. -/
abbrev crK (c : Dev nD) (k : Kd) : sProp 𝕄 := cred (tallyAt (kcell c k) () (amtK k))

/-- A head partial sent to the device whose slot `j` it fills. -/
theorem wp_sendO (c n : Dev nD) (j : Fin 3) (h : Fin 8) (hn : n = tgt c j) (s : Finset Pm) (hs : (some (0, j), h) ∈ s)
    {off off'} (ho : off = ![j.val, h.val, 0, 0]) (ho' : off' = ![h.val, 0, 128 * (tgt c j).val]) {inb inb'}
    {sS sR : SemLoc sig} (hsS : sS = csem (some (1, j))) (hsR : sR = csem (some (0, j)))
    {hsc : (ocM off inb).view.ref.isScScratch = false} {hsrc : (opM off' inb').view.WordExact} {hdst : (ocM off inb).view.WordExact}
    {hsem : DmaTarget.Typed (nD := nD) (τ := τ) .vmem sR (.remote (n : Thread nD τ) (ocM off inb) sS hsc)}
    {α : Type} {Q : α → sProp 𝕄} {k : PUnit → Prog (TpuEff nD τ sig (Elt F) Λ₀ .tc) α} :
    iprop(Rec m ∗ Owes c s ∗ opP c h n (OP m c) ∗ (∃ f, ocP n j h f) ∗ ptok c (some (1, j), h) ∗ ptok c (some (0, j), h))
      ⊢ iprop(((Owes c (s.erase (some (0, j), h)) ∗ crK c (some (1, j))) -∗ WP c (k ⟨⟩) Q)
        -∗ WP c (.op (.enqueueDma (opM off' inb') (.remote (n : Thread nD τ) (ocM off inb) sS hsc) sR hsrc hdst hsem) k) Q) := by
  subst hn; subst hsS; subst hsR
  unfold Owes ptok ocP opP
  iintro ⟨#HR, ⟨%W, HO⟩, Hs, ⟨%f, Hd⟩, Ht1, Ht2⟩ Hk
  ihave H1 := (Rec_elim m c (some (1, j))) $$ HR
  icases H1 with ⟨⟨%κ1, Hi1⟩, Hr1⟩
  ihave H2 := (Rec_elim m (tgt c j) (some (0, j))) $$ HR
  icases H2 with ⟨⟨%κ2, Hi2⟩, Hr2⟩
  iapply (Rounds.wp_send_pointsTo 𝒱₀ ER (Rd m) (c : Thread nD τ) none (κ₁ := κ1) (κ₂ := κ2) (r₁ := 0) (r₂ := 0) (d₁ := h) (d₂ := h)
    (c' := ((tgt c j : Dev nD) : Thread nD τ)) (sS := csem (some (1, j))) (sem := csem (some (0, j))) (fd := f)
    (by rw [duties_k]; exact Finset.mem_univ _) (by rw [duties_k]; exact Finset.mem_univ _) () () NO rfl
    (amount_k m c (some (1, j)) 0 h) (amount_k m (tgt c j) (some (0, j)) 0 h) (Ow c (s.erase (some (0, j), h))) (Ow_erase c s _ hs) (W := W)
    (by rw [payload_k, set_op h (tgt c j) ho' inb']; exact Entails.rfl)
    (by rw [payload_k, set_oc j h ho inb]; exact Entails.of_eq (pointsTo_congr (write_oc m c j h ho ho' inb inb' f)))) $$ [Hi1 Hi2 Hs Hd HO Ht1 Hr1 Ht2 Hr2]
  · isplitl [Hi1]; · iexact Hi1
    isplitl [Hi2]; · iexact Hi2
    isplitl [Hs]; · rw [set_op h (tgt c j) ho' inb']; iexact Hs
    isplitl [Hd]; · rw [set_oc j h ho inb]; iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [HO]
  · iexists W; iexact HO
  · iexact Hc

theorem set_sg : (Memref.whole cc0_scratch5 : Memref sig .tc .vmem S128x1024 .bf16).view.set = Finset.univ := View.set_whole _

theorem mem_dut_none (d : Fin 8) (j : Fin 3) (h : d.val = j.val) : d ∈ dutK none := by revert h; revert d j; decide

/-- The output block sent to the device whose slot `j` it fills. -/
theorem wp_sendG (c n : Dev nD) (j : Fin 3) (hn : n = tgt c j) (s : Finset Pm) (hs : (some (2, j), (0 : Fin 8)) ∈ s)
    {off} (ho : off = ![j.val, 0, 0]) {inb}
    {sS sR : SemLoc sig} (hsS : sS = csem (some (3, j))) (hsR : sR = csem (some (2, j)))
    {hsc : (ogM off inb).view.ref.isScScratch = false} {hsrc : (Memref.whole cc0_scratch5 : Memref sig .tc .vmem S128x1024 .bf16).view.WordExact}
    {hdst : (ogM off inb).view.WordExact}
    {hsem : DmaTarget.Typed (nD := nD) (τ := τ) .vmem sR (.remote (n : Thread nD τ) (ogM off inb) sS hsc)}
    {α : Type} {Q : α → sProp 𝕄} {k : PUnit → Prog (TpuEff nD τ sig (Elt F) Λ₀ .tc) α} :
    iprop(Rec m ∗ Owes c s ∗ gsP c j (OG m c) ∗ (∃ f, ogP n j f) ∗ ptok c (some (3, j), 0) ∗ ptok c (some (2, j), 0))
      ⊢ iprop(((Owes c (s.erase (some (2, j), 0)) ∗ crK c (some (3, j))) -∗ WP c (k ⟨⟩) Q)
        -∗ WP c (.op (.enqueueDma (Memref.whole cc0_scratch5 : Memref sig .tc .vmem S128x1024 .bf16)
            (.remote (n : Thread nD τ) (ogM off inb) sS hsc) sR hsrc hdst hsem) k) Q) := by
  subst hn; subst hsS; subst hsR
  unfold Owes ptok ogP gsP
  iintro ⟨#HR, ⟨%W, HO⟩, Hs, ⟨%f, Hd⟩, Ht1, Ht2⟩ Hk
  ihave H1 := (Rec_elim m c (some (3, j))) $$ HR
  icases H1 with ⟨⟨%κ1, Hi1⟩, Hr1⟩
  ihave H2 := (Rec_elim m (tgt c j) (some (2, j))) $$ HR
  icases H2 with ⟨⟨%κ2, Hi2⟩, Hr2⟩
  iapply (Rounds.wp_send_pointsTo 𝒱₀ ER (Rd m) (c : Thread nD τ) none (κ₁ := κ1) (κ₂ := κ2) (r₁ := 0) (r₂ := 0) (d₁ := 0) (d₂ := 0)
    (c' := ((tgt c j : Dev nD) : Thread nD τ)) (sS := csem (some (3, j))) (sem := csem (some (2, j))) (fd := f)
    (by rw [duties_k]; exact Finset.mem_singleton_self _) (by rw [duties_k]; exact Finset.mem_singleton_self _) () () NG rfl
    (amount_k m c (some (3, j)) 0 0) (amount_k m (tgt c j) (some (2, j)) 0 0) (Ow c (s.erase (some (2, j), 0))) (Ow_erase c s _ hs) (W := W)
    (q := gq j) (fs := OG m c)
    (by rw [payload_k, set_sg]; exact Entails.rfl)
    (by rw [payload_k, set_og j ho inb]; exact Entails.of_eq (pointsTo_congr (write_og m c j ho inb f)))) $$ [Hi1 Hi2 Hs Hd HO Ht1 Hr1 Ht2 Hr2]
  · isplitl [Hi1]; · iexact Hi1
    isplitl [Hi2]; · iexact Hi2
    isplitl [Hs]; · rw [set_sg]; iexact Hs
    isplitl [Hd]; · rw [set_og j ho inb]; iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [HO]
  · iexists W; iexact HO
  · iexact Hc

/-- A signal of the barrier: the device's slot `j` handed to the device that fills it. -/
theorem wp_sigB (c n : Dev nD) (j : Fin 3) (d : Fin 8) (hd : d.val = j.val) (hn : n = src c j) (s : Finset Pm) (hs : ((none : Kd), d) ∈ s)
    {sem : Sem sig} (hsem : sem = barS)
    {α : Type} {Q : α → sProp 𝕄} {k : PUnit → Prog (TpuEff nD τ sig (Elt F) Λ₀ .tc) α} :
    iprop(Rec m ∗ Owes c s ∗ landP c j ∗ ptok c (none, d))
      ⊢ iprop((Owes c (s.erase (none, d)) -∗ WP c (k ⟨⟩) Q) -∗ WP c (.op (.semSignal (n : Thread nD τ) sem 1) k) Q) := by
  subst hn; subst hsem
  obtain rfl : slotOf d = j := Fin.ext (by have := j.isLt; show d.val % 3 = j.val; omega)
  unfold Owes ptok
  iintro ⟨#HR, ⟨%W, HO⟩, Hp, Ht⟩ Hk
  ihave H1 := (Rec_elim m (src c (slotOf d)) none) $$ HR
  icases H1 with ⟨⟨%κ1, Hi1⟩, Hr1⟩
  iapply (Rounds.wp_signal 𝒱₀ ER (Rd m) (c : Thread nD τ) none (dst := ((src c (slotOf d) : Dev nD) : Thread nD τ)) (sem := barS) (r := 0) (κ := κ1) (d := d)
    (by show d ∈ (Rd (F := F) m).duties (kcell (src c (slotOf d)) none) 0
        rw [duties_k]; exact mem_dut_none d _ hd) (amount_k m (src c (slotOf d)) none 0 d) ()
    (Ow c (s.erase (none, d))) (Ow_erase c s _ hs) (W := W)) $$ [Hi1 HO Ht Hp Hr1]
  · isplitl [Hi1]; · iexact Hi1
    isplitl [HO]; · iexact HO
    isplitl [Ht]; · iexact Ht
    isplitl [Hp]
    · iapply (show landP c (slotOf d) ⊢ (Rd (F := F) m).payload (((src c (slotOf d) : Dev nD) : Thread nD τ), SemLoc.reg barS) 0 d from
        (Entails.of_eq (by show landP c (slotOf d) = landP (tgt (src c (slotOf d)) (slotOf d)) (slotOf d); rw [tgt_src])).trans (Entails.of_eq (payload_k m (src c (slotOf d)) none 0 d).symm))
      iexact Hp
    iexact Hr1
  iintro HO
  iapply Hk
  iexists W; iexact HO

/-- A wait of one transfer's credit on a remote cell, not the last. -/
theorem wp_wO (c : Dev nD) (k : Kd) (n : ℕ) (s : Finset Pm) (hlv : ∀ p ∈ s, lvK k < lvK p.1)
    {sem : DmaSem sig} (hsm : SemLoc.dma sem = csem k) {sp sp' : Space} {sh sh' : Shape} {e e' : EltTy}
    {srcw : Memref sig .tc sp' sh' e'} {dstw : Memref sig .tc sp sh e} (hN : dstw.view.dmaCredit = amtK k)
    {hsrc : srcw.view.WordExact} {hdst : dstw.view.WordExact}
    {α : Type} {Q : α → sProp 𝕄} {kt : PUnit → Prog (TpuEff nD τ sig (Elt F) Λ₀ .tc) α} :
    iprop(Rec m ∗ levAts L lv ∗ Owes c s ∗ crK c k ∗ WX m c k n)
      ⊢ iprop(((Owes c s ∗ WX m c k (n + 1)) -∗ WP c (kt ⟨⟩) Q) -∗ WP c (.op (.waitDma2 sem srcw dstw hsrc hdst) kt) Q) := by
  unfold Owes
  iintro ⟨#HR, #HL, HO, Hc, Hw⟩ Hk
  ihave H1 := (Rec_elim m c k) $$ HR
  icases H1 with ⟨⟨%κ1, Hi1⟩, -⟩
  ihave Hm := (mayWait_of (F := F) c (csem k) s (lvK k) (le_of_eq (lv_k c k ())) hlv) $$ HL
  iapply (wp_waitX m c k n (κ := κ1) hsm hN (wpE_waitDma2_eq 𝒱₀ (c : Thread nD τ) none Set.univ) (Ow c s)) $$ [Hi1 Hc HO Hm Hw]
  · isplitl [Hi1]; · iexact Hi1
    isplitl [Hc]; · iexact Hc
    isplitl [HO]; · iexact HO
    isplitl [Hm]; · iexact Hm
    iexact Hw
  iexact Hk

/-- The last: every payload of the cell. -/
theorem wp_wLast (c : Dev nD) (k : Kd) (n : ℕ) (hn : n + 1 = (dutK k).card) (s : Finset Pm) (hlv : ∀ p ∈ s, lvK k < lvK p.1)
    {sem : DmaSem sig} (hsm : SemLoc.dma sem = csem k) {sp sp' : Space} {sh sh' : Shape} {e e' : EltTy}
    {srcw : Memref sig .tc sp' sh' e'} {dstw : Memref sig .tc sp sh e} (hN : dstw.view.dmaCredit = amtK k)
    {hsrc : srcw.view.WordExact} {hdst : dstw.view.WordExact}
    {α : Type} {Q : α → sProp 𝕄} {kt : PUnit → Prog (TpuEff nD τ sig (Elt F) Λ₀ .tc) α} :
    iprop(Rec m ∗ levAts L lv ∗ Owes c s ∗ crK c k ∗ WX m c k n)
      ⊢ iprop(((Owes c s ∗ semVal (kcell c k) 0 ∗ bigSep (dutK k) (fun d => payK m k c d)) -∗ WP c (kt ⟨⟩) Q)
        -∗ WP c (.op (.waitDma2 sem srcw dstw hsrc hdst) kt) Q) := by
  unfold Owes
  iintro ⟨#HR, #HL, HO, Hc, Hw⟩ Hk
  ihave H1 := (Rec_elim m c k) $$ HR
  icases H1 with ⟨⟨%κ1, Hi1⟩, -⟩
  ihave Hm := (mayWait_of (F := F) c (csem k) s (lvK k) (le_of_eq (lv_k c k ())) hlv) $$ HL
  iapply (wp_waitLast m c k n hn (κ := κ1) hsm hN (wpE_waitDma2_eq 𝒱₀ (c : Thread nD τ) none Set.univ) (Ow c s)) $$ [Hi1 Hc HO Hm Hw]
  · isplitl [Hi1]; · iexact Hi1
    isplitl [Hc]; · iexact Hc
    isplitl [HO]; · iexact HO
    isplitl [Hm]; · iexact Hm
    iexact Hw
  iexact Hk

/-- The barrier's wait: the landing pieces of the three devices this one sends to. -/
theorem wp_waitB (c : Dev nD) (s : Finset Pm) (hlv : ∀ p ∈ s, 1 < lvK p.1) {sem : Sem sig} (hsem : sem = barS)
    {α : Type} {Q : α → sProp 𝕄} {kt : PUnit → Prog (TpuEff nD τ sig (Elt F) Λ₀ .tc) α} :
    iprop(Rec m ∗ levAts L lv ∗ Owes c s ∗ cred (tallyAt (kcell c none) () 3) ∗ atPos ER (kcell c none) 0 ∅ 0)
      ⊢ iprop(((Owes c s ∗ semVal (kcell c none) 0 ∗ landP (tgt c 0) 0 ∗ landP (tgt c 1) 1 ∗ landP (tgt c 2) 2) -∗ WP c (kt ⟨⟩) Q)
        -∗ WP c (.op (.semWait sem 3) kt) Q) := by
  subst hsem
  unfold Owes
  iintro ⟨#HR, #HL, ⟨%W, HO⟩, Hc, Hw⟩ Hk
  ihave H1 := (Rec_elim m c none) $$ HR
  icases H1 with ⟨⟨%κ1, #Hi1⟩, -⟩
  ihave Hm := (mayWait_of (F := F) c (csem none) s 1 (le_of_eq (lv_k c none ())) hlv) $$ HL
  iapply (Rounds.wp_wait_rest_token 𝒱₀ ER (Rd m) (c : Thread nD τ) none (κ := κ1) (wpE_semWait_eq 𝒱₀ (c : Thread nD τ) none Set.univ) (Set.mem_univ _) ()
    (O := Ow c s) (W := W) (R := 0) (m := 0) (T := ∅)
    (by show 0 + 3 = (Rd (F := F) m).expect (kcell c none) 0; rw [expect_k]; rfl)) $$ [Hc HO Hm Hw]
  · isplitr; · iexact Hi1
    isplitl [Hc]; · iexact Hc
    isplitl [HO]; · iexact HO
    isplitl [Hm]; · iexact Hm
    iexact Hw
  iintro ⟨HO, Hat, -, Hp⟩
  imod (Rounds.cell_close ER (Rd m) (Set.mem_univ κ1) (fun h => h) (R := 0 + 1) (duties_later m (kcell c none))) $$ [Hat] with Hz
  · isplitr; · iexact Hi1
    iexact Hat
  iapply Hk
  isplitl [HO]; · iexists _; iexact HO
  isplitl [Hz]; · iexact Hz
  ihave Hp := (show bigSep ((Rd (F := F) m).duties ((c : Thread nD τ), SemLoc.reg barS) 0 \ ∅) (fun d => (Rd m).payload ((c : Thread nD τ), SemLoc.reg barS) 0 d)
      ⊢ bigSep ({0, 1, 2} : Finset (Fin 8)) (fun d => landP (tgt c (slotOf d)) (slotOf d)) from
    Entails.of_eq (by rw [Finset.sdiff_empty]; exact (congrArg (fun D => bigSep D _) (duties_k m c none)).trans (bigSep_congr fun d _ => payload_k m c none 0 d))) $$ Hp
  iapply (show bigSep ({0, 1, 2} : Finset (Fin 8)) (fun d => landP (F := F) (tgt c (slotOf d)) (slotOf d))
      ⊢ iprop(landP (tgt c 0) 0 ∗ landP (tgt c 1) 1 ∗ landP (tgt c 2) 2) from by
    rw [bigSep_insert (by decide), bigSep_insert (by decide), bigSep_singleton]; exact Entails.rfl)
  iexact Hp

/-! ## Copies within a device -/

/-- Head `h`'s keys and values in the device's arrays. -/
def haSet (h : Fin 8) : Finset S1x2048x8x128.Idx := Finset.univ.filter fun i => (i 2).val = h.val
def kaP (c : Dev nD) (h : Fin 8) : sProp 𝕄 := (c : Thread nD τ).loc main_arg2 ↦[haSet h]{fullShare} Ka m c
def vaP (c : Dev nD) (h : Fin 8) : sProp 𝕄 := (c : Thread nD τ).loc main_arg3 ↦[haSet h]{fullShare} Va m c

theorem set_ka (h : Fin 8) {off} (ho : off = ![0, 0, h.val, 0]) (inb) : (kaM off inb).view.set = haSet h := by
  ext i
  constructor
  · intro hi
    obtain ⟨y, -, rfl⟩ := Finset.mem_map.mp hi
    obtain ⟨a, b, rfl⟩ : ∃ (a : Fin 2048) (b : Fin 128), y = ix2 a b := ⟨y 0, y 1, eq_ix2 y⟩
    rw [emb_ka h ho]
    exact Finset.mem_filter.mpr ⟨Finset.mem_univ _, rfl⟩
  · intro hi
    obtain ⟨z, a, q, b, rfl⟩ : ∃ (z : Fin 1) (a : Fin 2048) (q : Fin 8) (b : Fin 128), i = ix4 z a q b := ⟨i 0, i 1, i 2, i 3, eq_ix4 i⟩
    obtain ⟨-, h0⟩ := Finset.mem_filter.mp hi
    obtain rfl : q = h := Fin.ext h0
    obtain rfl : z = 0 := Subsingleton.elim _ _
    exact Finset.mem_map.mpr ⟨ix2 a b, Finset.mem_univ _, emb_ka q ho inb a b⟩

theorem set_va (h : Fin 8) {off} (ho : off = ![0, 0, h.val, 0]) (inb) : (vaM off inb).view.set = haSet h := by
  ext i
  constructor
  · intro hi
    obtain ⟨y, -, rfl⟩ := Finset.mem_map.mp hi
    obtain ⟨a, b, rfl⟩ : ∃ (a : Fin 2048) (b : Fin 128), y = ix2 a b := ⟨y 0, y 1, eq_ix2 y⟩
    rw [emb_va h ho]
    exact Finset.mem_filter.mpr ⟨Finset.mem_univ _, rfl⟩
  · intro hi
    obtain ⟨z, a, q, b, rfl⟩ : ∃ (z : Fin 1) (a : Fin 2048) (q : Fin 8) (b : Fin 128), i = ix4 z a q b := ⟨i 0, i 1, i 2, i 3, eq_ix4 i⟩
    obtain ⟨-, h0⟩ := Finset.mem_filter.mp hi
    obtain rfl : q = h := Fin.ext h0
    obtain rfl : z = 0 := Subsingleton.elim _ _
    exact Finset.mem_map.mpr ⟨ix2 a b, Finset.mem_univ _, emb_va q ho inb a b⟩

abbrev NK : ℕ := (cc0_scratch0 : Ref sig .tc).dmaCredit S2048x128 .f32
abbrev NV : ℕ := (cc0_scratch1 : Ref sig .tc).dmaCredit S2048x128 .f32
theorem NK_pos : 0 < NK := sig.dmaCredit_pos _ _ _ S2048x128 .f32 (by decide)
theorem NV_pos : 0 < NV := sig.dmaCredit_pos _ _ _ S2048x128 .f32 (by decide)

/-- A key slot holding head `h`, its copy in flight; landed; free. A value slot the same, its columns of ones in place. -/
def kHas (c : Dev nD) (s i : Fin 2) (h : Fin 8) : sProp 𝕄 := iprop((loc0 c ↦[kSet s i]{fullShare} KF m c h) ∗ kaP m c h)
def vHas (c : Dev nD) (s i : Fin 2) (h : Fin 8) : sProp 𝕄 := iprop((loc1 c ↦[vSet s i]{fullShare} VF m c h) ∗ vaP m c h)
def kFl (c : Dev nD) (s i : Fin 2) (h : Fin 8) : sProp 𝕄 := Transfers.Flight EC (c : Thread nD τ) (.dma (kSem s i)) () NK (kHas m c s i h)
def vFl (c : Dev nD) (s i : Fin 2) (h : Fin 8) : sProp 𝕄 := Transfers.Flight EC (c : Thread nD τ) (.dma (vSem s i)) () NV (vHas m c s i h)
def kFree (c : Dev nD) (s i : Fin 2) : sProp 𝕄 := iprop(semVal ((c : Thread nD τ), SemLoc.dma (kSem s i)) 0 ∗ ∃ f, loc0 c ↦[kSet s i]{fullShare} f)
def vFree (c : Dev nD) (s i : Fin 2) : sProp 𝕄 :=
  iprop(semVal ((c : Thread nD τ), SemLoc.dma (vSem s i)) 0 ∗ ∃ f : Vec F S2x2x2048x136 .f32, ⌜∀ x ∈ vSet s i, 128 ≤ (x 3).val → f x = oneV⌝ ∗ loc1 c ↦[vSet s i]{fullShare} f)

theorem wp_issueK (c : Dev nD) (s i : Fin 2) (h : Fin 8) {off off'} (ho : off = ![s.val, i.val, 0, 0]) (ho' : off' = ![0, 0, h.val, 0]) {inb inb'}
    {sm : SemLoc sig} (hsm : sm = .dma (kSem s i))
    {hsrc : (kaM off' inb').view.WordExact} {hdst : (kM off inb).view.WordExact} {hsem : DmaTarget.Typed (nD := nD) (τ := τ) (p := .tc) .hbm sm (.here (kM off inb))}
    {α : Type} {Q : α → sProp 𝕄} {k : PUnit → Prog (TpuEff nD τ sig (Elt F) Λ₀ .tc) α} :
    iprop(kFree c s i ∗ kaP m c h)
      ⊢ iprop((kFl m c s i h -∗ WP c (k ⟨⟩) Q) -∗ WP c (.op (.enqueueDma (kaM off' inb') (.here (kM off inb)) sm hsrc hdst hsem) k) Q) := by
  subst hsm
  unfold kFree kaP kFl
  iintro ⟨⟨Hv, ⟨%f, Hd⟩⟩, Hs⟩ Hk
  iapply (Transfers.wp_dmaLocal EC 𝒱₀ (c : Thread nD τ) none (src := kaM off' inb') (dst := kM off inb) (Sd := kSet s i) (fd := f) (fs := Ka m c) () NK rfl NK_pos
    (subset_of_eq (set_k s i ho inb))) $$ [Hs Hd Hv]
  · isplitl [Hs]; · rw [set_ka h ho' inb']; iexact Hs
    isplitl [Hd]; · iexact Hd
    iexact Hv
  iintro HF
  iapply Hk
  iapply (Transfers.Flight_mono EC (c : Thread nD τ) (D' := kHas m c s i h) (by
    unfold kHas kaP
    rw [set_ka h ho' inb']
    exact sep_mono_left (Entails.of_eq (pointsTo_congr (write_k m c s i h ho ho' inb inb' f))))) $$ HF

theorem wp_issueV (c : Dev nD) (s i : Fin 2) (h : Fin 8) {off off'} (ho : off = ![s.val, i.val, 0, 0]) (ho' : off' = ![0, 0, h.val, 0]) {inb inb'}
    {sm : SemLoc sig} (hsm : sm = .dma (vSem s i))
    {hsrc : (vaM off' inb').view.WordExact} {hdst : (vM off inb).view.WordExact} {hsem : DmaTarget.Typed (nD := nD) (τ := τ) (p := .tc) .hbm sm (.here (vM off inb))}
    {α : Type} {Q : α → sProp 𝕄} {k : PUnit → Prog (TpuEff nD τ sig (Elt F) Λ₀ .tc) α} :
    iprop(vFree c s i ∗ vaP m c h)
      ⊢ iprop((vFl m c s i h -∗ WP c (k ⟨⟩) Q) -∗ WP c (.op (.enqueueDma (vaM off' inb') (.here (vM off inb)) sm hsrc hdst hsem) k) Q) := by
  subst hsm
  unfold vFree vaP vFl
  iintro ⟨⟨Hv, ⟨%f, %hf, Hd⟩⟩, Hs⟩ Hk
  iapply (Transfers.wp_dmaLocal EC 𝒱₀ (c : Thread nD τ) none (src := vaM off' inb') (dst := vM off inb) (Sd := vSet s i) (fd := f) (fs := Va m c) () NV rfl NV_pos
    (set_v_sub s i ho inb)) $$ [Hs Hd Hv]
  · isplitl [Hs]; · rw [set_va h ho' inb']; iexact Hs
    isplitl [Hd]; · iexact Hd
    iexact Hv
  iintro HF
  iapply Hk
  iapply (Transfers.Flight_mono EC (c : Thread nD τ) (D' := vHas m c s i h) (by
    unfold vHas vaP
    rw [set_va h ho' inb']
    exact sep_mono_left (Entails.of_eq (pointsTo_congr (write_v m c s i h ho ho' inb inb' f hf))))) $$ HF

/-- A wait of a copy within the device. -/
theorem wp_waitF (c : Dev nD) (s : Finset Pm) (hs : ∀ p ∈ s, 0 < lvK p.1) {D : sProp 𝕄} {N : ℕ} (sem' : DmaSem sig) (hk : ∀ k, csem k ≠ .dma sem')
    {sem : DmaSem sig} (hsm : sem = sem') {sp sp' : Space} {sh sh' : Shape} {e e' : EltTy}
    {srcw : Memref sig .tc sp' sh' e'} {dstw : Memref sig .tc sp sh e} (hN : dstw.view.dmaCredit = N)
    {hsrc : srcw.view.WordExact} {hdst : dstw.view.WordExact}
    {α : Type} {Q : α → sProp 𝕄} {kt : PUnit → Prog (TpuEff nD τ sig (Elt F) Λ₀ .tc) α} :
    iprop(levAts L lv ∗ Owes c s ∗ Transfers.Flight EC (c : Thread nD τ) (.dma sem') () N D)
      ⊢ iprop(((Owes c s ∗ D ∗ semVal ((c : Thread nD τ), SemLoc.dma sem') 0) -∗ WP c (kt ⟨⟩) Q)
        -∗ WP c (.op (.waitDma2 sem srcw dstw hsrc hdst) kt) Q) := by
  subst hsm
  unfold Owes
  iintro ⟨#HL, ⟨%W, HO⟩, HF⟩ Hk
  ihave Hm := (mayWait_of (F := F) c (.dma sem) s 0 (le_of_eq (lv_other c _ hk ())) hs) $$ HL
  iapply (Transfers.wp_waitLocalO EC 𝒱₀ (c : Thread nD τ) none () hN (D := D) (O := Ow c s) (W := W)) $$ [HF HO Hm]
  · isplitl [HF]; · iexact HF
    isplitl [HO]; · iexact HO
    iexact Hm
  iintro ⟨HD, Hv, HO⟩
  iapply Hk
  isplitl [HO]; · iexists _; iexact HO
  isplitl [HD] <;> iassumption

theorem kSem_ne (s i : Fin 2) : ∀ k, csem k ≠ .dma (kSem s i) := by revert s i; decide
theorem vSem_ne (s i : Fin 2) : ∀ k, csem k ≠ .dma (vSem s i) := by revert s i; decide
theorem oSem_ne : ∀ k, csem k ≠ .dma oSem := by decide

end Cert.KP

end
-- ==== Proof.Steps.lean ====
/-
  The loads and stores of a head partial, and the pieces a buffer is split into.
-/
module

public import proofs.«01_k».proof.Proof.Comm

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Loads through a window's memref -/

theorem wp_ldOwns (c : Dev nD) {cs : CoreSpace} {sh : Shape} {e : EltTy} {a : Memref sig .tc cs sh e} {q : PosShare TreeShare} {X : sh.Idx → Elt F e}
    {r : Rect sh} {hl : a.view.LoadsAt r.toLoadRect}
    {α : Type} {Q : α → sProp 𝕄} {k : (r.shape.Idx → Elt F e) → Prog (TpuEff nD τ sig (Elt F) Λ₀ .tc) α} :
    (owns (c : Thread nD τ) a q X : sProp 𝕄)
      ⊢ iprop((owns (c : Thread nD τ) a q X -∗ WP c (k fun x => X (r.emb x)) Q) -∗ WP c (.op (.load a r.toLoadRect hl) k) Q) := by
  unfold owns
  iintro ⟨%f, %hf, H⟩ Hk
  subst hf
  iapply (wp_load_rect 𝒱₀ (c : Thread nD τ) none Set.univ (m := a) (r := r) (S := a.view.set) (View.set_slice_subset _ r)) $$ H
  iintro H
  iapply Hk
  iexists f
  isplitr; · ipureintro; rfl
  iexact H

/-- Contents with a rectangle replaced. -/
def updR {sh : Shape} {α : Type} (X : sh.Idx → α) (r : Rect sh) (w : r.shape.Idx → α) : sh.Idx → α := fun i =>
  open Classical in if h : ∃ x, r.emb x = i then w h.choose else X i

theorem updR_emb {sh : Shape} {α : Type} (X : sh.Idx → α) (r : Rect sh) (w : r.shape.Idx → α) (x : r.shape.Idx) : updR X r w (r.emb x) = w x := by
  unfold updR
  have h : ∃ y, r.emb y = r.emb x := ⟨x, rfl⟩
  rw [dif_pos h]; exact congrArg w (r.emb.injective h.choose_spec)
theorem updR_other {sh : Shape} {α : Type} (X : sh.Idx → α) (r : Rect sh) (w : r.shape.Idx → α) (i : sh.Idx) (h : ∀ x, r.emb x ≠ i) : updR X r w i = X i := by
  unfold updR; rw [dif_neg fun ⟨x, hx⟩ => h x hx]

theorem wp_stOwns (c : Dev nD) {cs : CoreSpace} {sh : Shape} {e : EltTy} {a : Memref sig .tc cs sh e} {X : sh.Idx → Elt F e}
    {r : Rect sh} {w : r.shape.Idx → Elt F e} {hx : (a.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    (owns (c : Thread nD τ) a fullShare X : sProp 𝕄)
      ⊢ iprop((owns (c : Thread nD τ) a fullShare (updR X r w) -∗ WP c (k ⟨⟩) Q) -∗ WP c (.op (.store a r w Finset.univ hx hm) k) Q) := by
  unfold owns
  iintro ⟨%f, %hf, H⟩ Hk
  subst hf
  iapply (wp_store 𝒱₀ (c : Thread nD τ) none Set.univ (m := a) (r := r) (Mk := Finset.univ) (S := a.view.set) (by
    rw [View.setOn_univ]; exact View.set_slice_subset _ r)) $$ H
  iintro H
  iapply Hk
  iexists _
  isplitr
  rotate_left
  · iexact H
  · ipureintro
    funext i
    by_cases h : ∃ x, r.emb x = i
    · obtain ⟨x, rfl⟩ := h
      rw [updR_emb, View.read_apply]
      have := View.write_emb_of_mem (v := a.access r) f w (Finset.mem_univ x)
      refine (congrArg _ this).trans ?_
      simp
    · rw [updR_other _ _ _ _ fun x hx => h ⟨x, hx⟩, View.read_apply, View.read_apply]
      refine congrArg _ (View.write_of_not_mem _ _ _ ?_)
      intro hm
      obtain ⟨x, -, hx⟩ := Finset.mem_map.mp hm
      exact h ⟨x, a.view.emb.injective hx⟩

/-- A load of contents known through the rectangle. -/
theorem wp_ldAt (c : Dev nD) {cs : CoreSpace} {sh : Shape} {e : EltTy} {a : Memref sig .tc cs sh e} {q : PosShare TreeShare} {r : Rect sh}
    {S : Finset (Idx ((a.access r).loc (c : Thread nD τ)))} {f : Buf (Elt F) ((a.access r).loc (c : Thread nD τ))} {X : r.shape.Idx → Elt F e}
    {hl : a.view.LoadsAt r.toLoadRect} (hS : (a.access r).set ⊆ S) (hX : (a.access r).read (Elt F) f = X)
    {α : Type} {Q : α → sProp 𝕄} {k : (r.shape.Idx → Elt F e) → Prog (TpuEff nD τ sig (Elt F) Λ₀ .tc) α} :
    ((a.access r).loc (c : Thread nD τ) ↦[S]{q} f : sProp 𝕄)
      ⊢ iprop((((a.access r).loc (c : Thread nD τ) ↦[S]{q} f) -∗ WP c (k X) Q) -∗ WP c (.op (.load a r.toLoadRect hl) k) Q) := by
  subst hX
  exact wp_load_rect 𝒱₀ (c : Thread nD τ) none Set.univ hS

/-! ## Loads of the key and value slots -/

theorem wp_ldK (c : Dev nD) (s i : Fin 2) (h : Fin 8) {off} (ho : off = ![s.val, i.val, 0, 0])
    {inb : ∀ a, off a + S1x1x2048x128.size a ≤ S2x2x2048x128.size a}
    {hl : (Memref.whole cc0_scratch0 : Memref sig .tc .vmem S2x2x2048x128 .f32).view.LoadsAt (Rect.unit (s := S2x2x2048x128) off S1x1x2048x128.size inb).toLoadRect}
    {α : Type} {Q : α → sProp 𝕄} {k : Vec F S1x1x2048x128 .f32 → Prog (TpuEff nD τ sig (Elt F) Λ₀ .tc) α} :
    (loc0 c ↦[kSet s i]{fullShare} KF m c h : sProp 𝕄)
      ⊢ iprop(((loc0 c ↦[kSet s i]{fullShare} KF m c h) -∗ WP c (k (Kh m c h)) Q)
        -∗ WP c (.op (.load (Memref.whole cc0_scratch0 : Memref sig .tc .vmem S2x2x2048x128 .f32) (Rect.unit (s := S2x2x2048x128) off S1x1x2048x128.size inb).toLoadRect hl) k) Q) := by
  have e : ((Memref.whole cc0_scratch0 : Memref sig .tc .vmem S2x2x2048x128 .f32).access (Rect.unit (s := S2x2x2048x128) off S1x1x2048x128.size inb)).read (Elt F) (KF m c h) = Kh m c h := by
    subst ho
    funext x
    rw [View.read_apply]
    show KF m c h ((Rect.unit (s := S2x2x2048x128) _ S1x1x2048x128.size inb).emb x) = _
    unfold KF Kh
    have e2 : ((Rect.unit (s := S2x2x2048x128) _ S1x1x2048x128.size inb).emb x) 2 = x 2 := Fin.ext (by rw [Rect.emb_apply]; simp [Rect.unit])
    have e3 : ((Rect.unit (s := S2x2x2048x128) _ S1x1x2048x128.size inb).emb x) 3 = x 3 := Fin.ext (by rw [Rect.emb_apply]; simp [Rect.unit])
    rw [e2, e3]
  have hsub : ((Memref.whole cc0_scratch0 : Memref sig .tc .vmem S2x2x2048x128 .f32).access (Rect.unit (s := S2x2x2048x128) off S1x1x2048x128.size inb)).set ⊆ kSet s i := by
    rw [← set_k s i ho inb]; exact subset_of_eq (View.set_reshape _ _).symm
  exact wp_ldAt c (a := (Memref.whole cc0_scratch0 : Memref sig .tc .vmem S2x2x2048x128 .f32)) (r := Rect.unit (s := S2x2x2048x128) off S1x1x2048x128.size inb) hsub e

theorem wp_ldV (c : Dev nD) (s i : Fin 2) (h : Fin 8) {off} (ho : off = ![s.val, i.val, 0, 0])
    {inb : ∀ a, off a + S1x1x2048x136.size a ≤ S2x2x2048x136.size a}
    {hl : (Memref.whole cc0_scratch1 : Memref sig .tc .vmem S2x2x2048x136 .f32).view.LoadsAt (Rect.unit (s := S2x2x2048x136) off S1x1x2048x136.size inb).toLoadRect}
    {α : Type} {Q : α → sProp 𝕄} {k : Vec F S1x1x2048x136 .f32 → Prog (TpuEff nD τ sig (Elt F) Λ₀ .tc) α} :
    (loc1 c ↦[vSet s i]{fullShare} VF m c h : sProp 𝕄)
      ⊢ iprop(((loc1 c ↦[vSet s i]{fullShare} VF m c h) -∗ WP c (k (Vh m c h)) Q)
        -∗ WP c (.op (.load (Memref.whole cc0_scratch1 : Memref sig .tc .vmem S2x2x2048x136 .f32) (Rect.unit (s := S2x2x2048x136) off S1x1x2048x136.size inb).toLoadRect hl) k) Q) := by
  have e : ((Memref.whole cc0_scratch1 : Memref sig .tc .vmem S2x2x2048x136 .f32).access (Rect.unit (s := S2x2x2048x136) off S1x1x2048x136.size inb)).read (Elt F) (VF m c h) = Vh m c h := by
    subst ho
    funext x
    rw [View.read_apply]
    show VF m c h ((Rect.unit (s := S2x2x2048x136) _ S1x1x2048x136.size inb).emb x) = _
    unfold VF Vh
    have e2 : ((Rect.unit (s := S2x2x2048x136) _ S1x1x2048x136.size inb).emb x) 2 = x 2 := Fin.ext (by rw [Rect.emb_apply]; simp [Rect.unit])
    have e3 : ((Rect.unit (s := S2x2x2048x136) _ S1x1x2048x136.size inb).emb x) 3 = x 3 := Fin.ext (by rw [Rect.emb_apply]; simp [Rect.unit])
    rw [e2, e3]
  have hsub : ((Memref.whole cc0_scratch1 : Memref sig .tc .vmem S2x2x2048x136 .f32).access (Rect.unit (s := S2x2x2048x136) off S1x1x2048x136.size inb)).set ⊆ vSet s i := by
    subst ho
    intro x hx
    obtain ⟨y, -, rfl⟩ := Finset.mem_map.mp hx
    refine Finset.mem_filter.mpr ⟨Finset.mem_univ _, ?_, ?_⟩
    · show (((Rect.unit (s := S2x2x2048x136) _ S1x1x2048x136.size inb).emb y) 0).val = s.val
      have : (y 0).val < 1 := (y 0).isLt
      rw [Rect.emb_apply]; simp [Rect.unit]; exact Nat.lt_one_iff.mp this
    · show (((Rect.unit (s := S2x2x2048x136) _ S1x1x2048x136.size inb).emb y) 1).val = i.val
      have : (y 1).val < 1 := (y 1).isLt
      rw [Rect.emb_apply]; simp [Rect.unit]; exact Nat.lt_one_iff.mp this
  exact wp_ldAt c (a := (Memref.whole cc0_scratch1 : Memref sig .tc .vmem S2x2x2048x136 .f32)) (r := Rect.unit (s := S2x2x2048x136) off S1x1x2048x136.size inb) hsub e

/-! ## A head's slab of the partials -/

abbrev opW : Memref sig .tc .vmem S8x136x512 .bf16 := Memref.whole cc0_scratch2

theorem emb_slab (h : Fin 8) (n : ℕ) (r0 : ℕ) {off} (ho : off = ![h.val, r0, 0]) (hr : r0 + n ≤ 136) (inb : ∀ a, off a + (⟨3, ![1, n, 512]⟩ : Shape).size a ≤ S8x136x512.size a)
    (a : Fin n) (q : Fin 512) :
    (Rect.unit (s := S8x136x512) off (⟨3, ![1, n, 512]⟩ : Shape).size inb).emb (ix3 (0 : Fin 1) a q) = (ix3 h (⟨r0 + a.val, by omega⟩ : Fin 136) q : S8x136x512.Idx) := by
  subst ho
  funext x; apply Fin.ext; rw [Rect.emb_apply]; fin_cases x <;> simp [Rect.unit, ix3]

theorem set_slab_sub (h : Fin 8) (n : ℕ) (r0 : ℕ) {off} (ho : off = ![h.val, r0, 0]) (hr : r0 + n ≤ 136) (inb : ∀ a, off a + (⟨3, ![1, n, 512]⟩ : Shape).size a ≤ S8x136x512.size a) :
    (opW.access (Rect.unit (s := S8x136x512) off (⟨3, ![1, n, 512]⟩ : Shape).size inb)).set ⊆ slabSet h := by
  intro x hx
  obtain ⟨y, -, rfl⟩ := Finset.mem_map.mp hx
  obtain ⟨z, a, q, rfl⟩ : ∃ (z : Fin 1) (a : Fin n) (q : Fin 512), y = ix3 z a q := ⟨y 0, y 1, y 2, eq_ix3 y⟩
  obtain rfl : z = 0 := Subsingleton.elim _ _
  show (Rect.unit (s := S8x136x512) off (⟨3, ![1, n, 512]⟩ : Shape).size inb).emb (ix3 (0 : Fin 1) a q) ∈ slabSet h
  rw [emb_slab h n r0 ho hr]
  exact Finset.mem_filter.mpr ⟨Finset.mem_univ _, rfl⟩

/-- A slab's contents: `P`, its row 129 replaced by `M`. -/
def slabV (P : Vec F S1x136x512 .bf16) (M : Vec F S1x1x512 .bf16) (r : Fin 136) (q : Fin 512) : F .bf16 :=
  if r.val = 129 then M (ix3 0 0 q) else P (ix3 0 r q)

theorem slab_first (h : Fin 8) (f : Vec F S8x136x512 .bf16) (P : Vec F S1x136x512 .bf16) {o17} (h17 : o17 = ![h.val, 0, 0])
    (i17 : ∀ a, o17 a + S1x136x512.size a ≤ S8x136x512.size a) (r : Fin 136) (q : Fin 512) :
    (opW.access (Rect.unit (s := S8x136x512) o17 S1x136x512.size i17)).write (Elt F) f P Finset.univ (ix3 h r q) = P (ix3 0 r q) := by
  have e : (ix3 h r q : S8x136x512.Idx) = (opW.access (Rect.unit (s := S8x136x512) o17 S1x136x512.size i17)).emb (ix3 (0 : Fin 1) r q) := by
    refine Eq.trans ?_ (emb_slab h 136 0 h17 (by omega) i17 r q).symm
    congr 1; exact Fin.ext (Nat.zero_add _).symm
  rw [e]
  exact View.write_emb_of_mem _ _ (Finset.mem_univ _)

theorem emb_two (h : Fin 8) {o19} (h19 : o19 = ![h.val, 128, 0]) (i19 : ∀ a, o19 a + S1x2x512.size a ≤ S8x136x512.size a) (a : Fin 2) (q : Fin 512) :
    (opW.access (Rect.unit (s := S8x136x512) o19 S1x2x512.size i19)).emb (ix3 (0 : Fin 1) a q) = (ix3 h (⟨128 + a.val, by omega⟩ : Fin 136) q : S8x136x512.Idx) :=
  emb_slab h 2 128 h19 (by omega) i19 a q

theorem upd_two (old : Vec F S1x2x512 .bf16) (M : Vec F S1x1x512 .bf16) (sl : S1x2x512.Slices ![0, 1, 0] S1x1x512) (q : Fin 512) :
    updateSlice old M ![0, 1, 0] sl (ix3 (0 : Fin 1) (0 : Fin 2) q) = old (ix3 (0 : Fin 1) (0 : Fin 2) q)
      ∧ updateSlice old M ![0, 1, 0] sl (ix3 (0 : Fin 1) (1 : Fin 2) q) = M (ix3 0 0 q) := by
  unfold updateSlice
  constructor
  · rw [dif_neg]
    intro hh
    have : 1 ≤ 0 := (hh 1).1
    omega
  · rw [dif_pos]
    · congr 1
      funext b; apply Fin.ext; fin_cases b <;> rfl
    · intro a; fin_cases a
      · exact ⟨Nat.le_refl _, Nat.zero_lt_one⟩
      · exact ⟨Nat.le_refl _, (by decide : (1 : ℕ) < 1 + 1)⟩
      · exact ⟨Nat.zero_le _, by show q.val < 0 + 512; have := q.isLt; omega⟩

theorem slab_second (h : Fin 8) (f : Vec F S8x136x512 .bf16) (W : Vec F S1x2x512 .bf16) {o19} (h19 : o19 = ![h.val, 128, 0])
    (i19 : ∀ a, o19 a + S1x2x512.size a ≤ S8x136x512.size a) (a : Fin 2) (q : Fin 512) :
    (opW.access (Rect.unit (s := S8x136x512) o19 S1x2x512.size i19)).write (Elt F) f W Finset.univ (ix3 h (⟨128 + a.val, by omega⟩ : Fin 136) q) = W (ix3 0 a q) := by
  rw [← emb_two h h19 i19 a q]
  exact View.write_emb_of_mem _ _ (Finset.mem_univ _)

theorem slab_other (h : Fin 8) (f : Vec F S8x136x512 .bf16) (W : Vec F S1x2x512 .bf16) {o19} (h19 : o19 = ![h.val, 128, 0])
    (i19 : ∀ a, o19 a + S1x2x512.size a ≤ S8x136x512.size a) (r : Fin 136) (q : Fin 512) (hr : r.val < 128 ∨ 130 ≤ r.val) :
    (opW.access (Rect.unit (s := S8x136x512) o19 S1x2x512.size i19)).write (Elt F) f W Finset.univ (ix3 h r q) = f (ix3 h r q) := by
  refine View.write_of_not_mem _ _ _ ?_
  intro hm
  obtain ⟨y, -, hy⟩ := Finset.mem_map.mp hm
  obtain ⟨z, a, q', rfl⟩ : ∃ (z : Fin 1) (a : Fin 2) (q : Fin 512), y = ix3 z a q := ⟨y 0, y 1, y 2, eq_ix3 y⟩
  obtain rfl : z = 0 := Subsingleton.elim _ _
  have e := (emb_two h h19 i19 a q').symm.trans hy
  have := congrArg Fin.val (congrFun e 1)
  have : 128 + a.val = r.val := this
  have := a.isLt
  omega

theorem slab_read (h : Fin 8) (g : Vec F S8x136x512 .bf16) {o19} (h19 : o19 = ![h.val, 128, 0])
    (i19 : ∀ a, o19 a + S1x2x512.size a ≤ S8x136x512.size a) (a : Fin 2) (q : Fin 512) :
    (opW.access (Rect.unit (s := S8x136x512) o19 S1x2x512.size i19)).read (Elt F) g (ix3 0 a q) = g (ix3 h (⟨128 + a.val, by omega⟩ : Fin 136) q) :=
  congrArg g (emb_two h h19 i19 a q)

/-- The slab after the head's two stores. -/
theorem write_slab (h : Fin 8) (f : Vec F S8x136x512 .bf16) (P : Vec F S1x136x512 .bf16) (M : Vec F S1x1x512 .bf16)
    {o17 o19} (h17 : o17 = ![h.val, 0, 0]) (h19 : o19 = ![h.val, 128, 0])
    (i17 : ∀ a, o17 a + S1x136x512.size a ≤ S8x136x512.size a) (i19 : ∀ a, o19 a + S1x2x512.size a ≤ S8x136x512.size a)
    (sl : S1x2x512.Slices ![0, 1, 0] S1x1x512) (old : Vec F S1x2x512 .bf16)
    (hold : old = (opW.access (Rect.unit (s := S8x136x512) o19 S1x2x512.size i19)).read (Elt F)
      ((opW.access (Rect.unit (s := S8x136x512) o17 S1x136x512.size i17)).write (Elt F) f P Finset.univ)) (r : Fin 136) (q : Fin 512) :
    (opW.access (Rect.unit (s := S8x136x512) o19 S1x2x512.size i19)).write (Elt F)
      ((opW.access (Rect.unit (s := S8x136x512) o17 S1x136x512.size i17)).write (Elt F) f P Finset.univ)
      (updateSlice old M ![0, 1, 0] sl) Finset.univ (ix3 h r q) = slabV P M r q := by
  unfold slabV
  by_cases h0 : r.val = 128
  · have hr : r = (⟨128 + (0 : Fin 2).val, by decide⟩ : Fin 136) := Fin.ext h0
    rw [if_neg (by omega), hr]
    refine (slab_second h _ _ h19 i19 0 q).trans ((upd_two old M sl q).1.trans ?_)
    rw [hold]
    exact (slab_read h _ h19 i19 0 q).trans (slab_first h f P h17 i17 _ q)
  by_cases h1 : r.val = 129
  · have hr : r = (⟨128 + (1 : Fin 2).val, by decide⟩ : Fin 136) := Fin.ext h1
    rw [if_pos h1, hr]
    exact (slab_second h _ _ h19 i19 1 q).trans (upd_two old M sl q).2
  · rw [if_neg h1]
    exact (slab_other h _ _ h19 i19 r q (by omega)).trans (slab_first h f P h17 i17 _ q)

/-- A head's partial stored: the whole slab, then the row of the maxima. -/
theorem wp_slab (c : Dev nD) (h : Fin 8) {o17 o18 o19} (h17 : o17 = ![h.val, 0, 0]) (h18 : o18 = ![h.val, 129, 0]) (h19 : o19 = ![h.val, 128, 0])
    {i17 : ∀ a, o17 a + S1x136x512.size a ≤ S8x136x512.size a} {i18 : ∀ a, o18 a + S1x1x512.size a ≤ S8x136x512.size a}
    {i19 : ∀ a, o19 a + S1x2x512.size a ≤ S8x136x512.size a} {sl : S1x2x512.Slices ![0, 1, 0] S1x1x512}
    {P : Vec F S1x136x512 .bf16} (hP : P = oVec m c h) {M : Vec F S1x1x512 .bf16} (hM : M = mVec m c h)
    {hl17 : opW.view.LoadsAt (Rect.unit (s := S8x136x512) o17 S1x136x512.size i17).toLoadRect} {hs17 : (opW.access (Rect.unit (s := S8x136x512) o17 S1x136x512.size i17)).Stores Finset.univ}
    {hl18 : opW.view.LoadsAt (Rect.unit (s := S8x136x512) o18 S1x1x512.size i18).toLoadRect}
    {hl19 : opW.view.LoadsAt (Rect.unit (s := S8x136x512) o19 S1x2x512.size i19).toLoadRect} {hs19 : (opW.access (Rect.unit (s := S8x136x512) o19 S1x2x512.size i19)).Stores Finset.univ}
    {hm17 hm19}
    {α : Type} {Q : α → sProp 𝕄} {k : PUnit → Prog (TpuEff nD τ sig (Elt F) Λ₀ .tc) α} :
    (iprop(∃ f, loc2 c ↦[slabSet h]{fullShare} f) : sProp 𝕄)
      ⊢ iprop(((loc2 c ↦[slabSet h]{fullShare} OP m c) -∗ WP c (k ⟨⟩) Q)
        -∗ WP c (.op (.load opW (Rect.unit (s := S8x136x512) o17 S1x136x512.size i17).toLoadRect hl17) fun _ =>
            .op (.store opW (Rect.unit (s := S8x136x512) o17 S1x136x512.size i17) P Finset.univ hs17 hm17) fun _ =>
            .op (.load opW (Rect.unit (s := S8x136x512) o18 S1x1x512.size i18).toLoadRect hl18) fun _ =>
            .op (.load opW (Rect.unit (s := S8x136x512) o19 S1x2x512.size i19).toLoadRect hl19) fun old =>
            .op (.store opW (Rect.unit (s := S8x136x512) o19 S1x2x512.size i19) (updateSlice old M ![0, 1, 0] sl) Finset.univ hs19 hm19) k) Q) := by
  subst hP; subst hM
  iintro ⟨%f, H⟩ Hk
  iapply (wp_load_rect 𝒱₀ (c : Thread nD τ) none Set.univ (m := opW) (r := Rect.unit (s := S8x136x512) o17 S1x136x512.size i17) (S := slabSet h) (set_slab_sub h 136 0 h17 (by omega) i17)) $$ H
  iintro H
  iapply (wp_store 𝒱₀ (c : Thread nD τ) none Set.univ (m := opW) (r := Rect.unit (s := S8x136x512) o17 S1x136x512.size i17) (Mk := Finset.univ) (S := slabSet h)
    (by rw [View.setOn_univ]; exact set_slab_sub h 136 0 h17 (by omega) i17)) $$ H
  iintro H
  iapply (wp_load_rect 𝒱₀ (c : Thread nD τ) none Set.univ (m := opW) (r := Rect.unit (s := S8x136x512) o18 S1x1x512.size i18) (S := slabSet h) (set_slab_sub h 1 129 h18 (by omega) i18)) $$ H
  iintro H
  iapply (wp_load_rect 𝒱₀ (c : Thread nD τ) none Set.univ (m := opW) (r := Rect.unit (s := S8x136x512) o19 S1x2x512.size i19) (S := slabSet h) (set_slab_sub h 2 128 h19 (by omega) i19)) $$ H
  iintro H
  iapply (wp_store 𝒱₀ (c : Thread nD τ) none Set.univ (m := opW) (r := Rect.unit (s := S8x136x512) o19 S1x2x512.size i19) (Mk := Finset.univ) (S := slabSet h)
    (by rw [View.setOn_univ]; exact set_slab_sub h 2 128 h19 (by omega) i19)) $$ H
  iintro H
  iapply Hk
  ihave H := (Entails.of_eq (pointsTo_congr (g := OP m c) (by
    intro x hx
    obtain ⟨p, r, q, rfl⟩ : ∃ (p : Fin 8) (r : Fin 136) (q : Fin 512), x = ix3 p r q := ⟨x 0, x 1, x 2, eq_ix3 x⟩
    obtain ⟨-, hp⟩ := Finset.mem_filter.mp hx
    obtain rfl : p = h := Fin.ext hp
    exact write_slab p f (oVec m c p) (mVec m c p) h17 h19 i17 i19 sl _ rfl r q))) $$ H
  iexact H

end Cert.KP

end
-- ==== Proof.Parts.lean ====
/-
  What each part of a grid point before the merge needs and gives.
-/
module

public import proofs.«01_k».proof.Proof.Steps

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores the program names -/

theorem semK_00 : (((cc0_scratch7 : DmaSems sig S2x2).slice (Rect.unit (s := S2x2) ![0, 0] S1x1.size inb_S2x2_S1x1_0_0)).squeeze S_ squeezes_S1x1_S_).sem = kSem 0 0 := by decide
theorem semK_01 : (((cc0_scratch7 : DmaSems sig S2x2).slice (Rect.unit (s := S2x2) ![0, 1] S1x1.size inb_S2x2_S1x1_0_1)).squeeze S_ squeezes_S1x1_S_).sem = kSem 0 1 := by decide
theorem semK_10 : (((cc0_scratch7 : DmaSems sig S2x2).slice (Rect.unit (s := S2x2) ![1, 0] S1x1.size (by decide))).squeeze S_ squeezes_S1x1_S_).sem = kSem 1 0 := by decide
theorem semK_11 : (((cc0_scratch7 : DmaSems sig S2x2).slice (Rect.unit (s := S2x2) ![1, 1] S1x1.size (by decide))).squeeze S_ squeezes_S1x1_S_).sem = kSem 1 1 := by decide
theorem semK_eq (s i : Fin 2) {off} (ho : off = ![s.val, i.val]) (inb) :
    (((cc0_scratch7 : DmaSems sig S2x2).slice (Rect.unit (s := S2x2) off S1x1.size inb)).squeeze S_ squeezes_S1x1_S_).sem = kSem s i := by
  subst ho
  match s, i, inb with
  | 0, 0, _ => exact semK_00
  | 0, 1, _ => exact semK_01
  | 1, 0, _ => exact semK_10
  | 1, 1, _ => exact semK_11
theorem semV_00 : (((cc0_scratch8 : DmaSems sig S2x2).slice (Rect.unit (s := S2x2) ![0, 0] S1x1.size inb_S2x2_S1x1_0_0)).squeeze S_ squeezes_S1x1_S_).sem = vSem 0 0 := by decide
theorem semV_01 : (((cc0_scratch8 : DmaSems sig S2x2).slice (Rect.unit (s := S2x2) ![0, 1] S1x1.size inb_S2x2_S1x1_0_1)).squeeze S_ squeezes_S1x1_S_).sem = vSem 0 1 := by decide
theorem semV_10 : (((cc0_scratch8 : DmaSems sig S2x2).slice (Rect.unit (s := S2x2) ![1, 0] S1x1.size (by decide))).squeeze S_ squeezes_S1x1_S_).sem = vSem 1 0 := by decide
theorem semV_11 : (((cc0_scratch8 : DmaSems sig S2x2).slice (Rect.unit (s := S2x2) ![1, 1] S1x1.size (by decide))).squeeze S_ squeezes_S1x1_S_).sem = vSem 1 1 := by decide
theorem semV_eq (s i : Fin 2) {off} (ho : off = ![s.val, i.val]) (inb) :
    (((cc0_scratch8 : DmaSems sig S2x2).slice (Rect.unit (s := S2x2) off S1x1.size inb)).squeeze S_ squeezes_S1x1_S_).sem = vSem s i := by
  subst ho
  match s, i, inb with
  | 0, 0, _ => exact semV_00
  | 0, 1, _ => exact semV_01
  | 1, 0, _ => exact semV_10
  | 1, 1, _ => exact semV_11
theorem semOS_0 : SemLoc.dma (((cc0_scratch10 : DmaSems sig S3).slice (Rect.unit (s := S3) ![2] S1.size inb_S3_S1_2)).squeeze S_ squeezes_S1_S_).sem = csem (some (1, 0)) := by decide
theorem semOS_1 : SemLoc.dma (((cc0_scratch10 : DmaSems sig S3).slice (Rect.unit (s := S3) ![1] S1.size inb_S3_S1_1)).squeeze S_ squeezes_S1_S_).sem = csem (some (1, 1)) := by decide
theorem semOS_2 : SemLoc.dma (((cc0_scratch10 : DmaSems sig S3).slice (Rect.unit (s := S3) ![0] S1.size inb_S3_S1_0)).squeeze S_ squeezes_S1_S_).sem = csem (some (1, 2)) := by decide
theorem semOS_eq (j : Fin 3) {off} (ho : off = ![2 - j.val]) (inb) :
    SemLoc.dma (((cc0_scratch10 : DmaSems sig S3).slice (Rect.unit (s := S3) off S1.size inb)).squeeze S_ squeezes_S1_S_).sem = csem (some (1, j)) := by
  subst ho
  match j, inb with
  | 0, _ => exact semOS_0
  | 1, _ => exact semOS_1
  | 2, _ => exact semOS_2
theorem semOR_0 : SemLoc.dma (((cc0_scratch11 : DmaSems sig S3).slice (Rect.unit (s := S3) ![0] S1.size inb_S3_S1_0)).squeeze S_ squeezes_S1_S_).sem = csem (some (0, 0)) := by decide
theorem semOR_1 : SemLoc.dma (((cc0_scratch11 : DmaSems sig S3).slice (Rect.unit (s := S3) ![1] S1.size inb_S3_S1_1)).squeeze S_ squeezes_S1_S_).sem = csem (some (0, 1)) := by decide
theorem semOR_2 : SemLoc.dma (((cc0_scratch11 : DmaSems sig S3).slice (Rect.unit (s := S3) ![2] S1.size inb_S3_S1_2)).squeeze S_ squeezes_S1_S_).sem = csem (some (0, 2)) := by decide
theorem semOR_eq (j : Fin 3) {off} (ho : off = ![j.val]) (inb) :
    SemLoc.dma (((cc0_scratch11 : DmaSems sig S3).slice (Rect.unit (s := S3) off S1.size inb)).squeeze S_ squeezes_S1_S_).sem = csem (some (0, j)) := by
  subst ho
  match j, inb with
  | 0, _ => exact semOR_0
  | 1, _ => exact semOR_1
  | 2, _ => exact semOR_2
theorem semGS_0 : SemLoc.dma (((cc0_scratch12 : DmaSems sig S3).slice (Rect.unit (s := S3) ![2] S1.size inb_S3_S1_2)).squeeze S_ squeezes_S1_S_).sem = csem (some (3, 0)) := by decide
theorem semGS_1 : SemLoc.dma (((cc0_scratch12 : DmaSems sig S3).slice (Rect.unit (s := S3) ![1] S1.size inb_S3_S1_1)).squeeze S_ squeezes_S1_S_).sem = csem (some (3, 1)) := by decide
theorem semGS_2 : SemLoc.dma (((cc0_scratch12 : DmaSems sig S3).slice (Rect.unit (s := S3) ![0] S1.size inb_S3_S1_0)).squeeze S_ squeezes_S1_S_).sem = csem (some (3, 2)) := by decide
theorem semGS_eq (j : Fin 3) {off} (ho : off = ![2 - j.val]) (inb) :
    SemLoc.dma (((cc0_scratch12 : DmaSems sig S3).slice (Rect.unit (s := S3) off S1.size inb)).squeeze S_ squeezes_S1_S_).sem = csem (some (3, j)) := by
  subst ho
  match j, inb with
  | 0, _ => exact semGS_0
  | 1, _ => exact semGS_1
  | 2, _ => exact semGS_2
theorem semGR_0 : SemLoc.dma (((cc0_scratch13 : DmaSems sig S3).slice (Rect.unit (s := S3) ![0] S1.size inb_S3_S1_0)).squeeze S_ squeezes_S1_S_).sem = csem (some (2, 0)) := by decide
theorem semGR_1 : SemLoc.dma (((cc0_scratch13 : DmaSems sig S3).slice (Rect.unit (s := S3) ![1] S1.size inb_S3_S1_1)).squeeze S_ squeezes_S1_S_).sem = csem (some (2, 1)) := by decide
theorem semGR_2 : SemLoc.dma (((cc0_scratch13 : DmaSems sig S3).slice (Rect.unit (s := S3) ![2] S1.size inb_S3_S1_2)).squeeze S_ squeezes_S1_S_).sem = csem (some (2, 2)) := by decide
theorem semGR_eq (j : Fin 3) {off} (ho : off = ![j.val]) (inb) :
    SemLoc.dma (((cc0_scratch13 : DmaSems sig S3).slice (Rect.unit (s := S3) off S1.size inb)).squeeze S_ squeezes_S1_S_).sem = csem (some (2, j)) := by
  subst ho
  match j, inb with
  | 0, _ => exact semGR_0
  | 1, _ => exact semGR_1
  | 2, _ => exact semGR_2

variable {a1 : Memref sig .tc .vmem S1x512x1024 .f32} {h1 : a1.IsWhole} {a2 : Memref sig .tc .vmem S1024x256 .f32} {h2 : a2.IsWhole}
  {a3 : Memref sig .tc .vmem S1024x1024 .f32} {h3 : a3.IsWhole} {a6 : Memref sig .tc .vmem S1x512x1024 .f32} {h6 : a6.IsWhole}

theorem emb_whole3 {p q r : ℕ} (inb : ∀ a, (![0, 0, 0] : Fin 3 → ℕ) a + (⟨3, ![p, q, r]⟩ : Shape).size a ≤ (⟨3, ![p, q, r]⟩ : Shape).size a) (x) :
    (Rect.unit (s := ⟨3, ![p, q, r]⟩) ![0, 0, 0] (⟨3, ![p, q, r]⟩ : Shape).size inb).emb x = x := by
  funext a; apply Fin.ext; rw [Rect.emb_apply]; fin_cases a <;> simp [Rect.unit]
theorem emb_whole2 {p q : ℕ} (inb : ∀ a, (![0, 0] : Fin 2 → ℕ) a + (⟨2, ![p, q]⟩ : Shape).size a ≤ (⟨2, ![p, q]⟩ : Shape).size a) (x) :
    (Rect.unit (s := ⟨2, ![p, q]⟩) ![0, 0] (⟨2, ![p, q]⟩ : Shape).size inb).emb x = x := by
  funext a; apply Fin.ext; rw [Rect.emb_apply]; fin_cases a <;> simp [Rect.unit]

/-- A program that has ended. -/
theorem wp_done (c : Dev nD) {α : Type} {a : α} {Q : α → sProp 𝕄} : Q a ⊢ WP c (.ret a) Q := by
  show Q a ⊢ wp frame (wpE (defs₀ (F := F)) 𝒱₀ c none) Set.univ (.ret a) Q
  rw [wp_ret]; exact fupd_intro

/-- A load of a whole window. -/
theorem wp_ld3 (c : Dev nD) {cs : CoreSpace} {p q r : ℕ} {e : EltTy} {a : Memref sig .tc cs ⟨3, ![p, q, r]⟩ e} {qs : PosShare TreeShare} {X}
    {inb : ∀ a, (![0, 0, 0] : Fin 3 → ℕ) a + (⟨3, ![p, q, r]⟩ : Shape).size a ≤ (⟨3, ![p, q, r]⟩ : Shape).size a}
    {hl : a.view.LoadsAt (Rect.unit (s := ⟨3, ![p, q, r]⟩) ![0, 0, 0] (⟨3, ![p, q, r]⟩ : Shape).size inb).toLoadRect}
    {α : Type} {Q : α → sProp 𝕄} {k : ((⟨3, ![p, q, r]⟩ : Shape).Idx → Elt F e) → Prog (TpuEff nD τ sig (Elt F) Λ₀ .tc) α} :
    (owns (c : Thread nD τ) a qs X : sProp 𝕄)
      ⊢ iprop((owns (c : Thread nD τ) a qs X -∗ WP c (k X) Q)
        -∗ WP c (.op (.load a (Rect.unit (s := ⟨3, ![p, q, r]⟩) ![0, 0, 0] (⟨3, ![p, q, r]⟩ : Shape).size inb).toLoadRect hl) k) Q) := by
  have e : (fun x => X ((Rect.unit (s := ⟨3, ![p, q, r]⟩) ![0, 0, 0] (⟨3, ![p, q, r]⟩ : Shape).size inb).emb x)) = X :=
    funext fun x => congrArg X (emb_whole3 inb x)
  iintro H Hk
  iapply (wp_ldOwns c (a := a) (X := X)) $$ H
  iintro H
  ihave Hk := Hk $$ H
  iapply (show WP c (k X) Q ⊢ WP c (k (fun x => X ((Rect.unit (s := ⟨3, ![p, q, r]⟩) ![0, 0, 0] (⟨3, ![p, q, r]⟩ : Shape).size inb).emb x))) Q from
    Entails.of_eq (congrArg (fun f => WP c (k f) Q) e.symm)) $$ Hk

theorem wp_ld2 (c : Dev nD) {cs : CoreSpace} {p q : ℕ} {e : EltTy} {a : Memref sig .tc cs ⟨2, ![p, q]⟩ e} {qs : PosShare TreeShare} {X}
    {inb : ∀ a, (![0, 0] : Fin 2 → ℕ) a + (⟨2, ![p, q]⟩ : Shape).size a ≤ (⟨2, ![p, q]⟩ : Shape).size a}
    {hl : a.view.LoadsAt (Rect.unit (s := ⟨2, ![p, q]⟩) ![0, 0] (⟨2, ![p, q]⟩ : Shape).size inb).toLoadRect}
    {α : Type} {Q : α → sProp 𝕄} {k : ((⟨2, ![p, q]⟩ : Shape).Idx → Elt F e) → Prog (TpuEff nD τ sig (Elt F) Λ₀ .tc) α} :
    (owns (c : Thread nD τ) a qs X : sProp 𝕄)
      ⊢ iprop((owns (c : Thread nD τ) a qs X -∗ WP c (k X) Q)
        -∗ WP c (.op (.load a (Rect.unit (s := ⟨2, ![p, q]⟩) ![0, 0] (⟨2, ![p, q]⟩ : Shape).size inb).toLoadRect hl) k) Q) := by
  have e : (fun x => X ((Rect.unit (s := ⟨2, ![p, q]⟩) ![0, 0] (⟨2, ![p, q]⟩ : Shape).size inb).emb x)) = X :=
    funext fun x => congrArg X (emb_whole2 inb x)
  iintro H Hk
  iapply (wp_ldOwns c (a := a) (X := X)) $$ H
  iintro H
  ihave Hk := Hk $$ H
  iapply (show WP c (k X) Q ⊢ WP c (k (fun x => X ((Rect.unit (s := ⟨2, ![p, q]⟩) ![0, 0] (⟨2, ![p, q]⟩ : Shape).size inb).emb x))) Q from
    Entails.of_eq (congrArg (fun f => WP c (k f) Q) e.symm)) $$ Hk

/-- The columns of a head of the pair in the window of the query weights. -/
theorem wp_ldW (c : Dev nD) (h : Fin 8) (i : Fin 2) {a : Memref sig .tc .vmem S1024x256 .f32} {qs : PosShare TreeShare} {X : Vec F S1024x256 .f32}
    (hX : ∀ (x : Fin 1024) (y : Fin 128), X (ix2 x ⟨128 * i.val + y.val, by have := i.isLt; omega⟩) = Wh m c h (ix2 x y))
    {off} (ho : off = ![0, 128 * i.val]) {inb : ∀ a, off a + S1024x128.size a ≤ S1024x256.size a}
    {hl : a.view.LoadsAt (Rect.unit (s := S1024x256) off S1024x128.size inb).toLoadRect}
    {α : Type} {Q : α → sProp 𝕄} {k : Vec F S1024x128 .f32 → Prog (TpuEff nD τ sig (Elt F) Λ₀ .tc) α} :
    (owns (c : Thread nD τ) a qs X : sProp 𝕄)
      ⊢ iprop((owns (c : Thread nD τ) a qs X -∗ WP c (k (Wh m c h)) Q)
        -∗ WP c (.op (.load a (Rect.unit (s := S1024x256) off S1024x128.size inb).toLoadRect hl) k) Q) := by
  have e : (fun x => X ((Rect.unit (s := S1024x256) off S1024x128.size inb).emb x)) = Wh m c h := by
    funext z
    obtain ⟨x, y, rfl⟩ : ∃ (x : Fin 1024) (y : Fin 128), z = ix2 x y := ⟨z 0, z 1, eq_ix2 z⟩
    rw [← hX]
    refine congrArg X ?_
    subst ho
    funext a; apply Fin.ext; rw [Rect.emb_apply]; fin_cases a <;> simp [Rect.unit, ix2]
  iintro H Hk
  iapply (wp_ldOwns c (a := a) (X := X)) $$ H
  iintro H
  ihave Hk := Hk $$ H
  iapply (show WP c (k (Wh m c h)) Q ⊢ WP c (k (fun x => X ((Rect.unit (s := S1024x256) off S1024x128.size inb).emb x))) Q from
    Entails.of_eq (congrArg (fun f => WP c (k f) Q) e.symm)) $$ Hk

/-! ## Parts 51 to 56 -/

theorem part51 (c : Dev nD) (t : Fin cfg0.N) (s : Finset Pm) (hs : ∀ p ∈ s, 0 < lvK p.1) {q1 : PosShare TreeShare}
    (b1 b2 : BitVec 32) {Q : (Σ' (v56 : FVec F S512x1024 .bf16), BitVec 32) → sProp 𝕄} :
    iprop(levAts L lv ∗ Owes c s ∗ vFl m c (sl t) 0 (hd t 0) ∗ kFl m c (sl t) 1 (hd t 1) ∗ vFl m c (sl t) 1 (hd t 1) ∗ owns (c : Thread nD τ) a1 q1 (Xa m c))
      ⊢ iprop(((Owes c s ∗ (vHas m c (sl t) 0 (hd t 0) ∗ semVal ((c : Thread nD τ), SemLoc.dma (vSem (sl t) 0)) 0)
          ∗ (kHas m c (sl t) 1 (hd t 1) ∗ semVal ((c : Thread nD τ), SemLoc.dma (kSem (sl t) 1)) 0)
          ∗ (vHas m c (sl t) 1 (hd t 1) ∗ semVal ((c : Thread nD τ), SemLoc.dma (vSem (sl t) 1)) 0)
          ∗ owns (c : Thread nD τ) a1 q1 (Xa m c)) -∗ Q ⟨k0_pay129 (Xa m c), 2#32⟩)
        -∗ WP c (k0_part51 (crd t) a1 h1 a2 h2 a3 h3 (Memref.whole main_arg2) (Memref.isWhole_whole _) (Memref.whole main_arg3) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 b1 b2) Q) := by
  simp only [k0_part51_eq_skeleton]; unfold k0_part51_skel
  simp only [Prog.lift, Prog.bind_op, Prog.bind_ret, Prog.pure_eq_ret]
  unfold vFl kFl
  iintro ⟨#HL, HO, H1, H2, H3, Hx⟩ Hk
  iapply (wp_waitF c s hs (vSem (sl t) 0) (vSem_ne _ _) (semV_eq (sl t) 0 (off8_eq t) _) (N := NV) rfl) $$ [HO H1]
  · isplitr; · iexact HL
    isplitl [HO] <;> iassumption
  iintro ⟨HO, H1, S1⟩
  iapply (wp_waitF c s hs (kSem (sl t) 1) (kSem_ne _ _) (semK_eq (sl t) 1 (off12_eq t) _) (N := NK) rfl) $$ [HO H2]
  · isplitr; · iexact HL
    isplitl [HO] <;> iassumption
  iintro ⟨HO, H2, S2⟩
  iapply (wp_waitF c s hs (vSem (sl t) 1) (vSem_ne _ _) (semV_eq (sl t) 1 (off12_eq t) _) (N := NV) rfl) $$ [HO H3]
  · isplitr; · iexact HL
    isplitl [HO] <;> iassumption
  iintro ⟨HO, H3, S3⟩
  iapply (wp_ld3 c (a := a1) (X := Xa m c)) $$ Hx
  iintro Hx
  iapply (wp_done c)
  iapply Hk
  isplitl [HO]; · iassumption
  isplitl [H1 S1]; · isplitl [H1] <;> iassumption
  isplitl [H2 S2]; · isplitl [H2] <;> iassumption
  isplitl [H3 S3]; · isplitl [H3] <;> iassumption
  iexact Hx

/-- A slab before its head and after it. -/
def slab0 (c : Dev nD) (h : Fin 8) : sProp 𝕄 := iprop(∃ f, loc2 c ↦[slabSet h]{fullShare} f)
def slab1 (c : Dev nD) (h : Fin 8) : sProp 𝕄 := iprop(loc2 c ↦[slabSet h]{fullShare} OP m c)

theorem part52 (c : Dev nD) (t : Fin cfg0.N) {q2 : PosShare TreeShare} {X2 : Vec F S1024x256 .f32}
    (hX : ∀ (x : Fin 1024) (y : Fin 128), X2 (ix2 x ⟨128 * (0 : Fin 2).val + y.val, by have := y.isLt; show 128 * 0 + y.val < 256; omega⟩) = Wh m c (hd t 0) (ix2 x y))
    (b1 b2 b3 b5 : BitVec 32) {Q : (Σ' (v91 : BitVec 32) (c4_i32_65 : BitVec 32) (v92 : BitVec 1), BitVec 32) → sProp 𝕄} :
    iprop(owns (c : Thread nD τ) a2 q2 X2 ∗ kHas m c (sl t) 0 (hd t 0) ∗ vHas m c (sl t) 0 (hd t 0) ∗ slab0 c (hd t 0))
      ⊢ iprop((∀ r, (owns (c : Thread nD τ) a2 q2 X2 ∗ kHas m c (sl t) 0 (hd t 0) ∗ vHas m c (sl t) 0 (hd t 0) ∗ slab1 m c (hd t 0)) -∗ Q r)
        -∗ WP c (k0_part52 (crd t) a1 h1 a2 h2 a3 h3 (Memref.whole main_arg2) (Memref.isWhole_whole _) (Memref.whole main_arg3) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 b1 b2 b3 (k0_pay129 (Xa m c)) b5) Q) := by
  simp only [k0_part52_eq_skeleton]; unfold k0_part52_skel
  simp only [Prog.lift, Prog.bind_op, Prog.bind_ret, Prog.pure_eq_ret, storeSubelements]
  unfold kHas vHas slab0 slab1
  iintro ⟨Hw, ⟨HK, HK'⟩, ⟨HV, HV'⟩, Hs⟩ Hk
  iapply (wp_ldW m c (hd t 0) 0 hX (a := a2) rfl) $$ Hw
  iintro Hw
  iapply (wp_ldK m c (sl t) 0 (hd t 0) (off15_eq t)) $$ HK
  iintro HK
  iapply (wp_ldV m c (sl t) 0 (hd t 0) (off16_eq t)) $$ HV
  iintro HV
  iapply (wp_slab m c (hd t 0) (off17_eq t 0) (off18_eq t 0) (off19_eq t 0) rfl rfl) $$ Hs
  iintro Hs
  iapply (wp_done c)
  iapply Hk
  isplitl [Hw]; · iexact Hw
  isplitl [HK HK']; · isplitl [HK] <;> iassumption
  isplitl [HV HV']; · isplitl [HV] <;> iassumption
  iexact Hs

theorem part55 (c : Dev nD) (t : Fin cfg0.N) (b1 b2 b3 : BitVec 32) {Q : (Σ' (v193 : BitVec 32) (v194 : BitVec 32) (v195 : BitVec 1) (v196 : BitVec 1), BitVec 1) → sProp 𝕄} :
    iprop(kHas m c (sl t) 1 (hd t 1) ∗ vHas m c (sl t) 1 (hd t 1) ∗ slab0 c (hd t 1))
      ⊢ iprop((∀ r, (kHas m c (sl t) 1 (hd t 1) ∗ vHas m c (sl t) 1 (hd t 1) ∗ slab1 m c (hd t 1)) -∗ Q r)
        -∗ WP c (k0_part55 (crd t) a1 h1 a2 h2 a3 h3 (Memref.whole main_arg2) (Memref.isWhole_whole _) (Memref.whole main_arg3) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 b1 b2 (k0_pay129 (Xa m c)) b3 (k0_pay134 (Wh m c (hd t 1)))) Q) := by
  simp only [k0_part55_eq_skeleton]; unfold k0_part55_skel
  simp only [Prog.lift, Prog.bind_op, Prog.bind_ret, Prog.pure_eq_ret, storeSubelements]
  unfold kHas vHas slab0 slab1
  iintro ⟨⟨HK, HK'⟩, ⟨HV, HV'⟩, Hs⟩ Hk
  iapply (wp_ldK m c (sl t) 1 (hd t 1) (off24_eq t)) $$ HK
  iintro HK
  iapply (wp_ldV m c (sl t) 1 (hd t 1) (off25_eq t)) $$ HV
  iintro HV
  iapply (wp_slab m c (hd t 1) (off17_eq t 1) (off18_eq t 1) (off19_eq t 1) rfl rfl) $$ Hs
  iintro Hs
  iapply (wp_done c)
  iapply Hk
  isplitl [HK HK']; · isplitl [HK] <;> iassumption
  isplitl [HV HV']; · isplitl [HV] <;> iassumption
  iexact Hs

/-! ## The sends -/

/-- What the send of head `h` into the peers' slot `j` takes. -/
def sendPre (c : Dev nD) (j : Fin 3) (h : Fin 8) : sProp 𝕄 :=
  iprop(opP c h (tgt c j) (OP m c) ∗ (∃ f, ocP (tgt c j) j h f) ∗ ptok c (some (1, j), h) ∗ ptok c (some (0, j), h))

theorem wp_sendO' (c n : Dev nD) (j : Fin 3) (h : Fin 8) (hn : n.val = (tgt c j).val) (s : Finset Pm) (hs : (some (0, j), h) ∈ s)
    {off off'} (ho : off = ![j.val, h.val, 0, 0]) (ho' : off' = ![h.val, 0, 128 * (tgt c j).val]) {inb inb'}
    {sS sR : SemLoc sig} (hsS : sS = csem (some (1, j))) (hsR : sR = csem (some (0, j)))
    {hsc : (ocM off inb).view.ref.isScScratch = false} {hsrc : (opM off' inb').view.WordExact} {hdst : (ocM off inb).view.WordExact}
    {hsem : DmaTarget.Typed (nD := nD) (τ := τ) .vmem sR (.remote (n : Thread nD τ) (ocM off inb) sS hsc)}
    {α : Type} {Q : α → sProp 𝕄} {k : PUnit → Prog (TpuEff nD τ sig (Elt F) Λ₀ .tc) α} :
    iprop(Rec m ∗ Owes c s ∗ sendPre m c j h)
      ⊢ iprop(((Owes c (s.erase (some (0, j), h)) ∗ crK c (some (1, j))) -∗ WP c (k ⟨⟩) Q)
        -∗ WP c (.op (.enqueueDma (opM off' inb') (.remote (n : Thread nD τ) (ocM off inb) sS hsc) sR hsrc hdst hsem) k) Q) := by
  obtain rfl : n = tgt c j := Fin.ext hn
  unfold sendPre
  exact wp_sendO m c _ j h rfl s hs ho ho' hsS hsR

theorem part53 (c : Dev nD) (t : Fin cfg0.N) (s : Finset Pm) (hs : (some (0, (2 : Fin 3)), hd t 0) ∈ s)
    (b1 b2 b3 b5 : BitVec 32) (b4 : BitVec 1) {Q : PUnit → sProp 𝕄} :
    iprop(Rec m ∗ Owes c s ∗ sendPre m c 2 (hd t 0))
      ⊢ iprop(((Owes c (s.erase (some (0, 2), hd t 0)) ∗ crK c (some (1, 2))) -∗ Q ⟨⟩)
        -∗ WP c (k0_part53 (crd t) a1 h1 a2 h2 a3 h3 (Memref.whole main_arg2) (Memref.isWhole_whole _) (Memref.whole main_arg3) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c b1 b2 b3 b4 b5) Q) := by
  simp only [k0_part53_eq_skeleton]; unfold k0_part53_skel
  simp only [Prog.lift, Prog.bind_op, Prog.bind_ret, Prog.pure_eq_ret]
  iintro H Hk
  iapply (wp_sendO' m c ⟨k0_dev4 c, k0_dev4_lt c⟩ 2 (hd t 0) (dev4_eq c) s hs (off20_eq t 0) (off21_eq t c 0 0) (semOS_eq 2 rfl _) (semOR_eq 2 rfl _)) $$ H
  iintro H
  iapply (wp_done c)
  iapply Hk $$ H

theorem part54 (c : Dev nD) (t : Fin cfg0.N) (s : Finset Pm) (hs : (some (0, (1 : Fin 3)), hd t 0) ∈ s) (hs' : (some (0, (0 : Fin 3)), hd t 0) ∈ s.erase (some (0, 1), hd t 0))
    {q2 : PosShare TreeShare} {X2 : Vec F S1024x256 .f32}
    (hX : ∀ (x : Fin 1024) (y : Fin 128), X2 (ix2 x ⟨128 * (1 : Fin 2).val + y.val, by have := y.isLt; show 128 * 1 + y.val < 256; omega⟩) = Wh m c (hd t 1) (ix2 x y))
    (b1 b2 : BitVec 32) {Q : (Σ' (v158 : BitVec 32), FVec F S1024x128 .bf16) → sProp 𝕄} :
    iprop(Rec m ∗ Owes c s ∗ sendPre m c 1 (hd t 0) ∗ sendPre m c 0 (hd t 0) ∗ owns (c : Thread nD τ) a2 q2 X2)
      ⊢ iprop((∀ b, (Owes c ((s.erase (some (0, 1), hd t 0)).erase (some (0, 0), hd t 0)) ∗ crK c (some (1, 1)) ∗ crK c (some (1, 0)) ∗ owns (c : Thread nD τ) a2 q2 X2)
          -∗ Q ⟨b, k0_pay134 (Wh m c (hd t 1))⟩)
        -∗ WP c (k0_part54 (crd t) a1 h1 a2 h2 a3 h3 (Memref.whole main_arg2) (Memref.isWhole_whole _) (Memref.whole main_arg3) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 b1 c b2) Q) := by
  simp only [k0_part54_eq_skeleton]; unfold k0_part54_skel
  simp only [Prog.lift, Prog.bind_op, Prog.bind_ret, Prog.pure_eq_ret]
  iintro ⟨#HR, HO, H1, H0, Hw⟩ Hk
  iapply (wp_sendO' m c ⟨k0_dev5 c, k0_dev5_lt c⟩ 1 (hd t 0) (dev5_eq c) s hs (off22_eq t 0) (off21_eq t c 0 1) (semOS_eq 1 rfl _) (semOR_eq 1 rfl _)) $$ [HO H1]
  · isplitr; · iexact HR
    isplitl [HO] <;> iassumption
  iintro ⟨HO, C1⟩
  iapply (wp_sendO' m c ⟨k0_dev6 c, k0_dev6_lt c⟩ 0 (hd t 0) (dev6_eq c) _ hs' (off23_eq t 0) (off21_eq t c 0 2) (semOS_eq 0 rfl _) (semOR_eq 0 rfl _)) $$ [HO H0]
  · isplitr; · iexact HR
    isplitl [HO] <;> iassumption
  iintro ⟨HO, C0⟩
  iapply (wp_ldW m c (hd t 1) 1 hX (a := a2) rfl) $$ Hw
  iintro Hw
  iapply (wp_done c)
  iapply Hk
  isplitl [HO]; · iexact HO
  isplitl [C1]; · iexact C1
  isplitl [C0]; · iexact C0
  iexact Hw

theorem part56 (c : Dev nD) (t : Fin cfg0.N) (s : Finset Pm) (hs : (some (0, (2 : Fin 3)), hd t 1) ∈ s)
    (b1 b2 b3 : BitVec 32) (b4 b5 b6 : BitVec 1) {Q : PUnit → sProp 𝕄} :
    iprop(Rec m ∗ Owes c s ∗ sendPre m c 2 (hd t 1))
      ⊢ iprop(((Owes c (s.erase (some (0, 2), hd t 1)) ∗ crK c (some (1, 2))) -∗ Q ⟨⟩)
        -∗ WP c (k0_part56 (crd t) a1 h1 a2 h2 a3 h3 (Memref.whole main_arg2) (Memref.isWhole_whole _) (Memref.whole main_arg3) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c b1 b2 b3 b4 b5 b6) Q) := by
  simp only [k0_part56_eq_skeleton]; unfold k0_part56_skel
  simp only [Prog.lift, Prog.bind_op, Prog.bind_ret, Prog.pure_eq_ret]
  iintro H Hk
  iapply (wp_sendO' m c ⟨k0_dev7 c, k0_dev7_lt c⟩ 2 (hd t 1) (dev7_eq c) s hs (off20_eq t 1) (off21_eq t c 1 0) (semOS_eq 2 rfl _) (semOR_eq 2 rfl _)) $$ H
  iintro H
  iapply (wp_done c)
  iapply Hk $$ H

end Cert.KP

end
-- ==== Proof.Parts2.lean ====
/-
  The start of a grid point: the copies issued, the barrier, the first wait.
-/
module

public import proofs.«01_k».proof.Proof.Parts

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {a1 : Memref sig .tc .vmem S1x512x1024 .f32} {h1 : a1.IsWhole} {a2 : Memref sig .tc .vmem S1024x256 .f32} {h2 : a2.IsWhole}
  {a3 : Memref sig .tc .vmem S1024x1024 .f32} {h3 : a3.IsWhole} {a6 : Memref sig .tc .vmem S1x512x1024 .f32} {h6 : a6.IsWhole}

/-- The slot and the heads of the next grid point. -/
def nx (t : Fin cfg0.N) : Fin 2 := ⟨(t.val + 1) % 2, Nat.mod_lt _ (by decide)⟩
def hdN (t : Fin cfg0.N) (i : Fin 2) : Fin 8 := ⟨(2 * t.val + i.val + 2) % 8, Nat.mod_lt _ (by decide)⟩

theorem off3_eq' (t : Fin cfg0.N) (ht : t.val < 3) (r : Fin 2) : k0_off3 (crd t) (BitVec.ofNat 32 r.val) = ![0, 0, (hdN t r).val, 0] := by
  rw [off3_eq]
  have : (hdN t r).val = 2 * t.val + r.val + 2 := Nat.mod_eq_of_lt (by have := r.isLt; omega)
  rw [this]

/-- A value slot not yet given its ones. -/
def vPre (c : Dev nD) (s i : Fin 2) : sProp 𝕄 :=
  iprop(semVal ((c : Thread nD τ), SemLoc.dma (vSem s i)) 0 ∗ ∃ f : Vec F S2x2x2048x136 .f32, loc1 c ↦[vSet s i]{fullShare} f)

theorem emb_ones (s i : Fin 2) {off} (ho : off = ![s.val, i.val, 0, 128]) (inb : ∀ a, off a + S1x1x2048x8.size a ≤ S2x2x2048x136.size a) (y : S1x1x2048x8.Idx) :
    (Rect.unit (s := S2x2x2048x136) off S1x1x2048x8.size inb).emb y = ix4 s i (y 2) (⟨128 + (y 3).val, by have : (y 3).val < 8 := (y 3).isLt; omega⟩ : Fin 136) := by
  subst ho
  have hy0 : (y 0).val = 0 := by have : (y 0).val < 1 := (y 0).isLt; omega
  have hy1 : (y 1).val = 0 := by have : (y 1).val < 1 := (y 1).isLt; omega
  funext a; apply Fin.ext; rw [Rect.emb_apply]
  fin_cases a <;> simp [Rect.unit, ix4, hy0, hy1]

theorem wp_ones (c : Dev nD) (s i : Fin 2) {off} (ho : off = ![s.val, i.val, 0, 128]) {inb : ∀ a, off a + S1x1x2048x8.size a ≤ S2x2x2048x136.size a}
    {w : Vec F S1x1x2048x8 .f32} (hw : ∀ y, w y = oneV)
    {hl : (Memref.whole cc0_scratch1 : Memref sig .tc .vmem S2x2x2048x136 .f32).view.LoadsAt (Rect.unit (s := S2x2x2048x136) off S1x1x2048x8.size inb).toLoadRect}
    {hx : ((Memref.whole cc0_scratch1 : Memref sig .tc .vmem S2x2x2048x136 .f32).access (Rect.unit (s := S2x2x2048x136) off S1x1x2048x8.size inb)).Stores Finset.univ} {hm}
    {α : Type} {Q : α → sProp 𝕄} {k : PUnit → Prog (TpuEff nD τ sig (Elt F) Λ₀ .tc) α} :
    (vPre c s i : sProp 𝕄)
      ⊢ iprop((vFree c s i -∗ WP c (k ⟨⟩) Q)
        -∗ WP c (.op (.load (Memref.whole cc0_scratch1 : Memref sig .tc .vmem S2x2x2048x136 .f32) (Rect.unit (s := S2x2x2048x136) off S1x1x2048x8.size inb).toLoadRect hl) fun _ =>
            .op (.store (Memref.whole cc0_scratch1 : Memref sig .tc .vmem S2x2x2048x136 .f32) (Rect.unit (s := S2x2x2048x136) off S1x1x2048x8.size inb) w Finset.univ hx hm) k) Q) := by
  have hsub : ((Memref.whole cc0_scratch1 : Memref sig .tc .vmem S2x2x2048x136 .f32).access (Rect.unit (s := S2x2x2048x136) off S1x1x2048x8.size inb)).set ⊆ vSet s i := by
    intro z hz
    obtain ⟨y, -, rfl⟩ := Finset.mem_map.mp hz
    have e := emb_ones s i ho inb y
    exact Finset.mem_filter.mpr ⟨Finset.mem_univ _, congrArg (fun z : S2x2x2048x136.Idx => (z 0).val) e, congrArg (fun z : S2x2x2048x136.Idx => (z 1).val) e⟩
  unfold vPre vFree
  iintro ⟨Hv, ⟨%f, H⟩⟩ Hk
  iapply (wp_ldAt c (a := (Memref.whole cc0_scratch1 : Memref sig .tc .vmem S2x2x2048x136 .f32)) (r := Rect.unit (s := S2x2x2048x136) off S1x1x2048x8.size inb)
    (S := vSet s i) (f := f) hsub rfl) $$ H
  iintro H
  iapply (wp_store 𝒱₀ (c : Thread nD τ) none Set.univ (m := (Memref.whole cc0_scratch1 : Memref sig .tc .vmem S2x2x2048x136 .f32))
    (r := Rect.unit (s := S2x2x2048x136) off S1x1x2048x8.size inb) (Mk := Finset.univ) (S := vSet s i) (by rw [View.setOn_univ]; exact hsub)) $$ H
  iintro H
  iapply Hk
  isplitl [Hv]; · iexact Hv
  iexists _
  isplitr
  rotate_left
  · iexact H
  · ipureintro
    intro x hx' h128
    obtain ⟨y, rfl⟩ : ∃ y : S1x1x2048x8.Idx, x = ((Memref.whole cc0_scratch1 : Memref sig .tc .vmem S2x2x2048x136 .f32).access (Rect.unit (s := S2x2x2048x136) off S1x1x2048x8.size inb)).emb y := by
      obtain ⟨-, h0, h1⟩ := Finset.mem_filter.mp hx'
      refine ⟨ix4 0 0 (x 2) ⟨(x 3).val - 128, by have : (x 3).val < 136 := (x 3).isLt; omega⟩, ?_⟩
      refine Eq.trans ?_ (emb_ones s i ho inb _).symm
      refine (eq_ix4 x).trans ?_
      funext a; apply Fin.ext
      fin_cases a
      · exact h0
      · exact h1
      · rfl
      · show (x 3).val = 128 + ((x 3).val - 128); omega
    exact (View.write_emb_of_mem _ _ (Finset.mem_univ y)).trans (hw y)

theorem part1 (c : Dev nD) (t : Fin cfg0.N) {Q : PUnit → sProp 𝕄} :
    iprop(vPre c 0 0 ∗ vPre c 0 1 ∗ vPre c 1 0 ∗ vPre c 1 1 ∗ kFree c 0 0 ∗ kaP m c 0)
      ⊢ iprop(((vFree c 0 0 ∗ vFree c 0 1 ∗ vFree c 1 0 ∗ vFree c 1 1 ∗ kFl m c 0 0 0) -∗ Q ⟨⟩)
        -∗ WP c (k0_part1 (crd t) a1 h1 a2 h2 a3 h3 (Memref.whole main_arg2) (Memref.isWhole_whole _) (Memref.whole main_arg3) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13) Q) := by
  simp only [k0_part1_eq_skeleton]; unfold k0_part1_skel
  simp only [Prog.lift, Prog.bind_op, Prog.bind_ret, Prog.pure_eq_ret]
  iintro ⟨H1, H2, H3, H4, Hf, Ha⟩ Hk
  iapply (wp_ones c 0 0 rfl (w := k0_pay1) (fun _ => rfl)) $$ H1
  iintro H1
  iapply (wp_ones c 0 1 rfl (w := k0_pay2) (fun _ => rfl)) $$ H2
  iintro H2
  iapply (wp_ones c 1 0 rfl (w := k0_pay3) (fun _ => rfl)) $$ H3
  iintro H3
  iapply (wp_ones c 1 1 rfl (w := k0_pay4) (fun _ => rfl)) $$ H4
  iintro H4
  iapply (wp_issueK m c 0 0 0 (off := ![0, 0, 0, 0]) (off' := ![0, 0, 0, 0]) rfl rfl (congrArg SemLoc.dma (semK_eq 0 0 rfl _))) $$ [Hf Ha]
  · isplitl [Hf] <;> iassumption
  iintro HF
  iapply (wp_done c)
  iapply Hk
  isplitl [H1]; · iexact H1
  isplitl [H2]; · iexact H2
  isplitl [H3]; · iexact H3
  isplitl [H4]; · iexact H4
  iexact HF

theorem part2 (c : Dev nD) (t : Fin cfg0.N) (ht : t.val < 3) (b : BitVec 32) (hc : k0_cond2 (crd t) = 1#1) {Q : BitVec 32 → sProp 𝕄} :
    iprop(kFree c (nx t) 0 ∗ kaP m c (hdN t 0) ∗ vFree c (nx t) 0 ∗ vaP m c (hdN t 0))
      ⊢ iprop((∀ r, (kFl m c (nx t) 0 (hdN t 0) ∗ vFl m c (nx t) 0 (hdN t 0)) -∗ Q r)
        -∗ WP c (k0_part2 (crd t) a1 h1 a2 h2 a3 h3 (Memref.whole main_arg2) (Memref.isWhole_whole _) (Memref.whole main_arg3) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 b hc) Q) := by
  simp only [k0_part2_eq_skeleton]; unfold k0_part2_skel
  simp only [Prog.lift, Prog.bind_op, Prog.bind_ret, Prog.pure_eq_ret]
  iintro ⟨H1, H2, H3, H4⟩ Hk
  iapply (wp_issueK m c (nx t) 0 (hdN t 0) (off2_eq t) (off3_eq' t ht 0) (congrArg SemLoc.dma (semK_eq (nx t) 0 (off1_eq t) _))) $$ [H1 H2]
  · isplitl [H1] <;> iassumption
  iintro F1
  iapply (wp_issueV m c (nx t) 0 (hdN t 0) (off4_eq t) (off3_eq' t ht 0) (congrArg SemLoc.dma (semV_eq (nx t) 0 (off1_eq t) _))) $$ [H3 H4]
  · isplitl [H3] <;> iassumption
  iintro F2
  iapply (wp_done c)
  iapply Hk
  isplitl [F1] <;> iassumption

/-! ## What is still to be paid -/

/-- The payments left once the barrier's are made and the partials of the heads below `n` are sent. -/
def stillO (n : ℕ) : Pm → Bool
  | (none, _) => false
  | (some (0, _), h) => decide (n ≤ h.val)
  | _ => true
def owd (n : ℕ) : Finset Pm := owedAll.filter fun p => stillO n p = true

theorem owd_bar : ((owedAll.erase (none, 0)).erase (none, 1)).erase (none, 2) = owd 0 := by decide +kernel
theorem owd_succ : ∀ h : Fin 8, (((owd h.val).erase (some (0, 2), h)).erase (some (0, 1), h)).erase (some (0, 0), h) = owd (h.val + 1) := by decide +kernel
theorem owd_mem2 : ∀ h : Fin 8, (some (0, 2), h) ∈ owd h.val := by decide +kernel
theorem owd_mem1 : ∀ h : Fin 8, (some (0, 1), h) ∈ (owd h.val).erase (some (0, 2), h) := by decide +kernel
theorem owd_mem0 : ∀ h : Fin 8, (some (0, 0), h) ∈ ((owd h.val).erase (some (0, 2), h)).erase (some (0, 1), h) := by decide +kernel
theorem owedAll_pos : ∀ p ∈ owedAll, 0 < lvK p.1 := by decide +kernel
theorem owd_pos (n : ℕ) : ∀ p ∈ owd n, 0 < lvK p.1 := fun p hp => owedAll_pos p (Finset.mem_filter.mp hp).1
theorem owd0_bar : ∀ p ∈ owd 0, 1 < lvK p.1 := by decide +kernel
theorem owd_end : owd 8 = {(some (2, 0), 0), (some (2, 1), 0), (some (2, 2), 0)} := by decide +kernel
theorem mem_bar0 : ((none : Kd), (0 : Fin 8)) ∈ owedAll := by decide +kernel
theorem mem_bar1 : ((none : Kd), (1 : Fin 8)) ∈ owedAll.erase (none, 0) := by decide +kernel
theorem mem_bar2 : ((none : Kd), (2 : Fin 8)) ∈ (owedAll.erase (none, 0)).erase (none, 1) := by decide +kernel

/-- What the barrier takes. -/
def barPre (c : Dev nD) : sProp 𝕄 :=
  iprop((landP c 0 ∗ ptok c (none, 0)) ∗ (landP c 1 ∗ ptok c (none, 1)) ∗ (landP c 2 ∗ ptok c (none, 2))
    ∗ cred (tallyAt (kcell c none) () 3) ∗ atPos ER (kcell c none) 0 ∅ 0)
def barPost (c : Dev nD) : sProp 𝕄 := iprop(semVal (kcell c none) 0 ∗ landP (tgt c 0) 0 ∗ landP (tgt c 1) 1 ∗ landP (tgt c 2) 2)

theorem wp_sigB' (c n : Dev nD) (j : Fin 3) (d : Fin 8) (hd : d.val = j.val) (hn : n.val = (src c j).val) (s : Finset Pm) (hs : ((none : Kd), d) ∈ s)
    {sem : Sem sig} (hsem : sem = barS)
    {α : Type} {Q : α → sProp 𝕄} {k : PUnit → Prog (TpuEff nD τ sig (Elt F) Λ₀ .tc) α} :
    iprop(Rec m ∗ Owes c s ∗ landP c j ∗ ptok c (none, d))
      ⊢ iprop((Owes c (s.erase (none, d)) -∗ WP c (k ⟨⟩) Q) -∗ WP c (.op (.semSignal (n : Thread nD τ) sem 1) k) Q) :=
  wp_sigB m c n j d hd (Fin.ext hn) s hs hsem

theorem part3 (c : Dev nD) (t : Fin cfg0.N) (b : BitVec 32) (hc : k0_cond3 (crd t) = 1#1)
    {Q : (Σ' (v260 : Sems sig S_) (v289 : BitVec 32) (v290 : BitVec 32) (v291 : BitVec 1), BitVec 32) → sProp 𝕄} :
    iprop(Rec m ∗ Owes c owedAll ∗ (landP c 0 ∗ ptok c (none, 0)) ∗ (landP c 1 ∗ ptok c (none, 1)))
      ⊢ iprop((∀ r, Owes c ((owedAll.erase (none, 0)).erase (none, 1)) -∗ Q ⟨SemArray.scalar (sig.barrier 0 rfl), r⟩)
        -∗ WP c (k0_part3 (crd t) a1 h1 a2 h2 a3 h3 (Memref.whole main_arg2) (Memref.isWhole_whole _) (Memref.whole main_arg3) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c b hc) Q) := by
  simp only [k0_part3_eq_skeleton]; unfold k0_part3_skel
  simp only [semSignalWord, Prog.lift, Prog.bind_op, Prog.bind_ret, Prog.pure_eq_ret]
  iintro ⟨#HR, HO, H0, H1⟩ Hk
  iapply (wp_sigB' m c ⟨k0_dev1 c, k0_dev1_lt (crd t) c hc⟩ 0 0 rfl (dev1_eq c) owedAll mem_bar0 rfl) $$ [HO H0]
  · isplitr; · iexact HR
    isplitl [HO] <;> iassumption
  iintro HO
  iapply (wp_sigB' m c ⟨k0_dev2 c, k0_dev2_lt (crd t) c hc⟩ 1 1 rfl (dev2_eq c) _ mem_bar1 rfl) $$ [HO H1]
  · isplitr; · iexact HR
    isplitl [HO] <;> iassumption
  iintro HO
  iapply (wp_done c)
  iapply Hk $$ HO

theorem wp_dev (c : Dev nD) {α : Type} {Q : α → sProp 𝕄} {k : Dev nD → Prog (TpuEff nD τ sig (Elt F) Λ₀ .tc) α} :
    WP c (k c) Q ⊢ WP c (.op .deviceId k) Q := by
  exact Entails.of_eq (wp_deviceId 𝒱₀ (c : Thread nD τ) none Set.univ).symm

theorem wp_seq (c : Dev nD) {α β : Type} {Q : β → sProp 𝕄} {p : Prog (TpuEff nD τ sig (Elt F) Λ₀ .tc) α} {k : α → Prog (TpuEff nD τ sig (Elt F) Λ₀ .tc) β} :
    WP c p (fun x => WP c (k x) Q) ⊢ WP c (p >>= k) Q := by
  exact Entails.of_eq (wp_bind ..).symm

/-- The grid point's first wait. -/
def firstPost (c : Dev nD) (t : Fin cfg0.N) : sProp 𝕄 :=
  iprop(kHas m c (sl t) 0 (hd t 0) ∗ semVal ((c : Thread nD τ), SemLoc.dma (kSem (sl t) 0)) 0)
/-- The copies of the next heads: what they take, and under way. -/
def nxtPre (c : Dev nD) (t : Fin cfg0.N) : sProp 𝕄 :=
  iprop((kFree c (nx t) 0 ∗ kaP m c (hdN t 0) ∗ vFree c (nx t) 0 ∗ vaP m c (hdN t 0))
    ∗ (kFree c (nx t) 1 ∗ kaP m c (hdN t 1)) ∗ (vFree c (nx t) 1 ∗ vaP m c (hdN t 1)))
def nxtPost (c : Dev nD) (t : Fin cfg0.N) : sProp 𝕄 :=
  iprop((kFl m c (nx t) 0 (hdN t 0) ∗ vFl m c (nx t) 0 (hdN t 0)) ∗ kFl m c (nx t) 1 (hdN t 1) ∗ vFl m c (nx t) 1 (hdN t 1))

theorem not1 (t : Fin cfg0.N) (h : t.val ≠ 0) : ¬ (Scalar.cmpi .ne (Scalar.extui (Scalar.cmpi .eq (BitVec.ofNat 32 ((crd t) 0).val) 0#32) : BitVec 32) 0#32 : BitVec 1) = 1#1 :=
  fun h' => h ((cond1_iff t).mp h')
theorem not2 (t : Fin cfg0.N) (h : ¬ t.val < 3) : ¬ k0_cond2 (crd t) = 1#1 := fun h' => h ((cond2_iff t).mp h')
theorem not3 (t : Fin cfg0.N) (h : t.val ≠ 0) : ¬ k0_cond3 (crd t) = 1#1 := fun h' => h ((cond3_iff t).mp h')

theorem part50C (c : Dev nD) (t : Fin cfg0.N) (ht : t.val = 3) (s : Finset Pm) (hs : ∀ p ∈ s, 0 < lvK p.1)
    {Q : (Σ' (arg0 : BitVec 32) (d0 : Dev nD) (v2 : BitVec 32) (v21 : BitVec 32), BitVec 32) → sProp 𝕄} :
    iprop(levAts L lv ∗ Owes c s ∗ kFl m c (sl t) 0 (hd t 0))
      ⊢ iprop((∀ a b d, (Owes c s ∗ firstPost m c t) -∗ Q ⟨a, c, b, d, 2#32⟩) -∗ WP c (k0_part50 (crd t) a1 h1 a2 h2 a3 h3 (Memref.whole main_arg2) (Memref.isWhole_whole _) (Memref.whole main_arg3) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13) Q) := by
  simp only [k0_part50_eq_skeleton]; unfold k0_part50_skel
  simp only [Prog.lift, Prog.bind_op, Prog.bind_ret, Prog.pure_eq_ret]
  simp only [dif_neg (not1 t (by omega)), dif_neg (not2 t (by omega)), dif_neg (not3 t (by omega))]
  unfold firstPost kFl
  iintro ⟨#HL, HO, H1⟩ Hk
  iapply (wp_dev c)
  iapply (wp_waitF c s hs (kSem (sl t) 0) (kSem_ne _ _) (semK_eq (sl t) 0 (off8_eq t) _) (N := NK) rfl) $$ [HO H1]
  · isplitr; · iexact HL
    isplitl [HO] <;> iassumption
  iintro ⟨HO, H1, S1⟩
  iapply (wp_done c)
  iapply Hk
  isplitl [HO]; · iexact HO
  isplitl [H1] <;> iassumption

theorem part50B (c : Dev nD) (t : Fin cfg0.N) (ht0 : t.val ≠ 0) (ht : t.val < 3) (s : Finset Pm) (hs : ∀ p ∈ s, 0 < lvK p.1)
    {Q : (Σ' (arg0 : BitVec 32) (d0 : Dev nD) (v2 : BitVec 32) (v21 : BitVec 32), BitVec 32) → sProp 𝕄} :
    iprop(levAts L lv ∗ Owes c s ∗ kFl m c (sl t) 0 (hd t 0) ∗ nxtPre m c t)
      ⊢ iprop((∀ a b d, (Owes c s ∗ firstPost m c t ∗ nxtPost m c t) -∗ Q ⟨a, c, b, d, 2#32⟩) -∗ WP c (k0_part50 (crd t) a1 h1 a2 h2 a3 h3 (Memref.whole main_arg2) (Memref.isWhole_whole _) (Memref.whole main_arg3) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13) Q) := by
  simp only [k0_part50_eq_skeleton]; unfold k0_part50_skel
  simp only [dif_neg (not1 t ht0), dif_pos ((cond2_iff t).mpr ht), dif_neg (not3 t ht0)]
  simp only [Prog.lift, Prog.bind_op, Prog.bind_ret, Prog.pure_eq_ret]
  unfold firstPost nxtPre nxtPost
  iintro ⟨#HL, HO, H1, N0, ⟨K1, A1⟩, ⟨V1, B1⟩⟩ Hk
  iapply (wp_dev c)
  iapply (wp_seq c)
  iapply (part2 m c t ht _ ((cond2_iff t).mpr ht)) $$ N0
  iintro %r N0
  iapply (wp_issueK m c (nx t) 1 (hdN t 1) (off6_eq t) (off3_eq' t ht 1) (congrArg SemLoc.dma (semK_eq (nx t) 1 (off5_eq t) _))) $$ [K1 A1]
  · isplitl [K1] <;> iassumption
  iintro F1
  iapply (wp_issueV m c (nx t) 1 (hdN t 1) (off7_eq t) (off3_eq' t ht 1) (congrArg SemLoc.dma (semV_eq (nx t) 1 (off5_eq t) _))) $$ [V1 B1]
  · isplitl [V1] <;> iassumption
  iintro F2
  unfold kFl
  iapply (wp_waitF c s hs (kSem (sl t) 0) (kSem_ne _ _) (semK_eq (sl t) 0 (off8_eq t) _) (N := NK) rfl) $$ [HO H1]
  · isplitr; · iexact HL
    isplitl [HO] <;> iassumption
  iintro ⟨HO, H1, S1⟩
  iapply (wp_done c)
  iapply Hk
  isplitl [HO]; · iexact HO
  isplitl [H1 S1]; · isplitl [H1] <;> iassumption
  isplitl [N0]; · iexact N0
  isplitl [F1] <;> iassumption

/-- What the first grid point takes for its own heads. -/
def fstPre (c : Dev nD) : sProp 𝕄 :=
  iprop((vPre c 0 0 ∗ vPre c 0 1 ∗ vPre c 1 0 ∗ vPre c 1 1 ∗ kFree c 0 0 ∗ kaP m c 0)
    ∗ vaP m c 0 ∗ (kFree c 0 1 ∗ kaP m c 1) ∗ vaP m c 1)

theorem part50A (c : Dev nD) (t : Fin cfg0.N) (ht0 : t.val = 0)
    {Q : (Σ' (arg0 : BitVec 32) (d0 : Dev nD) (v2 : BitVec 32) (v21 : BitVec 32), BitVec 32) → sProp 𝕄} :
    iprop(Rec m ∗ levAts L lv ∗ Owes c owedAll ∗ barPre c ∗ fstPre m c
        ∗ (kFree c (nx t) 0 ∗ kaP m c (hdN t 0) ∗ vaP m c (hdN t 0)) ∗ (kFree c (nx t) 1 ∗ kaP m c (hdN t 1) ∗ vaP m c (hdN t 1)))
      ⊢ iprop((∀ a b d, (Owes c (owd 0) ∗ barPost c ∗ firstPost m c t ∗ vFl m c (sl t) 0 (hd t 0) ∗ kFl m c (sl t) 1 (hd t 1) ∗ vFl m c (sl t) 1 (hd t 1) ∗ nxtPost m c t)
          -∗ Q ⟨a, c, b, d, 2#32⟩) -∗ WP c (k0_part50 (crd t) a1 h1 a2 h2 a3 h3 (Memref.whole main_arg2) (Memref.isWhole_whole _) (Memref.whole main_arg3) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13) Q) := by
  obtain rfl : t = t0_0 := Fin.ext ht0
  have hc1 := (cond1_iff t0_0).mpr ht0
  have hc2 := (cond2_iff t0_0).mpr (by omega)
  have hc3 := (cond3_iff t0_0).mpr ht0
  simp only [k0_part50_eq_skeleton]; unfold k0_part50_skel
  simp only [dif_pos hc1, dif_pos hc2, dif_pos hc3]
  simp only [semSignalWord, semWaitWord, Prog.lift, Prog.bind_op, Prog.bind_ret, Prog.pure_eq_ret]
  unfold firstPost nxtPost barPre barPost fstPre
  iintro ⟨#HR, #HL, HO, ⟨B0, B1, ⟨B2, B2'⟩, Bc, Ba⟩, ⟨P1, W0, ⟨K1, A1⟩, W1⟩, ⟨NK0, NA0, NB0⟩, ⟨NK1, NA1, NB1⟩⟩ Hk
  iapply (wp_dev c)
  iapply (wp_seq c)
  iapply (part1 m c t0_0) $$ P1
  iintro ⟨V00, V01, V10, V11, F00⟩
  iapply (wp_issueV m c 0 0 0 (off := ![0, 0, 0, 0]) (off' := ![0, 0, 0, 0]) rfl rfl (congrArg SemLoc.dma (semV_eq 0 0 rfl _))) $$ [V00 W0]
  · isplitl [V00] <;> iassumption
  iintro G00
  iapply (wp_issueK m c 0 1 1 (off := ![0, 1, 0, 0]) (off' := ![0, 0, 1, 0]) rfl rfl (congrArg SemLoc.dma (semK_eq 0 1 rfl _))) $$ [K1 A1]
  · isplitl [K1] <;> iassumption
  iintro F01
  iapply (wp_issueV m c 0 1 1 (off := ![0, 1, 0, 0]) (off' := ![0, 0, 1, 0]) rfl rfl (congrArg SemLoc.dma (semV_eq 0 1 rfl _))) $$ [V01 W1]
  · isplitl [V01] <;> iassumption
  iintro G01
  iapply (wp_seq c)
  iapply (part2 m c t0_0 (by omega) _ hc2) $$ [NK0 NA0 V10 NB0]
  · isplitl [NK0]; · iexact NK0
    isplitl [NA0]; · iexact NA0
    isplitl [V10]; · iexact V10
    iexact NB0
  iintro %r N0
  iapply (wp_issueK m c (nx t0_0) 1 (hdN t0_0 1) (off6_eq t0_0) (off3_eq' t0_0 (by omega) 1) (congrArg SemLoc.dma (semK_eq (nx t0_0) 1 (off5_eq t0_0) _))) $$ [NK1 NA1]
  · isplitl [NK1] <;> iassumption
  iintro F1
  iapply (wp_issueV m c (nx t0_0) 1 (hdN t0_0 1) (off7_eq t0_0) (off3_eq' t0_0 (by omega) 1) (congrArg SemLoc.dma (semV_eq (nx t0_0) 1 (off5_eq t0_0) _))) $$ [V11 NB1]
  · isplitl [V11]; · iexact V11
    iexact NB1
  iintro F2
  iapply (wp_seq c)
  iapply (part3 m c t0_0 _ hc3) $$ [HO B0 B1]
  · isplitr; · iexact HR
    isplitl [HO]; · iexact HO
    isplitl [B0] <;> iassumption
  iintro %r2 HO
  iapply (wp_sigB' m c ⟨k0_dev3 c, k0_dev3_lt (crd t0_0) c hc3⟩ 2 2 rfl (dev3_eq c) _ mem_bar2 rfl) $$ [HO B2 B2']
  · isplitr; · iexact HR
    isplitl [HO]; · iexact HO
    isplitl [B2] <;> iassumption
  iintro HO
  ihave HO := (show Owes (F := F) c (((owedAll.erase (none, 0)).erase (none, 1)).erase (none, 2)) ⊢ Owes c (owd 0) from Entails.of_eq (by rw [owd_bar])) $$ HO
  iapply (wp_waitB m c (owd 0) owd0_bar rfl) $$ [HO Bc Ba]
  · isplitr; · iexact HR
    isplitr; · iexact HL
    isplitl [HO]; · iexact HO
    isplitl [Bc] <;> iassumption
  iintro ⟨HO, Hbar⟩
  unfold kFl
  iapply (wp_waitF c (owd 0) (owd_pos 0) (kSem (sl t0_0) 0) (kSem_ne _ _) (semK_eq (sl t0_0) 0 (off8_eq t0_0) _) (N := NK) rfl) $$ [HO F00]
  · isplitr; · iexact HL
    isplitl [HO]; · iexact HO
    iexact F00
  iintro ⟨HO, H1, S1⟩
  iapply (wp_done c)
  iapply Hk
  isplitl [HO]; · iexact HO
  isplitl [Hbar]; · iexact Hbar
  isplitl [H1 S1]
  · isplitl [H1]; · iexact H1
    iexact S1
  isplitl [G00]; · iexact G00
  isplitl [F01]; · iexact F01
  isplitl [G01]; · iexact G01
  isplitl [N0]; · iexact N0
  isplitl [F1] <;> iassumption

end Cert.KP

end
-- ==== Proof.Main.lean ====
/-
  A grid point from its first wait to its last send.
-/
module

public import proofs.«01_k».proof.Proof.Parts2

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {a1 : Memref sig .tc .vmem S1x512x1024 .f32} {h1 : a1.IsWhole} {a2 : Memref sig .tc .vmem S1024x256 .f32} {h2 : a2.IsWhole}
  {a3 : Memref sig .tc .vmem S1024x1024 .f32} {h3 : a3.IsWhole} {a6 : Memref sig .tc .vmem S1x512x1024 .f32} {h6 : a6.IsWhole}

/-! ## A stored head cut into the devices' quarters -/

theorem slab_union (h : Fin 8) : slabSet h = (Finset.univ : Finset (Dev nD)).biUnion (opSet h) := by
  ext i
  simp only [slabSet, opSet, Finset.mem_biUnion, Finset.mem_filter, Finset.mem_univ, true_and]
  constructor
  · intro hi
    have hq : (i 2).val / 128 < 4 := by have : (i 2).val < 512 := (i 2).isLt; omega
    exact ⟨⟨(i 2).val / 128, hq⟩, hi, rfl⟩
  · rintro ⟨_, hi, _⟩; exact hi

theorem opSet_disj (h : Fin 8) (t t' : Dev nD) (hne : t ≠ t') : Disjoint (opSet h t) (opSet h t') := by
  rw [Finset.disjoint_left]
  intro i hi hi'
  exact hne (Fin.ext (((Finset.mem_filter.mp hi).2.2).symm.trans (Finset.mem_filter.mp hi').2.2))

theorem devs_eq : ∀ c : Dev nD, (Finset.univ : Finset (Dev nD)) = {c, tgt c 0, tgt c 1, tgt c 2} := by decide
theorem devs_nd : ∀ c : Dev nD, c ∉ ({tgt c 0, tgt c 1, tgt c 2} : Finset (Dev nD)) ∧ tgt c 0 ∉ ({tgt c 1, tgt c 2} : Finset (Dev nD)) ∧ tgt c 1 ∉ ({tgt c 2} : Finset (Dev nD)) := by decide

theorem bigSep_devs (c : Dev nD) (Φ : Dev nD → sProp 𝕄) :
    bigSep Finset.univ Φ = iprop(Φ c ∗ Φ (tgt c 0) ∗ Φ (tgt c 1) ∗ Φ (tgt c 2)) := by
  rw [devs_eq c, bigSep_insert (devs_nd c).1, bigSep_insert (devs_nd c).2.1, bigSep_insert (devs_nd c).2.2, bigSep_singleton]
  rfl

theorem slab_quarters (c : Dev nD) (h : Fin 8) (f : Buf (Elt F) (loc2 c)) :
    (loc2 c ↦[slabSet h]{fullShare} f : sProp 𝕄) = iprop(opP c h c f ∗ opP c h (tgt c 0) f ∗ opP c h (tgt c 1) f ∗ opP c h (tgt c 2) f) := by
  rw [slab_union h, pointsTo_biUnion _ _ (fun t _ t' _ hne => opSet_disj h t t' hne), bigSep_devs c]
  rfl

/-! ## Slots freed -/

theorem kHas_free (c : Dev nD) (s i : Fin 2) (h : Fin 8) :
    iprop(kHas m c s i h ∗ semVal ((c : Thread nD τ), SemLoc.dma (kSem s i)) 0) ⊢ (iprop(kFree c s i ∗ kaP m c h) : sProp 𝕄) := by
  unfold kHas kFree
  iintro ⟨⟨Hb, Ha⟩, Hv⟩
  isplitl [Hb Hv]
  · isplitl [Hv]; · iexact Hv
    iexists _; iexact Hb
  iexact Ha

theorem vHas_free (c : Dev nD) (s i : Fin 2) (h : Fin 8) :
    iprop(vHas m c s i h ∗ semVal ((c : Thread nD τ), SemLoc.dma (vSem s i)) 0) ⊢ (iprop(vFree c s i ∗ vaP m c h) : sProp 𝕄) := by
  unfold vHas vFree
  iintro ⟨⟨Hb, Ha⟩, Hv⟩
  isplitl [Hb Hv]
  · isplitl [Hv]; · iexact Hv
    iexists (VF m c h)
    isplitr
    · ipureintro
      intro x _ hx
      unfold VF
      rw [dif_neg (Nat.not_lt.mpr hx)]
    iexact Hb
  iexact Ha

/-! ## The step -/

/-- What the sends of a head take besides the head's entries; a head not yet computed. -/
def sendRes (c : Dev nD) (j : Fin 3) (h : Fin 8) : sProp 𝕄 :=
  iprop((∃ f, ocP (tgt c j) j h f) ∗ ptok c (some (1, j), h) ∗ ptok c (some (0, j), h))
def todo (c : Dev nD) (h : Fin 8) : sProp 𝕄 := iprop(slab0 c h ∗ sendRes c 0 h ∗ sendRes c 1 h ∗ sendRes c 2 h)
def cr3 (c : Dev nD) : sProp 𝕄 := iprop(crK c (some (1, 0)) ∗ crK c (some (1, 1)) ∗ crK c (some (1, 2)))

theorem slab_send (c : Dev nD) (h : Fin 8) :
    iprop(slab1 m c h ∗ sendRes c 0 h ∗ sendRes c 1 h ∗ sendRes c 2 h)
      ⊢ (iprop(opP c h c (OP m c) ∗ sendPre m c 0 h ∗ sendPre m c 1 h ∗ sendPre m c 2 h) : sProp 𝕄) := by
  unfold slab1 sendPre sendRes
  rw [slab_quarters c h]
  iintro ⟨⟨Hc, H0, H1, H2⟩, R0, R1, R2⟩
  isplitl [Hc]; · iexact Hc
  isplitl [H0 R0]
  · isplitl [H0] <;> iassumption
  isplitl [H1 R1]
  · isplitl [H1] <;> iassumption
  isplitl [H2] <;> iassumption

/-- The slot's two pairs of copies after the first wait. -/
def restFl (c : Dev nD) (t : Fin cfg0.N) : sProp 𝕄 := iprop(vFl m c (sl t) 0 (hd t 0) ∗ kFl m c (sl t) 1 (hd t 1) ∗ vFl m c (sl t) 1 (hd t 1))

def mainPost (c : Dev nD) (t : Fin cfg0.N) : sProp 𝕄 :=
  iprop(Owes c (owd (2 * t.val + 2)) ∗ ((kFree c (sl t) 0 ∗ kaP m c (hd t 0)) ∗ (kFree c (sl t) 1 ∗ kaP m c (hd t 1)))
    ∗ ((vFree c (sl t) 0 ∗ vaP m c (hd t 0)) ∗ (vFree c (sl t) 1 ∗ vaP m c (hd t 1)))
    ∗ (opP c (hd t 0) c (OP m c) ∗ opP c (hd t 1) c (OP m c)) ∗ cr3 c ∗ cr3 c)

/-- The last grid point's epilogue, from the first wait of the partials to the last of the sends. -/
def epi (a1 : Memref sig .tc .vmem S1x512x1024 .f32) (h1 : a1.IsWhole) (a2 : Memref sig .tc .vmem S1024x256 .f32) (h2 : a2.IsWhole)
    (a3 : Memref sig .tc .vmem S1024x1024 .f32) (h3 : a3.IsWhole) (a6 : Memref sig .tc .vmem S1x512x1024 .f32) (h6 : a6.IsWhole)
    (c : Dev nD) (t : Fin cfg0.N) (v2 : BitVec 32) (h4 : k0_cond4 (crd t) = 1#1) : Prog (TpuEff nD τ sig (Elt F) Λ₀ .tc) PUnit :=
  k0_part49 (crd t) a1 h1 a2 h2 a3 h3 (Memref.whole main_arg2) (Memref.isWhole_whole _) (Memref.whole main_arg3) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v2 h4 >>= fun _ =>
    .op (.waitDma2 (((cc0_scratch10 : DmaSems sig S3).slice (Rect.unit ![2] S1.size inb_S3_S1_2)).squeeze S_ squeezes_S1_S_).sem
      (ocM ![0, 6, 0, 0] inb_S3x8x136x128_S1x1x136x128_0_6_0_0) (opM (k0_off43 c 3#32) (k0_off43_inb (crd t) c h4 2))
      (((Memref.isWhole_whole cc0_scratch4).wordExact_slice rfl _ wordsbf16_S3x8x136x128_S1x1x136x128_0_6_0_0).reshape _ _)
      (((Memref.isWhole_whole cc0_scratch2).wordExact_slice rfl _ (k0_off43_wordsbf16 (crd t) c h4 2)).reshape _ _)) fun _ =>
    .op (.waitDma2 (((cc0_scratch10 : DmaSems sig S3).slice (Rect.unit ![2] S1.size inb_S3_S1_2)).squeeze S_ squeezes_S1_S_).sem
      (ocM ![0, 7, 0, 0] inb_S3x8x136x128_S1x1x136x128_0_7_0_0) (opM (k0_off44 c 3#32) (k0_off44_inb (crd t) c h4 2))
      (((Memref.isWhole_whole cc0_scratch4).wordExact_slice rfl _ wordsbf16_S3x8x136x128_S1x1x136x128_0_7_0_0).reshape _ _)
      (((Memref.isWhole_whole cc0_scratch2).wordExact_slice rfl _ (k0_off44_wordsbf16 (crd t) c h4 2)).reshape _ _)) fun _ =>
    .op (.waitDma2 (((cc0_scratch12 : DmaSems sig S3).slice (Rect.unit ![2] S1.size inb_S3_S1_2)).squeeze S_ squeezes_S1_S_).sem
      (ogM ![0, 0, 0] inb_S3x128x1024_S1x128x1024_0_0_0) (Memref.whole cc0_scratch5 : Memref sig .tc .vmem S128x1024 .bf16)
      (((Memref.isWhole_whole cc0_scratch6).wordExact_slice rfl _ wordsbf16_S3x128x1024_S1x128x1024_0_0_0).reshape _ _)
      (Memref.isWhole_whole cc0_scratch5).wordExact) fun _ => .ret ⟨⟩

theorem hd_val (t : Fin cfg0.N) (i : Fin 2) : (hd t i).val = 2 * t.val + i.val := by unfold hd; rfl

theorem owd_hd0 (t : Fin cfg0.N) :
    (((owd (2 * t.val)).erase (some (0, 2), hd t 0)).erase (some (0, 1), hd t 0)).erase (some (0, 0), hd t 0) = owd (2 * t.val + 1) := by
  have := owd_succ (hd t 0); rw [hd_val] at this; exact this
theorem owd_hd1 (t : Fin cfg0.N) :
    (((owd (2 * t.val + 1)).erase (some (0, 2), hd t 1)).erase (some (0, 1), hd t 1)).erase (some (0, 0), hd t 1) = owd (2 * t.val + 2) := by
  have := owd_succ (hd t 1); rw [hd_val] at this; exact this

theorem mem2_0 (t : Fin cfg0.N) : (some (0, (2 : Fin 3)), hd t 0) ∈ owd (2 * t.val) := by
  have := owd_mem2 (hd t 0); rw [hd_val] at this; exact this
theorem mem1_0 (t : Fin cfg0.N) : (some (0, (1 : Fin 3)), hd t 0) ∈ (owd (2 * t.val)).erase (some (0, 2), hd t 0) := by
  have := owd_mem1 (hd t 0); rw [hd_val] at this; exact this
theorem mem0_0 (t : Fin cfg0.N) : (some (0, (0 : Fin 3)), hd t 0) ∈ ((owd (2 * t.val)).erase (some (0, 2), hd t 0)).erase (some (0, 1), hd t 0) := by
  have := owd_mem0 (hd t 0); rw [hd_val] at this; exact this
theorem mem2_1 (t : Fin cfg0.N) : (some (0, (2 : Fin 3)), hd t 1) ∈ owd (2 * t.val + 1) := by
  have := owd_mem2 (hd t 1); rw [hd_val] at this; exact this
theorem mem1_1 (t : Fin cfg0.N) : (some (0, (1 : Fin 3)), hd t 1) ∈ (owd (2 * t.val + 1)).erase (some (0, 2), hd t 1) := by
  have := owd_mem1 (hd t 1); rw [hd_val] at this; exact this
theorem mem0_1 (t : Fin cfg0.N) : (some (0, (0 : Fin 3)), hd t 1) ∈ ((owd (2 * t.val + 1)).erase (some (0, 2), hd t 1)).erase (some (0, 1), hd t 1) := by
  have := owd_mem0 (hd t 1); rw [hd_val] at this; exact this

theorem Owes_cast (c : Dev nD) {s s' : Finset Pm} (h : s = s') : (Owes (F := F) c s : sProp 𝕄) ⊢ Owes c s' := by subst h; exact Entails.rfl

set_option maxRecDepth 65536 in
set_option maxHeartbeats 4000000 in
theorem body_from (c : Dev nD) (t : Fin cfg0.N) {q1 q2 : PosShare TreeShare} {X2 : Vec F S1024x256 .f32}
    (hX0 : ∀ (x : Fin 1024) (y : Fin 128), X2 (ix2 x ⟨128 * (0 : Fin 2).val + y.val, by have := y.isLt; show 128 * 0 + y.val < 256; omega⟩) = Wh m c (hd t 0) (ix2 x y))
    (hX1 : ∀ (x : Fin 1024) (y : Fin 128), X2 (ix2 x ⟨128 * (1 : Fin 2).val + y.val, by have := y.isLt; show 128 * 1 + y.val < 256; omega⟩) = Wh m c (hd t 1) (ix2 x y))
    {Pre R : sProp 𝕄} {Q : PUnit → sProp 𝕄}
    (h50 : ∀ {Q' : (Σ' (arg0 : BitVec 32) (d0 : Dev nD) (v2 : BitVec 32) (v21 : BitVec 32), BitVec 32) → sProp 𝕄},
      Pre ⊢ iprop((∀ a b d, (Owes c (owd (2 * t.val)) ∗ firstPost m c t ∗ restFl m c t ∗ todo c (hd t 0) ∗ todo c (hd t 1) ∗ R) -∗ Q' ⟨a, c, b, d, 2#32⟩)
        -∗ WP c (k0_part50 (crd t) a1 h1 a2 h2 a3 h3 (Memref.whole main_arg2) (Memref.isWhole_whole _) (Memref.whole main_arg3) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13) Q'))
    (hlt : t.val ≠ 3 → iprop(owns (c : Thread nD τ) a1 q1 (Xa m c) ∗ owns (c : Thread nD τ) a2 q2 X2 ∗ mainPost m c t ∗ R) ⊢ Q ⟨⟩)
    (heq : t.val = 3 → ∀ v2 h4, iprop(Rec m ∗ levAts L lv ∗ owns (c : Thread nD τ) a1 q1 (Xa m c) ∗ owns (c : Thread nD τ) a2 q2 X2 ∗ mainPost m c t ∗ R)
      ⊢ WP c (epi a1 h1 a2 h2 a3 h3 a6 h6 c t v2 h4) Q) :
    iprop(Rec m ∗ levAts L lv ∗ owns (c : Thread nD τ) a1 q1 (Xa m c) ∗ owns (c : Thread nD τ) a2 q2 X2 ∗ Pre)
      ⊢ WP c (cc0__body (crd t) a1 h1 a2 h2 a3 h3 (Memref.whole main_arg2) (Memref.isWhole_whole _) (Memref.whole main_arg3) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13) Q := by
  simp only [cc0__body_eq_skeleton]; unfold cc0__body_skel
  iintro ⟨#HR, #HL, Ha1, Ha2, HP⟩
  iapply (wp_seq c)
  iapply h50 $$ HP
  iintro %x1 %x2 %x3 ⟨HO, Hf, HF, T0, T1, Hr⟩
  unfold restFl
  icases HF with ⟨Hv0, Hk1, Hv1⟩
  iapply (wp_seq c)
  iapply (part51 m c t _ (owd_pos _) _ _) $$ [HO Hv0 Hk1 Hv1 Ha1]
  · isplitr; · iexact HL
    isplitl [HO]; · iexact HO
    isplitl [Hv0]; · iexact Hv0
    isplitl [Hk1]; · iexact Hk1
    isplitl [Hv1]; · iexact Hv1
    iexact Ha1
  iintro ⟨HO, ⟨Hv0, Sv0⟩, ⟨Hk1, Sk1⟩, ⟨Hv1, Sv1⟩, Ha1⟩
  unfold todo firstPost
  icases Hf with ⟨Hk0, Sk0⟩
  icases T0 with ⟨Z0, R00, R01, R02⟩
  icases T1 with ⟨Z1, R10, R11, R12⟩
  iapply (wp_seq c)
  iapply (part52 m c t hX0 _ _ _ _) $$ [Ha2 Hk0 Hv0 Z0]
  · isplitl [Ha2]; · iexact Ha2
    isplitl [Hk0]; · iexact Hk0
    isplitl [Hv0]; · iexact Hv0
    iexact Z0
  iintro %r52 ⟨Ha2, Hk0, Hv0, Z0⟩
  ihave Z0 := (slab_send m c (hd t 0)) $$ [Z0 R00 R01 R02]
  · isplitl [Z0]; · iexact Z0
    isplitl [R00]; · iexact R00
    isplitl [R01] <;> iassumption
  icases Z0 with ⟨D0, P0, P1, P2⟩
  iapply (wp_seq c)
  iapply (part53 m c t _ (mem2_0 t) _ _ _ _ _) $$ [HO P2]
  · isplitr; · iexact HR
    isplitl [HO] <;> iassumption
  iintro ⟨HO, C2⟩
  iapply (wp_seq c)
  iapply (part54 m c t _ (mem1_0 t) (mem0_0 t) hX1 _ _) $$ [HO P1 P0 Ha2]
  · isplitr; · iexact HR
    isplitl [HO]; · iexact HO
    isplitl [P1]; · iexact P1
    isplitl [P0] <;> iassumption
  iintro %b54 ⟨HO, C1, C0, Ha2⟩
  ihave HO := (Owes_cast c (owd_hd0 t)) $$ HO
  iapply (wp_seq c)
  iapply (part55 m c t _ _ _) $$ [Hk1 Hv1 Z1]
  · isplitl [Hk1]; · iexact Hk1
    isplitl [Hv1] <;> iassumption
  iintro %r55 ⟨Hk1, Hv1, Z1⟩
  ihave Z1 := (slab_send m c (hd t 1)) $$ [Z1 R10 R11 R12]
  · isplitl [Z1]; · iexact Z1
    isplitl [R10]; · iexact R10
    isplitl [R11] <;> iassumption
  icases Z1 with ⟨D1, P0, P1, P2⟩
  iapply (wp_seq c)
  iapply (part56 m c t _ (mem2_1 t) _ _ _ _ _ _) $$ [HO P2]
  · isplitr; · iexact HR
    isplitl [HO] <;> iassumption
  iintro ⟨HO, C5⟩
  simp only [Prog.lift, Prog.bind_op, Prog.bind_ret, Prog.pure_eq_ret]
  iapply (wp_sendO' m c ⟨k0_dev8 c, k0_dev8_lt c⟩ 1 (hd t 1) (dev8_eq c) _ (mem1_1 t) (off22_eq t 1) (off21_eq t c 1 1) (semOS_eq 1 rfl _) (semOR_eq 1 rfl _)) $$ [HO P1]
  · isplitr; · iexact HR
    isplitl [HO] <;> iassumption
  iintro ⟨HO, C4⟩
  iapply (wp_sendO' m c ⟨k0_dev9 c, k0_dev9_lt c⟩ 0 (hd t 1) (dev9_eq c) _ (mem0_1 t) (off23_eq t 1) (off21_eq t c 1 2) (semOS_eq 0 rfl _) (semOR_eq 0 rfl _)) $$ [HO P0]
  · isplitr; · iexact HR
    isplitl [HO] <;> iassumption
  iintro ⟨HO, C3⟩
  ihave HO := (Owes_cast c (owd_hd1 t)) $$ HO
  ihave Hk0 := (kHas_free m c (sl t) 0 (hd t 0)) $$ [Hk0 Sk0]
  · isplitl [Hk0] <;> iassumption
  ihave Hk1 := (kHas_free m c (sl t) 1 (hd t 1)) $$ [Hk1 Sk1]
  · isplitl [Hk1] <;> iassumption
  ihave Hv0 := (vHas_free m c (sl t) 0 (hd t 0)) $$ [Hv0 Sv0]
  · isplitl [Hv0] <;> iassumption
  ihave Hv1 := (vHas_free m c (sl t) 1 (hd t 1)) $$ [Hv1 Sv1]
  · isplitl [Hv1] <;> iassumption
  ihave HM := (show iprop(Owes c (owd (2 * t.val + 2)) ∗ ((kFree c (sl t) 0 ∗ kaP m c (hd t 0)) ∗ (kFree c (sl t) 1 ∗ kaP m c (hd t 1)))
    ∗ ((vFree c (sl t) 0 ∗ vaP m c (hd t 0)) ∗ (vFree c (sl t) 1 ∗ vaP m c (hd t 1)))
    ∗ (opP c (hd t 0) c (OP m c) ∗ opP c (hd t 1) c (OP m c)) ∗ cr3 c ∗ cr3 c) ⊢ mainPost m c t from Entails.rfl) $$ [HO Hk0 Hk1 Hv0 Hv1 D0 D1 C0 C1 C2 C3 C4 C5]
  · isplitl [HO]; · iexact HO
    isplitl [Hk0 Hk1]; · isplitl [Hk0] <;> iassumption
    isplitl [Hv0 Hv1]; · isplitl [Hv0] <;> iassumption
    isplitl [D0 D1]; · isplitl [D0] <;> iassumption
    unfold cr3
    isplitl [C0 C1 C2]
    · isplitl [C0]; · iexact C0
      isplitl [C1] <;> iassumption
    isplitl [C3]; · iexact C3
    isplitl [C4] <;> iassumption
  by_cases ht3 : t.val = 3
  · simp only [dif_pos ((cond4_iff t).mpr ht3)]
    iapply (show WP c (epi a1 h1 a2 h2 a3 h3 a6 h6 c t x2 ((cond4_iff t).mpr ht3)) Q ⊢ _ from Entails.rfl)
    iapply (heq ht3 x2 _)
    isplitr; · iexact HR
    isplitr; · iexact HL
    isplitl [Ha1]; · iexact Ha1
    isplitl [Ha2]; · iexact Ha2
    isplitl [HM] <;> iassumption
  · simp only [dif_neg (fun h => ht3 ((cond4_iff t).mp h))]
    iapply (wp_done c)
    iapply (hlt ht3)
    isplitl [Ha1]; · iexact Ha1
    isplitl [Ha2]; · iexact Ha2
    isplitl [HM] <;> iassumption

end Cert.KP

end
-- ==== Proof.EpiLib.lean ====
/-
  What the last grid point needs: the own copy, eight waits on a cell, a head merged.
-/
module

public import proofs.«01_k».proof.Proof.Main

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {a1 : Memref sig .tc .vmem S1x512x1024 .f32} {h1 : a1.IsWhole} {a2 : Memref sig .tc .vmem S1024x256 .f32} {h2 : a2.IsWhole}
  {a3 : Memref sig .tc .vmem S1024x1024 .f32} {h3 : a3.IsWhole} {a6 : Memref sig .tc .vmem S1x512x1024 .f32} {h6 : a6.IsWhole}

theorem off26_eq : ∀ c : Dev nD, k0_off26 c = ![0, 0, 128 * c.val] := by decide +kernel
theorem off35_eq : ∀ c : Dev nD, k0_off35 c = ![0, 128 * c.val, 0] := by decide +kernel

/-! ## The own quarter copied -/

def ownQ (c : Dev nD) : Finset S8x136x512.Idx := Finset.univ.filter fun i => (i 2).val / 128 = c.val

theorem own_union (c : Dev nD) : ownQ c = (Finset.univ : Finset (Fin 8)).biUnion (fun h => opSet h c) := by
  ext i
  simp only [ownQ, opSet, Finset.mem_biUnion, Finset.mem_filter, Finset.mem_univ, true_and]
  constructor
  · intro hi
    exact ⟨i 0, rfl, hi⟩
  · rintro ⟨_, _, hi⟩; exact hi

theorem own_pieces (c : Dev nD) (f : Buf (Elt F) (loc2 c)) :
    (loc2 c ↦[ownQ c]{fullShare} f : sProp 𝕄) = bigSep Finset.univ (fun h : Fin 8 => opP c h c f) := by
  rw [own_union c, pointsTo_biUnion _ _ (fun t _ t' _ hne => by
    rw [Finset.disjoint_left]; intro i hi hi'
    exact hne (Fin.ext (((Finset.mem_filter.mp hi).2.1).symm.trans (Finset.mem_filter.mp hi').2.1)))]
  rfl

abbrev ownM (off : Fin 3 → ℕ) (inb : ∀ a, off a + S8x136x128.size a ≤ S8x136x512.size a) : Memref sig .tc .vmem S8x136x128 .bf16 :=
  (Memref.whole cc0_scratch2 : Memref sig .tc .vmem S8x136x512 .bf16).slice (Rect.unit (s := S8x136x512) off S8x136x128.size inb) (fun _ => rfl)

theorem emb_own (c : Dev nD) {off} (ho : off = ![0, 0, 128 * c.val]) (inb) (h : Fin 8) (a : Fin 136) (b : Fin 128) :
    (ownM off inb).view.emb (ix3 h a b) = (ix3 h a (qcol c b) : S8x136x512.Idx) := by
  subst ho
  show (Rect.unit (s := S8x136x512) _ S8x136x128.size inb).emb (ix3 h a b) = _
  funext x; apply Fin.ext; rw [Rect.emb_apply]; fin_cases x <;> simp [Rect.unit, ix3, qcol]

theorem set_own (c : Dev nD) {off} (ho : off = ![0, 0, 128 * c.val]) (inb) : (ownM off inb).view.set = ownQ c := by
  ext i
  constructor
  · intro hi
    obtain ⟨y, -, rfl⟩ := Finset.mem_map.mp hi
    obtain ⟨p, a, b, rfl⟩ : ∃ (p : Fin 8) (a : Fin 136) (b : Fin 128), y = ix3 p a b := ⟨y 0, y 1, y 2, eq_ix3 y⟩
    rw [emb_own c ho]
    exact Finset.mem_filter.mpr ⟨Finset.mem_univ _, (by have := b.isLt; show (128 * c.val + b.val) / 128 = c.val; omega)⟩
  · intro hi
    obtain ⟨p, a, q, rfl⟩ : ∃ (p : Fin 8) (a : Fin 136) (q : Fin 512), i = ix3 p a q := ⟨i 0, i 1, i 2, eq_ix3 i⟩
    obtain ⟨-, h1⟩ := Finset.mem_filter.mp hi
    replace h1 : q.val / 128 = c.val := h1
    refine Finset.mem_map.mpr ⟨ix3 p a ⟨q.val % 128, Nat.mod_lt _ (by decide)⟩, Finset.mem_univ _, (emb_own c ho inb p a _).trans ?_⟩
    exact congrArg (ix3 p a) (Fin.ext (by show 128 * c.val + q.val % 128 = q.val; omega))

theorem write_own (c : Dev nD) {off} (ho : off = ![0, 0, 128 * c.val]) (inb) (fd : Vec F S8x136x128 .bf16) (x : S8x136x128.Idx) :
    (Memref.whole cc0_scratch3 : Memref sig .tc .vmem S8x136x128 .bf16).view.write (Elt F) fd ((ownM off inb).view.read (Elt F) (OP m c)) Finset.univ x = OWN m c x := by
  obtain ⟨p, a, b, rfl⟩ : ∃ (p : Fin 8) (a : Fin 136) (b : Fin 128), x = ix3 p a b := ⟨x 0, x 1, x 2, eq_ix3 x⟩
  refine (View.write_emb_of_mem (v := (Memref.whole cc0_scratch3 : Memref sig .tc .vmem S8x136x128 .bf16).view) _ _ (Finset.mem_univ (ix3 p a b))).trans ?_
  rw [View.read_apply, emb_own c ho]
  rfl

abbrev NW : ℕ := (cc0_scratch3 : Ref sig .tc).dmaCredit S8x136x128 .bf16
theorem NW_pos : 0 < NW := sig.dmaCredit_pos _ _ _ S8x136x128 .bf16 (by decide)

def oHas (c : Dev nD) : sProp 𝕄 := iprop((loc3 c ↦{fullShare} OWN m c) ∗ (loc2 c ↦[ownQ c]{fullShare} OP m c))

theorem wp_issueO (c : Dev nD) {off'} (ho' : off' = ![0, 0, 128 * c.val]) {inb'}
    {sm : SemLoc sig} (hsm : sm = .dma oSem)
    {hsrc : (ownM off' inb').view.WordExact} {hdst : (Memref.whole cc0_scratch3 : Memref sig .tc .vmem S8x136x128 .bf16).view.WordExact}
    {hsem : DmaTarget.Typed (nD := nD) (τ := τ) (p := .tc) .vmem sm (.here (Memref.whole cc0_scratch3 : Memref sig .tc .vmem S8x136x128 .bf16))}
    {α : Type} {Q : α → sProp 𝕄} {k : PUnit → Prog (TpuEff nD τ sig (Elt F) Λ₀ .tc) α} :
    iprop(semVal ((c : Thread nD τ), SemLoc.dma oSem) 0 ∗ (∃ f, loc3 c ↦{fullShare} f) ∗ (loc2 c ↦[ownQ c]{fullShare} OP m c))
      ⊢ iprop((Transfers.Flight EC (c : Thread nD τ) (.dma oSem) () NW (oHas m c) -∗ WP c (k ⟨⟩) Q)
        -∗ WP c (.op (.enqueueDma (ownM off' inb') (.here (Memref.whole cc0_scratch3 : Memref sig .tc .vmem S8x136x128 .bf16)) sm hsrc hdst hsem) k) Q) := by
  subst hsm
  iintro ⟨Hv, ⟨%f, Hd⟩, Hs⟩ Hk
  iapply (Transfers.wp_dmaLocal EC 𝒱₀ (c : Thread nD τ) none (src := ownM off' inb') (dst := (Memref.whole cc0_scratch3 : Memref sig .tc .vmem S8x136x128 .bf16))
    (Sd := Finset.univ) (fd := f) (fs := OP m c) () NW rfl NW_pos (Finset.subset_univ _)) $$ [Hs Hd Hv]
  · isplitl [Hs]; · rw [set_own c ho' inb']; iexact Hs
    isplitl [Hd]; · iexact Hd
    iexact Hv
  iintro HF
  iapply Hk
  iapply (Transfers.Flight_mono EC (c : Thread nD τ) (D' := oHas m c) (by
    unfold oHas
    rw [set_own c ho' inb']
    exact sep_mono_left (Entails.of_eq (pointsTo_congr fun x _ => write_own m c ho' inb' f x)))) $$ HF

/-! ## Eight waits on one cell -/

def crN (c : Dev nD) (k : Kd) : ℕ → sProp 𝕄
  | 0 => iprop(emp)
  | n + 1 => iprop(crK c k ∗ crN c k n)

theorem wp_w8 (c : Dev nD) (k : Kd) (hk : (dutK k).card = 8) (s : Finset Pm) (hlv : ∀ p ∈ s, lvK k < lvK p.1)
    {sem : DmaSem sig} (hsm : SemLoc.dma sem = csem k) {r0 r1 r2 r3 r4 r5 r6 r7 d0 d1 d2 d3 d4 d5 d6 d7 : Memref sig .tc .vmem S136x128 .bf16}
    (e0 : d0.view.dmaCredit = amtK k) (e1 : d1.view.dmaCredit = amtK k) (e2 : d2.view.dmaCredit = amtK k) (e3 : d3.view.dmaCredit = amtK k)
    (e4 : d4.view.dmaCredit = amtK k) (e5 : d5.view.dmaCredit = amtK k) (e6 : d6.view.dmaCredit = amtK k) (e7 : d7.view.dmaCredit = amtK k)
    {x0 x1 x2 x3 x4 x5 x6 x7 y0 y1 y2 y3 y4 y5 y6 y7}
    {α : Type} {Q : α → sProp 𝕄} {kt : PUnit → Prog (TpuEff nD τ sig (Elt F) Λ₀ .tc) α} :
    iprop(Rec m ∗ levAts L lv ∗ Owes c s ∗ crN c k 8 ∗ WX m c k 0)
      ⊢ iprop(((Owes c s ∗ semVal (kcell c k) 0 ∗ bigSep (dutK k) (fun d => payK m k c d)) -∗ WP c (kt ⟨⟩) Q)
        -∗ WP c (.op (.waitDma2 sem r0 d0 x0 y0) fun _ => .op (.waitDma2 sem r1 d1 x1 y1) fun _ => .op (.waitDma2 sem r2 d2 x2 y2) fun _ =>
          .op (.waitDma2 sem r3 d3 x3 y3) fun _ => .op (.waitDma2 sem r4 d4 x4 y4) fun _ => .op (.waitDma2 sem r5 d5 x5 y5) fun _ =>
          .op (.waitDma2 sem r6 d6 x6 y6) fun _ => .op (.waitDma2 sem r7 d7 x7 y7) kt) Q) := by
  unfold crN crN crN crN crN crN crN crN crN
  iintro ⟨#HR, #HL, HO, ⟨C0, C1, C2, C3, C4, C5, C6, C7, -⟩, HW⟩ Hk
  iapply (wp_wO m c k 0 s hlv hsm e0) $$ [HO C0 HW]
  · isplitr; · iexact HR
    isplitr; · iexact HL
    isplitl [HO]; · iexact HO
    isplitl [C0] <;> iassumption
  iintro ⟨HO, HW⟩
  iapply (wp_wO m c k 1 s hlv hsm e1) $$ [HO C1 HW]
  · isplitr; · iexact HR
    isplitr; · iexact HL
    isplitl [HO]; · iexact HO
    isplitl [C1] <;> iassumption
  iintro ⟨HO, HW⟩
  iapply (wp_wO m c k 2 s hlv hsm e2) $$ [HO C2 HW]
  · isplitr; · iexact HR
    isplitr; · iexact HL
    isplitl [HO]; · iexact HO
    isplitl [C2] <;> iassumption
  iintro ⟨HO, HW⟩
  iapply (wp_wO m c k 3 s hlv hsm e3) $$ [HO C3 HW]
  · isplitr; · iexact HR
    isplitr; · iexact HL
    isplitl [HO]; · iexact HO
    isplitl [C3] <;> iassumption
  iintro ⟨HO, HW⟩
  iapply (wp_wO m c k 4 s hlv hsm e4) $$ [HO C4 HW]
  · isplitr; · iexact HR
    isplitr; · iexact HL
    isplitl [HO]; · iexact HO
    isplitl [C4] <;> iassumption
  iintro ⟨HO, HW⟩
  iapply (wp_wO m c k 5 s hlv hsm e5) $$ [HO C5 HW]
  · isplitr; · iexact HR
    isplitr; · iexact HL
    isplitl [HO]; · iexact HO
    isplitl [C5] <;> iassumption
  iintro ⟨HO, HW⟩
  iapply (wp_wO m c k 6 s hlv hsm e6) $$ [HO C6 HW]
  · isplitr; · iexact HR
    isplitr; · iexact HL
    isplitl [HO]; · iexact HO
    isplitl [C6] <;> iassumption
  iintro ⟨HO, HW⟩
  iapply (wp_wLast m c k 7 hk.symm s hlv hsm e7) $$ [HO C7 HW]
  · isplitr; · iexact HR
    isplitr; · iexact HL
    isplitl [HO]; · iexact HO
    isplitl [C7] <;> iassumption
  iexact Hk

/-! ## A landed slot as one memref -/

/-- Device `p`'s partials at device `c`'s quarter. -/
def PQ (p c : Dev nD) : Vec F S8x136x128 .bf16 := fun i => opv m p (i 0) (i 1) (qcol c (i 2))

def slotSet (j : Fin 3) : Finset S3x8x136x128.Idx := Finset.univ.filter fun i => (i 0).val = j.val

abbrev slM (off : Fin 4 → ℕ) (inb : ∀ a, off a + S1x8x136x128.size a ≤ S3x8x136x128.size a) : Memref sig .tc .vmem S8x136x128 .bf16 :=
  ((Memref.whole cc0_scratch4 : Memref sig .tc .vmem S3x8x136x128 .bf16).slice (Rect.unit (s := S3x8x136x128) off S1x8x136x128.size inb) (fun _ => rfl)).squeeze
    S8x136x128 squeezes_S1x8x136x128_S8x136x128

theorem emb_sl (j : Fin 3) {off} (ho : off = ![j.val, 0, 0, 0]) (inb) (h : Fin 8) (a : Fin 136) (b : Fin 128) :
    (slM off inb).view.emb (ix3 h a b) = (ix4 j h a b : S3x8x136x128.Idx) := by
  subst ho
  show (Rect.unit (s := S3x8x136x128) _ S1x8x136x128.size inb).emb (Shape.reshapeEquiv _ (ix3 h a b)) = _
  rw [reshapeEquiv_ix3_1abc]
  funext x; apply Fin.ext; rw [Rect.emb_apply]; fin_cases x <;> simp [Rect.unit, ix4]

theorem set_sl (j : Fin 3) {off} (ho : off = ![j.val, 0, 0, 0]) (inb) : (slM off inb).view.set = slotSet j := by
  ext i
  constructor
  · intro hi
    obtain ⟨y, -, rfl⟩ := Finset.mem_map.mp hi
    obtain ⟨p, a, b, rfl⟩ : ∃ (p : Fin 8) (a : Fin 136) (b : Fin 128), y = ix3 p a b := ⟨y 0, y 1, y 2, eq_ix3 y⟩
    rw [emb_sl j ho]
    exact Finset.mem_filter.mpr ⟨Finset.mem_univ _, rfl⟩
  · intro hi
    obtain ⟨p, q, a, b, rfl⟩ : ∃ (p : Fin 3) (q : Fin 8) (a : Fin 136) (b : Fin 128), i = ix4 p q a b := ⟨i 0, i 1, i 2, i 3, eq_ix4 i⟩
    obtain ⟨-, h0⟩ := Finset.mem_filter.mp hi
    obtain rfl : p = j := Fin.ext h0
    exact Finset.mem_map.mpr ⟨ix3 q a b, Finset.mem_univ _, emb_sl p ho inb q a b⟩

theorem slot_union (j : Fin 3) : slotSet j = (Finset.univ : Finset (Fin 8)).biUnion (ocSet j) := by
  ext i
  simp only [slotSet, ocSet, Finset.mem_biUnion, Finset.mem_filter, Finset.mem_univ, true_and]
  constructor
  · intro hi
    exact ⟨i 1, hi, rfl⟩
  · rintro ⟨_, hi, _⟩; exact hi

theorem slot_pieces (c : Dev nD) (j : Fin 3) (f : Buf (Elt F) (loc4 c)) :
    (loc4 c ↦[slotSet j]{fullShare} f : sProp 𝕄) = bigSep Finset.univ (fun h : Fin 8 => ocP c j h f) := by
  rw [slot_union j, pointsTo_biUnion _ _ (fun t _ t' _ hne => by
    rw [Finset.disjoint_left]; intro i hi hi'
    exact hne (Fin.ext (((Finset.mem_filter.mp hi).2.2).symm.trans (Finset.mem_filter.mp hi').2.2)))]
  rfl

theorem slot_join (c : Dev nD) (j : Fin 3) {off} (ho : off = ![j.val, 0, 0, 0]) (inb) :
    bigSep Finset.univ (fun h : Fin 8 => ocP c j h (OC m c)) ⊢ (owns (c : Thread nD τ) (slM off inb) fullShare (PQ m (src c j) c) : sProp 𝕄) := by
  rw [← slot_pieces c j]
  unfold owns
  iintro H
  iexists (OC m c)
  isplitr
  · ipureintro
    funext y
    obtain ⟨p, a, b, rfl⟩ : ∃ (p : Fin 8) (a : Fin 136) (b : Fin 128), y = ix3 p a b := ⟨y 0, y 1, y 2, eq_ix3 y⟩
    rw [View.read_apply, emb_sl j ho]
    rfl
  rw [set_sl j ho inb]
  iexact H

theorem slot_back (c : Dev nD) (j : Fin 3) {off} (ho : off = ![j.val, 0, 0, 0]) (inb) {X} :
    (owns (c : Thread nD τ) (slM off inb) fullShare X : sProp 𝕄) ⊢ iprop(∃ f, loc4 c ↦[slotSet j]{fullShare} f) := by
  unfold owns
  rw [set_sl j ho inb]
  iintro ⟨%f, -, H⟩
  iexists f
  iexact H

/-! ## A head merged -/

/-- The own buffer after `k` heads: their outputs in the first 128 rows. -/
def OWNn (c : Dev nD) (k : ℕ) : Vec F S8x136x128 .bf16 := fun i =>
  if (i 0).val < k ∧ (i 1).val < 128 then ATT m c (i 0) (ix3 0 ⟨(i 1).val % 128, Nat.mod_lt _ (by decide)⟩ (i 2)) else PQ m c c i

theorem OWNn_zero (c : Dev nD) : OWNn m c 0 = OWN m c := by
  funext i; unfold OWNn; rw [if_neg (fun h => Nat.not_lt_zero _ h.1)]; rfl

theorem emb_hr (h : Fin 8) (n r0 : ℕ) {off} (ho : off = ![h.val, r0, 0]) (hr : r0 + n ≤ 136) (inb : ∀ a, off a + (⟨3, ![1, n, 128]⟩ : Shape).size a ≤ S8x136x128.size a)
    (a : Fin n) (q : Fin 128) :
    (Rect.unit (s := S8x136x128) off (⟨3, ![1, n, 128]⟩ : Shape).size inb).emb (ix3 (0 : Fin 1) a q) = (ix3 h (⟨r0 + a.val, by omega⟩ : Fin 136) q : S8x136x128.Idx) := by
  subst ho
  funext x; apply Fin.ext; rw [Rect.emb_apply]; fin_cases x <;> simp [Rect.unit, ix3]

theorem wp_ldE (c : Dev nD) {cs : CoreSpace} {sh : Shape} {e : EltTy} {a : Memref sig .tc cs sh e} {q : PosShare TreeShare} {X : sh.Idx → Elt F e}
    {r : Rect sh} {Y : r.shape.Idx → Elt F e} (he : ∀ x, X (r.emb x) = Y x) {hl : a.view.LoadsAt r.toLoadRect}
    {α : Type} {Q : α → sProp 𝕄} {k : (r.shape.Idx → Elt F e) → Prog (TpuEff nD τ sig (Elt F) Λ₀ .tc) α} :
    (owns (c : Thread nD τ) a q X : sProp 𝕄)
      ⊢ iprop((owns (c : Thread nD τ) a q X -∗ WP c (k Y) Q) -∗ WP c (.op (.load a r.toLoadRect hl) k) Q) := by
  obtain rfl : (fun x => X (r.emb x)) = Y := funext he
  exact wp_ldOwns c

section rows
variable (c p : Dev nD) (h : Fin 8)

theorem row_eq (r0 : ℕ) (hr : r0 + 1 ≤ 136) {off} (ho : off = ![h.val, r0, 0]) (inb : ∀ a, off a + S1x1x128.size a ≤ S8x136x128.size a) (x : S1x1x128.Idx) :
    (Rect.unit (s := S8x136x128) off S1x1x128.size inb).emb x = (ix3 h (⟨r0, hr⟩ : Fin 136) (x 2) : S8x136x128.Idx) := by
  obtain ⟨z, a, b, rfl⟩ : ∃ (z : Fin 1) (a : Fin 1) (b : Fin 128), x = ix3 z a b := ⟨x 0, x 1, x 2, eq_ix3 x⟩
  obtain rfl : z = 0 := Subsingleton.elim _ _
  obtain rfl : a = 0 := Subsingleton.elim _ _
  exact emb_hr h 1 r0 ho (by omega) inb 0 b

theorem blk_eq {off} (ho : off = ![h.val, 0, 0]) (inb : ∀ a, off a + S1x128x128.size a ≤ S8x136x128.size a) (x : S1x128x128.Idx) :
    (Rect.unit (s := S8x136x128) off S1x128x128.size inb).emb x
      = (ix3 h (⟨(x 1).val, Nat.lt_trans (x 1).isLt (by decide : (128 : ℕ) < 136)⟩ : Fin 136) (x 2) : S8x136x128.Idx) := by
  obtain ⟨z, a, b, rfl⟩ : ∃ (z : Fin 1) (a : Fin 128) (b : Fin 128), x = ix3 z a b := ⟨x 0, x 1, x 2, eq_ix3 x⟩
  obtain rfl : z = 0 := Subsingleton.elim _ _
  refine (emb_hr h 128 0 ho (by omega) inb a b).trans ?_
  exact congrArg (fun r => ix3 h r b) (Fin.ext (Nat.zero_add _))

theorem PQ_m {off} (ho : off = ![h.val, 129, 0]) (inb : ∀ a, off a + S1x1x128.size a ≤ S8x136x128.size a) (x) :
    PQ m p c ((Rect.unit (s := S8x136x128) off S1x1x128.size inb).emb x) = mRow m p c h x := by rw [row_eq h 129 (by omega) ho]; rfl
theorem PQ_l {off} (ho : off = ![h.val, 128, 0]) (inb : ∀ a, off a + S1x1x128.size a ≤ S8x136x128.size a) (x) :
    PQ m p c ((Rect.unit (s := S8x136x128) off S1x1x128.size inb).emb x) = lRow m p c h x := by rw [row_eq h 128 (by omega) ho]; rfl
theorem PQ_o {off} (ho : off = ![h.val, 0, 0]) (inb : ∀ a, off a + S1x128x128.size a ≤ S8x136x128.size a) (x) :
    PQ m p c ((Rect.unit (s := S8x136x128) off S1x128x128.size inb).emb x) = oRow m p c h x := by rw [blk_eq h ho]; rfl

theorem OWNn_m {off} (ho : off = ![h.val, 129, 0]) (inb : ∀ a, off a + S1x1x128.size a ≤ S8x136x128.size a) (x) :
    OWNn m c h.val ((Rect.unit (s := S8x136x128) off S1x1x128.size inb).emb x) = mRow m c c h x := by
  rw [row_eq h 129 (by omega) ho]; unfold OWNn; rw [if_neg (fun hh => absurd hh.1 (Nat.lt_irrefl _))]; rfl
theorem OWNn_l {off} (ho : off = ![h.val, 128, 0]) (inb : ∀ a, off a + S1x1x128.size a ≤ S8x136x128.size a) (x) :
    OWNn m c h.val ((Rect.unit (s := S8x136x128) off S1x1x128.size inb).emb x) = lRow m c c h x := by
  rw [row_eq h 128 (by omega) ho]; unfold OWNn; rw [if_neg (fun hh => absurd hh.1 (Nat.lt_irrefl _))]; rfl
theorem OWNn_o {off} (ho : off = ![h.val, 0, 0]) (inb : ∀ a, off a + S1x128x128.size a ≤ S8x136x128.size a) (x) :
    OWNn m c h.val ((Rect.unit (s := S8x136x128) off S1x128x128.size inb).emb x) = oRow m c c h x := by
  rw [blk_eq h ho]; unfold OWNn; rw [if_neg (fun hh => absurd hh.1 (Nat.lt_irrefl _))]; rfl
theorem OWNn_att {off} (ho : off = ![h.val, 0, 0]) (inb : ∀ a, off a + S1x128x128.size a ≤ S8x136x128.size a) (x) :
    OWNn m c 8 ((Rect.unit (s := S8x136x128) off S1x128x128.size inb).emb x) = ATT m c h x := by
  rw [blk_eq h ho]
  obtain ⟨z, a, b, rfl⟩ : ∃ (z : Fin 1) (a : Fin 128) (b : Fin 128), x = ix3 z a b := ⟨x 0, x 1, x 2, eq_ix3 x⟩
  obtain rfl : z = 0 := Subsingleton.elim _ _
  unfold OWNn
  rw [if_pos ⟨h.isLt, a.isLt⟩]
  exact congrArg (fun r => ATT m c h (ix3 0 r b)) (Fin.ext (Nat.mod_eq_of_lt a.isLt))

theorem updR_blk {A : Type} (X Z : S8x136x128.Idx → A) (W : S1x128x128.Idx → A)
    (hin : ∀ (r : Fin 136) (b : Fin 128) (hr : r.val < 128), Z (ix3 h r b) = W (ix3 0 ⟨r.val, hr⟩ b))
    (hout : ∀ (p : Fin 8) (r : Fin 136) (b : Fin 128), ¬ (p = h ∧ r.val < 128) → X (ix3 p r b) = Z (ix3 p r b))
    {off} (ho : off = ![h.val, 0, 0]) (inb : ∀ a, off a + S1x128x128.size a ≤ S8x136x128.size a) :
    updR X (Rect.unit (s := S8x136x128) off S1x128x128.size inb) W = Z := by
  funext i
  obtain ⟨p, r, b, rfl⟩ : ∃ (p : Fin 8) (r : Fin 136) (b : Fin 128), i = ix3 p r b := ⟨i 0, i 1, i 2, eq_ix3 i⟩
  by_cases hh : p = h ∧ r.val < 128
  · obtain ⟨rfl, hr⟩ := hh
    have e := blk_eq p ho inb (ix3 (0 : Fin 1) (⟨r.val, hr⟩ : Fin 128) b)
    have e2 : (Rect.unit (s := S8x136x128) off S1x128x128.size inb).emb (ix3 (0 : Fin 1) (⟨r.val, hr⟩ : Fin 128) b) = (ix3 p r b : S8x136x128.Idx) := e
    rw [← e2, updR_emb X (Rect.unit (s := S8x136x128) off S1x128x128.size inb) W, e2, hin r b hr]
  · refine (updR_other X (Rect.unit (s := S8x136x128) off S1x128x128.size inb) W (ix3 p r b) (fun (x : S1x128x128.Idx) hx => hh ?_)).trans (hout p r b hh)
    have hx' := (blk_eq h ho inb x).symm.trans hx
    have h1 : (x 1).val < 128 := (x 1).isLt
    have h2 : (x 1).val = r.val := congrArg Fin.val (congrFun hx' 1)
    exact ⟨(congrFun hx' 0).symm, h2 ▸ h1⟩

theorem OWNn_succ {off} (ho : off = ![h.val, 0, 0]) (inb : ∀ a, off a + S1x128x128.size a ≤ S8x136x128.size a) :
    updR (OWNn m c h.val) (Rect.unit (s := S8x136x128) off S1x128x128.size inb) (ATT m c h) = OWNn m c (h.val + 1) := by
  refine updR_blk h _ _ _ (fun r b hr => ?_) (fun p r b hh => ?_) ho inb
  · unfold OWNn
    rw [if_pos ⟨Nat.lt_succ_self _, hr⟩]
    exact congrArg (fun r => ATT m c h (ix3 0 r b)) (Fin.ext (Nat.mod_eq_of_lt hr))
  · unfold OWNn
    by_cases h2 : p.val < h.val ∧ r.val < 128
    · rw [if_pos h2, if_pos ⟨Nat.lt_succ_of_lt h2.1, h2.2⟩]
    · rw [if_neg h2, if_neg fun h3 => ?_]
      have h4 : p.val < h.val + 1 := h3.1
      rcases Nat.lt_succ_iff_lt_or_eq.mp h4 with h5 | h5
      · exact h2 ⟨h5, h3.2⟩
      · exact hh ⟨Fin.ext h5, h3.2⟩
end rows

abbrev ownW : Memref sig .tc .vmem S8x136x128 .bf16 := Memref.whole cc0_scratch3

theorem wp_head (c : Dev nD) (h : Fin 8) {om ol oo : Fin 3 → ℕ} (em : om = ![h.val, 129, 0]) (el : ol = ![h.val, 128, 0]) (eo : oo = ![h.val, 0, 0])
    {im : ∀ a, om a + S1x1x128.size a ≤ S8x136x128.size a} {il : ∀ a, ol a + S1x1x128.size a ≤ S8x136x128.size a}
    {io : ∀ a, oo a + S1x128x128.size a ≤ S8x136x128.size a}
    {b0 b1 b2 : Memref sig .tc .vmem S8x136x128 .bf16}
    {hm hm0 hm1 hm2 hl hl0 hl1 hl2 ho ho0 ho1 ho2 ho3 hx hy}
    {P : Vec F S1x1x128 .bf16 → Vec F S1x1x128 .bf16 → Vec F S1x1x128 .bf16 → Vec F S1x1x128 .bf16 → Vec F S1x128x128 .bf16 → Vec F S1x1x128 .bf16
      → Vec F S1x128x128 .bf16 → Vec F S1x1x128 .bf16 → Vec F S1x128x128 .bf16 → Vec F S1x1x128 .bf16 → Vec F S1x128x128 .bf16 → Vec F S1x1x128 .bf16 → FVec F S1x128x128 .bf16}
    {α : Type} {Q : α → sProp 𝕄} {k : PUnit → Prog (TpuEff nD τ sig (Elt F) Λ₀ .tc) α} :
    iprop(owns (c : Thread nD τ) ownW fullShare (OWNn m c h.val) ∗ owns (c : Thread nD τ) b0 fullShare (PQ m (src c 0) c)
        ∗ owns (c : Thread nD τ) b1 fullShare (PQ m (src c 1) c) ∗ owns (c : Thread nD τ) b2 fullShare (PQ m (src c 2) c))
      ⊢ iprop(((owns (c : Thread nD τ) ownW fullShare (updR (OWNn m c h.val) (Rect.unit (s := S8x136x128) oo S1x128x128.size io)
            (P (mRow m c c h) (mRow m (src c 0) c h) (mRow m (src c 1) c h) (mRow m (src c 2) c h) (oRow m c c h) (lRow m c c h)
              (oRow m (src c 0) c h) (lRow m (src c 0) c h) (oRow m (src c 1) c h) (lRow m (src c 1) c h) (oRow m (src c 2) c h) (lRow m (src c 2) c h)))
            ∗ owns (c : Thread nD τ) b0 fullShare (PQ m (src c 0) c)
            ∗ owns (c : Thread nD τ) b1 fullShare (PQ m (src c 1) c) ∗ owns (c : Thread nD τ) b2 fullShare (PQ m (src c 2) c)) -∗ WP c (k ⟨⟩) Q)
        -∗ WP c
          (.op (.load ownW (Rect.unit (s := S8x136x128) om S1x1x128.size im).toLoadRect hm) fun vm =>
           .op (.load b0 (Rect.unit (s := S8x136x128) om S1x1x128.size im).toLoadRect hm0) fun vm0 =>
           .op (.load b1 (Rect.unit (s := S8x136x128) om S1x1x128.size im).toLoadRect hm1) fun vm1 =>
           .op (.load b2 (Rect.unit (s := S8x136x128) om S1x1x128.size im).toLoadRect hm2) fun vm2 =>
           .op (.load ownW (Rect.unit (s := S8x136x128) oo S1x128x128.size io).toLoadRect ho) fun vo =>
           .op (.load ownW (Rect.unit (s := S8x136x128) ol S1x1x128.size il).toLoadRect hl) fun vl =>
           .op (.load b0 (Rect.unit (s := S8x136x128) oo S1x128x128.size io).toLoadRect ho0) fun vo0 =>
           .op (.load b0 (Rect.unit (s := S8x136x128) ol S1x1x128.size il).toLoadRect hl0) fun vl0 =>
           .op (.load b1 (Rect.unit (s := S8x136x128) oo S1x128x128.size io).toLoadRect ho1) fun vo1 =>
           .op (.load b1 (Rect.unit (s := S8x136x128) ol S1x1x128.size il).toLoadRect hl1) fun vl1 =>
           .op (.load b2 (Rect.unit (s := S8x136x128) oo S1x128x128.size io).toLoadRect ho2) fun vo2 =>
           .op (.load b2 (Rect.unit (s := S8x136x128) ol S1x1x128.size il).toLoadRect hl2) fun vl2 =>
           .op (.load ownW (Rect.unit (s := S8x136x128) oo S1x128x128.size io).toLoadRect ho3) fun _ =>
           .op (.store ownW (Rect.unit (s := S8x136x128) oo S1x128x128.size io) (P vm vm0 vm1 vm2 vo vl vo0 vl0 vo1 vl1 vo2 vl2) Finset.univ hx hy) k) Q) := by
  iintro ⟨H, H0, H1, H2⟩ Hk
  iapply (wp_ldE c (OWNn_m m c h em im)) $$ H
  iintro H
  iapply (wp_ldE c (PQ_m m c (src c 0) h em im)) $$ H0
  iintro H0
  iapply (wp_ldE c (PQ_m m c (src c 1) h em im)) $$ H1
  iintro H1
  iapply (wp_ldE c (PQ_m m c (src c 2) h em im)) $$ H2
  iintro H2
  iapply (wp_ldE c (OWNn_o m c h eo io)) $$ H
  iintro H
  iapply (wp_ldE c (OWNn_l m c h el il)) $$ H
  iintro H
  iapply (wp_ldE c (PQ_o m c (src c 0) h eo io)) $$ H0
  iintro H0
  iapply (wp_ldE c (PQ_l m c (src c 0) h el il)) $$ H0
  iintro H0
  iapply (wp_ldE c (PQ_o m c (src c 1) h eo io)) $$ H1
  iintro H1
  iapply (wp_ldE c (PQ_l m c (src c 1) h el il)) $$ H1
  iintro H1
  iapply (wp_ldE c (PQ_o m c (src c 2) h eo io)) $$ H2
  iintro H2
  iapply (wp_ldE c (PQ_l m c (src c 2) h el il)) $$ H2
  iintro H2
  iapply (wp_ldE c (OWNn_o m c h eo io)) $$ H
  iintro H
  iapply (wp_stOwns c) $$ H
  iintro H
  iapply Hk
  isplitl [H]; · iexact H
  isplitl [H0]; · iexact H0
  isplitl [H1] <;> iassumption

end Cert.KP

end
-- ==== Proof.Epi1.lean ====
/-
  The last grid point's epilogue.
-/
module

public import proofs.«01_k».proof.Proof.EpiLib

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {a1 : Memref sig .tc .vmem S1x512x1024 .f32} {h1 : a1.IsWhole} {a2 : Memref sig .tc .vmem S1024x256 .f32} {h2 : a2.IsWhole}
  {a3 : Memref sig .tc .vmem S1024x1024 .f32} {h3 : a3.IsWhole} {a6 : Memref sig .tc .vmem S1x512x1024 .f32} {h6 : a6.IsWhole}

/-! ## The result's blocks -/

theorem emb_q (t : Dev nD) {off} (ho : off = ![0, 128 * t.val, 0]) (inb : ∀ a, off a + S1x128x1024.size a ≤ S1x512x1024.size a) (z : Fin 1) (a : Fin 128) (b : Fin 1024) :
    (Rect.unit (s := S1x512x1024) off S1x128x1024.size inb).emb (ix3 z a b) = (ix3 z (qcol t a) b : S1x512x1024.Idx) := by
  subst ho
  funext x; apply Fin.ext; rw [Rect.emb_apply]; fin_cases x <;> simp [Rect.unit, ix3, qcol]

theorem updR_q {A : Type} (t : Dev nD) (X : S1x512x1024.Idx → A) (W : S1x128x1024.Idx → A) {off} (ho : off = ![0, 128 * t.val, 0])
    (inb : ∀ a, off a + S1x128x1024.size a ≤ S1x512x1024.size a) :
    updR X (Rect.unit (s := S1x512x1024) off S1x128x1024.size inb) W
      = fun i => if (i 1).val / 128 = t.val then W (ix3 0 ⟨(i 1).val % 128, Nat.mod_lt _ (by decide)⟩ (i 2)) else X i := by
  funext i
  obtain ⟨z, q, b, rfl⟩ : ∃ (z : Fin 1) (q : Fin 512) (b : Fin 1024), i = ix3 z q b := ⟨i 0, i 1, i 2, eq_ix3 i⟩
  obtain rfl : z = 0 := Subsingleton.elim _ _
  by_cases hq : q.val / 128 = t.val
  · have e := emb_q t ho inb 0 ⟨q.val % 128, Nat.mod_lt _ (by decide)⟩ b
    have e2 : qcol t ⟨q.val % 128, Nat.mod_lt _ (by decide)⟩ = q := Fin.ext (by show 128 * t.val + q.val % 128 = q.val; omega)
    rw [e2] at e
    rw [← e, updR_emb X (Rect.unit (s := S1x512x1024) off S1x128x1024.size inb) W, e]
    exact (if_pos hq).symm
  · refine (updR_other X (Rect.unit (s := S1x512x1024) off S1x128x1024.size inb) W _ (fun (x : S1x128x1024.Idx) hx => hq ?_)).trans (if_neg hq).symm
    obtain ⟨z, a, b', rfl⟩ : ∃ (z : Fin 1) (a : Fin 128) (b : Fin 1024), x = ix3 z a b := ⟨x 0, x 1, x 2, eq_ix3 x⟩
    have hx' := (emb_q t ho inb z a b').symm.trans hx
    have h2 : 128 * t.val + a.val = q.val := congrArg Fin.val (congrFun hx' 1)
    have := a.isLt
    omega

theorem four_devs : ∀ (c : Dev nD) (t : Fin 4), (t.val = c.val ∧ t.val ≠ (src c 0).val ∧ t.val ≠ (src c 1).val ∧ t.val ≠ (src c 2).val)
    ∨ (t.val ≠ c.val ∧ t.val = (src c 0).val ∧ t.val ≠ (src c 1).val ∧ t.val ≠ (src c 2).val)
    ∨ (t.val ≠ c.val ∧ t.val ≠ (src c 0).val ∧ t.val = (src c 1).val ∧ t.val ≠ (src c 2).val)
    ∨ (t.val ≠ c.val ∧ t.val ≠ (src c 0).val ∧ t.val ≠ (src c 1).val ∧ t.val = (src c 2).val) := by decide

theorem four_blocks {A : Type} (c : Dev nD) (X : S1x512x1024.Idx → A) (W W0 W1 W2 : S1x128x1024.Idx → A) {o o0 o1 o2}
    (ho : o = ![0, 128 * c.val, 0]) (ho0 : o0 = ![0, 128 * (src c 0).val, 0]) (ho1 : o1 = ![0, 128 * (src c 1).val, 0]) (ho2 : o2 = ![0, 128 * (src c 2).val, 0])
    (i i0 i1 i2) :
    updR (updR (updR (updR X (Rect.unit (s := S1x512x1024) o S1x128x1024.size i) W) (Rect.unit (s := S1x512x1024) o0 S1x128x1024.size i0) W0)
      (Rect.unit (s := S1x512x1024) o2 S1x128x1024.size i2) W2) (Rect.unit (s := S1x512x1024) o1 S1x128x1024.size i1) W1
    = fun i => if (i 1).val / 128 = c.val then W (ix3 0 ⟨(i 1).val % 128, Nat.mod_lt _ (by decide)⟩ (i 2))
      else if (i 1).val / 128 = (src c 0).val then W0 (ix3 0 ⟨(i 1).val % 128, Nat.mod_lt _ (by decide)⟩ (i 2))
      else if (i 1).val / 128 = (src c 1).val then W1 (ix3 0 ⟨(i 1).val % 128, Nat.mod_lt _ (by decide)⟩ (i 2))
      else W2 (ix3 0 ⟨(i 1).val % 128, Nat.mod_lt _ (by decide)⟩ (i 2)) := by
  rw [updR_q c X W ho, updR_q _ _ W0 ho0, updR_q _ _ W2 ho2, updR_q _ _ W1 ho1]
  funext x
  have hq : (x 1).val / 128 < 4 := by have : (x 1).val < 512 := (x 1).isLt; omega
  rcases four_devs c ⟨(x 1).val / 128, hq⟩ with ⟨e, e0, e1, e2⟩ | ⟨e, e0, e1, e2⟩ | ⟨e, e0, e1, e2⟩ | ⟨e, e0, e1, e2⟩
  · dsimp only at e e0 e1 e2 ⊢
    rw [if_neg e1, if_neg e2, if_neg e0, if_pos e, if_pos e]
  · dsimp only at e e0 e1 e2 ⊢
    rw [if_neg e1, if_neg e2, if_pos e0, if_neg e, if_pos e0]
  · dsimp only at e e0 e1 e2 ⊢
    rw [if_pos e1, if_neg e, if_neg e0, if_pos e1]
  · dsimp only at e e0 e1 e2 ⊢
    rw [if_neg e1, if_pos e2, if_neg e, if_neg e0, if_neg e1]

/-! ## The landed output blocks loaded -/

abbrev ogW : Memref sig .tc .vmem S3x128x1024 .bf16 := Memref.whole cc0_scratch6

theorem emb_gr (j : Fin 3) {off} (ho : off = ![j.val, 0, 0]) (inb : ∀ a, off a + S1x128x1024.size a ≤ S3x128x1024.size a) (z : Fin 1) (a : Fin 128) (b : Fin 1024) :
    (ogW.access (Rect.unit (s := S3x128x1024) off S1x128x1024.size inb)).emb (ix3 z a b) = (ix3 j a b : S3x128x1024.Idx) := by
  subst ho
  obtain rfl : z = 0 := Subsingleton.elim _ _
  show (Rect.unit (s := S3x128x1024) _ S1x128x1024.size inb).emb (ix3 0 a b) = _
  funext x; apply Fin.ext; rw [Rect.emb_apply]; fin_cases x <;> simp [Rect.unit, ix3]

theorem wp_ldG (c : Dev nD) (j : Fin 3) {off} (ho : off = ![j.val, 0, 0]) {inb : ∀ a, off a + S1x128x1024.size a ≤ S3x128x1024.size a}
    {hl : ogW.view.LoadsAt (Rect.unit (s := S3x128x1024) off S1x128x1024.size inb).toLoadRect}
    {α : Type} {Q : α → sProp 𝕄} {k : Vec F S1x128x1024 .bf16 → Prog (TpuEff nD τ sig (Elt F) Λ₀ .tc) α} :
    (ogP c j (GC m c) : sProp 𝕄)
      ⊢ iprop((ogP c j (GC m c) -∗ WP c (k fun i => OG m (src c j) (ix2 (i 1) (i 2))) Q)
        -∗ WP c (.op (.load ogW (Rect.unit (s := S3x128x1024) off S1x128x1024.size inb).toLoadRect hl) k) Q) := by
  unfold ogP
  refine wp_ldAt c (a := ogW) (r := Rect.unit (s := S3x128x1024) off S1x128x1024.size inb) (S := ogSet j) (f := GC m c) ?_ ?_
  · intro i hi
    obtain ⟨y, -, rfl⟩ := Finset.mem_map.mp hi
    obtain ⟨z, a, b, rfl⟩ : ∃ (z : Fin 1) (a : Fin 128) (b : Fin 1024), y = ix3 z a b := ⟨y 0, y 1, y 2, eq_ix3 y⟩
    rw [emb_gr j ho]
    exact Finset.mem_filter.mpr ⟨Finset.mem_univ _, rfl⟩
  · funext y
    obtain ⟨z, a, b, rfl⟩ : ∃ (z : Fin 1) (a : Fin 128) (b : Fin 1024), y = ix3 z a b := ⟨y 0, y 1, y 2, eq_ix3 y⟩
    rw [View.read_apply, emb_gr j ho]
    rfl

/-! ## What the epilogue takes and leaves -/

def oPre (c : Dev nD) (j : Fin 3) : sProp 𝕄 :=
  iprop(crN c (some (0, j)) 8 ∗ WX m c (some (0, j)) 0 ∗ crN c (some (1, j)) 8 ∗ WX m c (some (1, j)) 0)
def gPre (c : Dev nD) (j : Fin 3) : sProp 𝕄 :=
  iprop((∃ f, ogP (tgt c j) j f) ∗ ptok c (some (3, j), 0) ∗ ptok c (some (2, j), 0) ∗ crK c (some (2, j)) ∗ WX m c (some (2, j)) 0 ∗ WX m c (some (3, j)) 0)
def oPost (c : Dev nD) (j : Fin 3) : sProp 𝕄 :=
  iprop(semVal (kcell c (some (0, j))) 0 ∗ (∃ f, loc4 c ↦[slotSet j]{fullShare} f) ∗ semVal (kcell c (some (1, j))) 0
    ∗ bigSep Finset.univ fun h : Fin 8 => opP c h (tgt c j) (OP m c))
def gPost (c : Dev nD) (j : Fin 3) : sProp 𝕄 :=
  iprop(semVal (kcell c (some (2, j))) 0 ∗ ogP c j (GC m c) ∗ semVal (kcell c (some (3, j))) 0)

def epiPre (c : Dev nD) : sProp 𝕄 :=
  iprop(Owes c (owd 8) ∗ (bigSep Finset.univ fun h : Fin 8 => opP c h c (OP m c)) ∗ semVal ((c : Thread nD τ), SemLoc.dma oSem) 0
    ∗ (∃ f, loc3 c ↦{fullShare} f) ∗ (oPre m c 0 ∗ oPre m c 1 ∗ oPre m c 2) ∗ (gPre m c 0 ∗ gPre m c 1 ∗ gPre m c 2) ∗ ∃ f, loc5 c ↦{fullShare} f)
def epiPost (c : Dev nD) : sProp 𝕄 :=
  iprop(Owes c ∅ ∗ (bigSep Finset.univ fun h : Fin 8 => opP c h c (OP m c)) ∗ semVal ((c : Thread nD τ), SemLoc.dma oSem) 0
    ∗ (∃ f, loc3 c ↦{fullShare} f) ∗ (oPost m c 0 ∗ oPost m c 1 ∗ oPost m c 2) ∗ (gPost m c 0 ∗ gPost m c 1 ∗ gPost m c 2) ∗ ∃ f, loc5 c ↦{fullShare} f)

theorem owd8_o : ∀ p ∈ owd 8, 2 < lvK p.1 := by rw [owd_end]; decide
theorem g_mem2 : (some (2, (2 : Fin 3)), (0 : Fin 8)) ∈ owd 8 := by rw [owd_end]; decide
theorem g_mem1 : (some (2, (1 : Fin 3)), (0 : Fin 8)) ∈ (owd 8).erase (some (2, 2), 0) := by rw [owd_end]; decide
theorem g_mem0 : (some (2, (0 : Fin 3)), (0 : Fin 8)) ∈ ((owd 8).erase (some (2, 2), 0)).erase (some (2, 1), 0) := by rw [owd_end]; decide
theorem g_end : (((owd 8).erase (some (2, 2), 0)).erase (some (2, 1), 0)).erase (some (2, 0), 0) = ∅ := by rw [owd_end]; decide
theorem none_lt (n : ℕ) : ∀ p ∈ (∅ : Finset Pm), n < lvK p.1 := fun p hp => absurd hp (Finset.notMem_empty p)

theorem sent_split (c : Dev nD) (f : Buf (Elt F) (loc5 c)) :
    (loc5 c ↦{fullShare} f : sProp 𝕄) ⊢ iprop((loc5 c ↦{Transfers.shareDrop fullShare 3} f) ∗ gsP c 0 f ∗ gsP c 1 f ∗ gsP c 2 f) := by
  refine (Transfers.pointsTo_toks_split fullShare 3).trans (sep_mono_right (Entails.of_eq ?_))
  rw [show (Finset.univ : Finset (Fin 3)) = {0, 1, 2} from by decide, bigSep_insert (by decide), bigSep_insert (by decide), bigSep_singleton]
  rfl
theorem sent_join (c : Dev nD) (f : Buf (Elt F) (loc5 c)) :
    iprop((loc5 c ↦{Transfers.shareDrop fullShare 3} f) ∗ gsP c 0 f ∗ gsP c 1 f ∗ gsP c 2 f) ⊢ (loc5 c ↦{fullShare} f : sProp 𝕄) := by
  refine Entails.trans (sep_mono_right (Entails.of_eq ?_)) (Transfers.pointsTo_toks_join fullShare 3)
  rw [show (Finset.univ : Finset (Fin 3)) = {0, 1, 2} from by decide, bigSep_insert (by decide), bigSep_insert (by decide), bigSep_singleton]
  rfl

theorem own_start (c : Dev nD) : (loc3 c ↦{fullShare} OWN m c : sProp 𝕄) ⊢ owns (c : Thread nD τ) ownW fullShare (OWNn m c (0 : Fin 8).val) := by
  rw [owns_whole_eq]
  iintro H
  iexists (OWN m c)
  isplitr
  · ipureintro; exact (OWNn_zero m c).symm
  iexact H

theorem own_stop (c : Dev nD) (X : Vec F S8x136x128 .bf16) : owns (c : Thread nD τ) ownW fullShare X ⊢ (∃ f, loc3 c ↦{fullShare} f : sProp 𝕄) := by
  rw [owns_whole_eq]
  iintro ⟨%f, -, H⟩
  iexists f
  iexact H

abbrev sentW : Memref sig .tc .vmem S128x1024 .bf16 := Memref.whole cc0_scratch5

theorem sent_start (c : Dev nD) (f : Buf (Elt F) (loc5 c)) : (loc5 c ↦{fullShare} f : sProp 𝕄) ⊢ owns (c : Thread nD τ) sentW fullShare (f : S128x1024.Idx → Elt F .bf16) := by
  rw [owns_whole_eq]
  iintro H
  iexists f
  isplitr
  · ipureintro; rfl
  iexact H

theorem sent_stop (c : Dev nD) (X : S128x1024.Idx → Elt F .bf16) {inb : ∀ a, (![0, 0] : Fin 2 → ℕ) a + S128x1024.size a ≤ S128x1024.size a} :
    owns (c : Thread nD τ) sentW fullShare (updR X (Rect.unit (s := S128x1024) ![0, 0] S128x1024.size inb) (OG m c)) ⊢ (loc5 c ↦{fullShare} OG m c : sProp 𝕄) := by
  rw [owns_whole_eq]
  iintro ⟨%f, %hf, H⟩
  have e : f = OG m c := by
    rw [hf]; funext x
    have h := updR_emb X (Rect.unit (s := S128x1024) ![0, 0] S128x1024.size inb) (OG m c) x
    rwa [emb_whole2 inb x] at h
  subst e
  iexact H

theorem gr_pay (c : Dev nD) (j : Fin 3) : bigSep (dutK (some (2, j))) (fun d => payK m (some (2, j)) c d) ⊢ (ogP c j (GC m c) : sProp 𝕄) :=
  Entails.of_eq (bigSep_singleton)
theorem gs_pay (c : Dev nD) (j : Fin 3) : bigSep (dutK (some (3, j))) (fun d => payK m (some (3, j)) c d) ⊢ (gsP c j (OG m c) : sProp 𝕄) :=
  Entails.of_eq (bigSep_singleton)

theorem epi_res (c : Dev nD) (X : Vec F S1x512x1024 .f32) {o o0 o1 o2 : Fin 3 → ℕ}
    (ho : o = ![0, 128 * c.val, 0]) (ho0 : o0 = ![0, 128 * (src c 0).val, 0]) (ho1 : o1 = ![0, 128 * (src c 1).val, 0]) (ho2 : o2 = ![0, 128 * (src c 2).val, 0])
    (i i0 i1 i2) :
    owns (c : Thread nD τ) a6 fullShare (updR (updR (updR (updR X (Rect.unit (s := S1x512x1024) o S1x128x1024.size i) (OUTq m c)) (Rect.unit (s := S1x512x1024) o0 S1x128x1024.size i0) (OUTs m c 0))
      (Rect.unit (s := S1x512x1024) o2 S1x128x1024.size i2) (OUTs m c 2)) (Rect.unit (s := S1x512x1024) o1 S1x128x1024.size i1) (OUTs m c 1))
    ⊢ (owns (c : Thread nD τ) a6 fullShare (RES m c) : sProp 𝕄) :=
  Entails.of_eq (congrArg _ ((four_blocks c X _ _ _ _ ho ho0 ho1 ho2 i i0 i1 i2).trans (by funext x; rfl)))

theorem og_at {n n' : Dev nD} (j : Fin 3) (h : n = n') : iprop(∃ f, ogP n j f) ⊢ (iprop(∃ f, ogP n' j f) : sProp 𝕄) := by
  subst h; exact Entails.rfl

end Cert.KP

end
-- ==== Proof.Epi.lean ====
/-
  The last grid point's epilogue.
-/
module

public import proofs.«01_k».proof.Proof.Epi1

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {a1 : Memref sig .tc .vmem S1x512x1024 .f32} {h1 : a1.IsWhole} {a2 : Memref sig .tc .vmem S1024x256 .f32} {h2 : a2.IsWhole}
  {a3 : Memref sig .tc .vmem S1024x1024 .f32} {h3 : a3.IsWhole} {a6 : Memref sig .tc .vmem S1x512x1024 .f32} {h6 : a6.IsWhole}

set_option maxRecDepth 65536 in
set_option maxHeartbeats 16000000 in
theorem epi_wp (c : Dev nD) (t : Fin cfg0.N) (v2 : BitVec 32) (h4 : k0_cond4 (crd t) = 1#1) {q3 : PosShare TreeShare} {X6 : Vec F S1x512x1024 .f32} {Q : PUnit → sProp 𝕄} :
    iprop(Rec m ∗ levAts L lv ∗ owns (c : Thread nD τ) a3 q3 (Woa m c) ∗ owns (c : Thread nD τ) a6 fullShare X6 ∗ epiPre m c)
      ⊢ iprop(((owns (c : Thread nD τ) a3 q3 (Woa m c) ∗ owns (c : Thread nD τ) a6 fullShare (RES m c) ∗ epiPost m c) -∗ Q ⟨⟩)
        -∗ WP c (epi a1 h1 a2 h2 a3 h3 a6 h6 c t v2 h4) Q) := by
  unfold epi; simp only [k0_part49_eq_skeleton]; unfold k0_part49_skel
  unfold epiPre oPre gPre
  iintro ⟨#HR, #HL, Ha3, Ha6, HO, HP, Sw, Hw, ⟨⟨R0, W0, S0, Z0⟩, ⟨R1, W1, S1, Z1⟩, ⟨R2, W2, S2, Z2⟩⟩, ⟨⟨Gf0, Gs0, Gr0, Gc0, Gw0, Gz0⟩, ⟨Gf1, Gs1, Gr1, Gc1, Gw1, Gz1⟩, ⟨Gf2, Gs2, Gr2, Gc2, Gw2, Gz2⟩⟩, ⟨%fg, Hg⟩⟩ Hk
  simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold k0_part4_skel k0_part5_skel k0_part6_skel k0_part7_skel k0_part8_skel k0_part9_skel k0_part10_skel k0_part11_skel k0_part12_skel
  simp only [Prog.lift, Prog.bind_op, Prog.bind_ret, Prog.pure_eq_ret]
  ihave HP := (Entails.of_eq (own_pieces c (OP m c)).symm) $$ HP
  iapply (wp_issueO m c (off26_eq c) rfl) $$ [Sw Hw HP]
  · isplitl [Sw]; · iexact Sw
    isplitl [Hw] <;> iassumption
  iintro HF
  iapply (wp_waitF c _ (owd_pos _) oSem oSem_ne rfl rfl) $$ [HO HF]
  · isplitr; · iexact HL
    isplitl [HO] <;> iassumption
  iintro ⟨HO, HD, Sw⟩
  unfold oHas
  icases HD with ⟨Hw, HP⟩
  iapply (wp_w8 m c (some (0, 0)) rfl _ owd8_o (semOR_eq 0 rfl _) rfl rfl rfl rfl rfl rfl rfl rfl) $$ [HO R0 W0]
  · isplitr; · iexact HR
    isplitr; · iexact HL
    isplitl [HO]; · iexact HO
    isplitl [R0] <;> iassumption
  iintro ⟨HO, V0, R0⟩
  iapply (wp_w8 m c (some (0, 2)) rfl _ owd8_o (semOR_eq 2 rfl _) rfl rfl rfl rfl rfl rfl rfl rfl) $$ [HO R2 W2]
  · isplitr; · iexact HR
    isplitr; · iexact HL
    isplitl [HO]; · iexact HO
    isplitl [R2] <;> iassumption
  iintro ⟨HO, V2, R2⟩
  iapply (wp_w8 m c (some (0, 1)) rfl _ owd8_o (semOR_eq 1 rfl _) rfl rfl rfl rfl rfl rfl rfl rfl) $$ [HO R1 W1]
  · isplitr; · iexact HR
    isplitr; · iexact HL
    isplitl [HO]; · iexact HO
    isplitl [R1] <;> iassumption
  iintro ⟨HO, V1, R1⟩
  ihave B0 := (slot_join m c 0 (off := ![0, 0, 0, 0]) rfl inb_S3x8x136x128_S1x8x136x128_0_0_0_0) $$ [R0]
  · iexact R0
  ihave B1 := (slot_join m c 1 (off := ![1, 0, 0, 0]) rfl inb_S3x8x136x128_S1x8x136x128_1_0_0_0) $$ [R1]
  · iexact R1
  ihave B2 := (slot_join m c 2 (off := ![2, 0, 0, 0]) rfl inb_S3x8x136x128_S1x8x136x128_2_0_0_0) $$ [R2]
  · iexact R2
  iapply (wp_ld2 c) $$ Ha3
  iintro Ha3
  ihave Hn := (own_start m c) $$ Hw
  simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  unfold k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel
  simp only [Prog.lift, Prog.bind_op, Prog.bind_ret, Prog.pure_eq_ret]
  iapply (wp_head m c 0 rfl rfl rfl) $$ [Hn B0 B1 B2]
  · isplitl [Hn]; · iexact Hn
    isplitl [B0]; · iexact B0
    isplitl [B1] <;> iassumption
  iintro ⟨Hn, B0, B1, B2⟩
  ihave Hn := (show owns (c : Thread nD τ) ownW fullShare (updR (OWNn m c ((0 : Fin 8)).val) (Rect.unit (s := S8x136x128) ![0, 0, 0] S1x128x128.size inb_S8x136x128_S1x128x128_0_0_0) (ATT m c 0)) ⊢ owns (c : Thread nD τ) ownW fullShare (OWNn m c 1) from Entails.of_eq (congrArg _ (OWNn_succ m c 0 rfl _))) $$ [Hn]
  · iexact Hn
  iapply (wp_head m c 1 rfl rfl rfl) $$ [Hn B0 B1 B2]
  · isplitl [Hn]; · iexact Hn
    isplitl [B0]; · iexact B0
    isplitl [B1] <;> iassumption
  iintro ⟨Hn, B0, B1, B2⟩
  ihave Hn := (show owns (c : Thread nD τ) ownW fullShare (updR (OWNn m c ((1 : Fin 8)).val) (Rect.unit (s := S8x136x128) ![1, 0, 0] S1x128x128.size inb_S8x136x128_S1x128x128_1_0_0) (ATT m c 1)) ⊢ owns (c : Thread nD τ) ownW fullShare (OWNn m c 2) from Entails.of_eq (congrArg _ (OWNn_succ m c 1 rfl _))) $$ [Hn]
  · iexact Hn
  iapply (wp_head m c 2 rfl rfl rfl) $$ [Hn B0 B1 B2]
  · isplitl [Hn]; · iexact Hn
    isplitl [B0]; · iexact B0
    isplitl [B1] <;> iassumption
  iintro ⟨Hn, B0, B1, B2⟩
  ihave Hn := (show owns (c : Thread nD τ) ownW fullShare (updR (OWNn m c ((2 : Fin 8)).val) (Rect.unit (s := S8x136x128) ![2, 0, 0] S1x128x128.size inb_S8x136x128_S1x128x128_2_0_0) (ATT m c 2)) ⊢ owns (c : Thread nD τ) ownW fullShare (OWNn m c 3) from Entails.of_eq (congrArg _ (OWNn_succ m c 2 rfl _))) $$ [Hn]
  · iexact Hn
  iapply (wp_head m c 3 rfl rfl rfl) $$ [Hn B0 B1 B2]
  · isplitl [Hn]; · iexact Hn
    isplitl [B0]; · iexact B0
    isplitl [B1] <;> iassumption
  iintro ⟨Hn, B0, B1, B2⟩
  ihave Hn := (show owns (c : Thread nD τ) ownW fullShare (updR (OWNn m c ((3 : Fin 8)).val) (Rect.unit (s := S8x136x128) ![3, 0, 0] S1x128x128.size inb_S8x136x128_S1x128x128_3_0_0) (ATT m c 3)) ⊢ owns (c : Thread nD τ) ownW fullShare (OWNn m c 4) from Entails.of_eq (congrArg _ (OWNn_succ m c 3 rfl _))) $$ [Hn]
  · iexact Hn
  iapply (wp_head m c 4 rfl rfl rfl) $$ [Hn B0 B1 B2]
  · isplitl [Hn]; · iexact Hn
    isplitl [B0]; · iexact B0
    isplitl [B1] <;> iassumption
  iintro ⟨Hn, B0, B1, B2⟩
  ihave Hn := (show owns (c : Thread nD τ) ownW fullShare (updR (OWNn m c ((4 : Fin 8)).val) (Rect.unit (s := S8x136x128) ![4, 0, 0] S1x128x128.size inb_S8x136x128_S1x128x128_4_0_0) (ATT m c 4)) ⊢ owns (c : Thread nD τ) ownW fullShare (OWNn m c 5) from Entails.of_eq (congrArg _ (OWNn_succ m c 4 rfl _))) $$ [Hn]
  · iexact Hn
  iapply (wp_head m c 5 rfl rfl rfl) $$ [Hn B0 B1 B2]
  · isplitl [Hn]; · iexact Hn
    isplitl [B0]; · iexact B0
    isplitl [B1] <;> iassumption
  iintro ⟨Hn, B0, B1, B2⟩
  ihave Hn := (show owns (c : Thread nD τ) ownW fullShare (updR (OWNn m c ((5 : Fin 8)).val) (Rect.unit (s := S8x136x128) ![5, 0, 0] S1x128x128.size inb_S8x136x128_S1x128x128_5_0_0) (ATT m c 5)) ⊢ owns (c : Thread nD τ) ownW fullShare (OWNn m c 6) from Entails.of_eq (congrArg _ (OWNn_succ m c 5 rfl _))) $$ [Hn]
  · iexact Hn
  iapply (wp_head m c 6 rfl rfl rfl) $$ [Hn B0 B1 B2]
  · isplitl [Hn]; · iexact Hn
    isplitl [B0]; · iexact B0
    isplitl [B1] <;> iassumption
  iintro ⟨Hn, B0, B1, B2⟩
  ihave Hn := (show owns (c : Thread nD τ) ownW fullShare (updR (OWNn m c ((6 : Fin 8)).val) (Rect.unit (s := S8x136x128) ![6, 0, 0] S1x128x128.size inb_S8x136x128_S1x128x128_6_0_0) (ATT m c 6)) ⊢ owns (c : Thread nD τ) ownW fullShare (OWNn m c 7) from Entails.of_eq (congrArg _ (OWNn_succ m c 6 rfl _))) $$ [Hn]
  · iexact Hn
  iapply (wp_head m c 7 rfl rfl rfl) $$ [Hn B0 B1 B2]
  · isplitl [Hn]; · iexact Hn
    isplitl [B0]; · iexact B0
    isplitl [B1] <;> iassumption
  iintro ⟨Hn, B0, B1, B2⟩
  ihave Hn := (show owns (c : Thread nD τ) ownW fullShare (updR (OWNn m c ((7 : Fin 8)).val) (Rect.unit (s := S8x136x128) ![7, 0, 0] S1x128x128.size inb_S8x136x128_S1x128x128_7_0_0) (ATT m c 7)) ⊢ owns (c : Thread nD τ) ownW fullShare (OWNn m c 8) from Entails.of_eq (congrArg _ (OWNn_succ m c 7 rfl _))) $$ [Hn]
  · iexact Hn
  iapply (wp_ldE c (OWNn_att m c 0 rfl _)) $$ Hn
  iintro Hn
  iapply (wp_ldE c (OWNn_att m c 1 rfl _)) $$ Hn
  iintro Hn
  iapply (wp_ldE c (OWNn_att m c 2 rfl _)) $$ Hn
  iintro Hn
  iapply (wp_ldE c (OWNn_att m c 3 rfl _)) $$ Hn
  iintro Hn
  simp only [k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
  unfold k0_part36_skel k0_part37_skel k0_part38_skel k0_part39_skel k0_part40_skel k0_part41_skel k0_part42_skel k0_part43_skel k0_part44_skel k0_part45_skel k0_part46_skel k0_part47_skel k0_part48_skel
  simp only [Prog.lift, Prog.bind_op, Prog.bind_ret, Prog.pure_eq_ret]
  iapply (wp_ldE c (OWNn_att m c 4 rfl _)) $$ Hn
  iintro Hn
  iapply (wp_ldE c (OWNn_att m c 5 rfl _)) $$ Hn
  iintro Hn
  iapply (wp_ldE c (OWNn_att m c 6 rfl _)) $$ Hn
  iintro Hn
  iapply (wp_ldE c (OWNn_att m c 7 rfl _)) $$ Hn
  iintro Hn
  iapply (wp_ldOwns c) $$ Ha6
  iintro Ha6
  iapply (wp_stOwns c) $$ Ha6
  iintro Ha6
  ihave Hg := (sent_start c fg) $$ Hg
  iapply (wp_ld2 c) $$ Hg
  iintro Hg
  iapply (wp_stOwns c) $$ Hg
  iintro Hg
  ihave Hg := (sent_stop m c fg (inb := inb_S128x1024_S128x1024_0_0)) $$ [Hg]
  · iexact Hg
  ihave Hg := (sent_split c (OG m c)) $$ Hg
  icases Hg with ⟨Hgd, G0, G1, G2⟩
  iapply (wp_sendG m c _ 2 (Fin.ext (dev10_eq c)) _ g_mem2 rfl (semGS_eq 2 rfl _) (semGR_eq 2 rfl _)) $$ [HO G2 Gf2 Gs2 Gr2]
  · isplitr; · iexact HR
    isplitl [HO]; · iexact HO
    isplitl [G2]; · iexact G2
    isplitl [Gf2]; · iapply (og_at 2 (Fin.ext (dev10_eq c)).symm) $$ Gf2
    isplitl [Gs2] <;> iassumption
  iintro ⟨HO, G2⟩
  iapply (wp_sendG m c _ 1 (Fin.ext (dev11_eq c)) _ g_mem1 rfl (semGS_eq 1 rfl _) (semGR_eq 1 rfl _)) $$ [HO G1 Gf1 Gs1 Gr1]
  · isplitr; · iexact HR
    isplitl [HO]; · iexact HO
    isplitl [G1]; · iexact G1
    isplitl [Gf1]; · iapply (og_at 1 (Fin.ext (dev11_eq c)).symm) $$ Gf1
    isplitl [Gs1] <;> iassumption
  iintro ⟨HO, G1⟩
  iapply (wp_sendG m c _ 0 (Fin.ext (dev12_eq c)) _ g_mem0 rfl (semGS_eq 0 rfl _) (semGR_eq 0 rfl _)) $$ [HO G0 Gf0 Gs0 Gr0]
  · isplitr; · iexact HR
    isplitl [HO]; · iexact HO
    isplitl [G0]; · iexact G0
    isplitl [Gf0]; · iapply (og_at 0 (Fin.ext (dev12_eq c)).symm) $$ Gf0
    isplitl [Gs0] <;> iassumption
  iintro ⟨HO, G0⟩
  ihave HO := (show (Owes c ((((owd 8).erase (some (2, 2), 0)).erase (some (2, 1), 0)).erase (some (2, 0), 0)) : sProp 𝕄) ⊢ Owes c ∅ from Entails.of_eq (congrArg _ g_end)) $$ HO
  iapply (wp_wLast m c (some (2, 0)) 0 rfl _ (none_lt _) (semGR_eq 0 rfl _) rfl) $$ [HO Gc0 Gw0]
  · isplitr; · iexact HR
    isplitr; · iexact HL
    isplitl [HO]; · iexact HO
    isplitl [Gc0] <;> iassumption
  iintro ⟨HO, U0, D0⟩
  ihave D0 := (gr_pay m c 0) $$ D0
  iapply (wp_ldG m c 0 rfl) $$ D0
  iintro D0
  iapply (wp_ldOwns c) $$ Ha6
  iintro Ha6
  iapply (wp_stOwns c) $$ Ha6
  iintro Ha6
  iapply (wp_wLast m c (some (2, 2)) 0 rfl _ (none_lt _) (semGR_eq 2 rfl _) rfl) $$ [HO Gc2 Gw2]
  · isplitr; · iexact HR
    isplitr; · iexact HL
    isplitl [HO]; · iexact HO
    isplitl [Gc2] <;> iassumption
  iintro ⟨HO, U2, D2⟩
  ihave D2 := (gr_pay m c 2) $$ D2
  iapply (wp_ldG m c 2 rfl) $$ D2
  iintro D2
  iapply (wp_ldOwns c) $$ Ha6
  iintro Ha6
  iapply (wp_stOwns c) $$ Ha6
  iintro Ha6
  iapply (wp_wLast m c (some (2, 1)) 0 rfl _ (none_lt _) (semGR_eq 1 rfl _) rfl) $$ [HO Gc1 Gw1]
  · isplitr; · iexact HR
    isplitr; · iexact HL
    isplitl [HO]; · iexact HO
    isplitl [Gc1] <;> iassumption
  iintro ⟨HO, U1, D1⟩
  ihave D1 := (gr_pay m c 1) $$ D1
  iapply (wp_ldG m c 1 rfl) $$ D1
  iintro D1
  iapply (wp_ldOwns c) $$ Ha6
  iintro Ha6
  iapply (wp_stOwns c) $$ Ha6
  iintro Ha6
  iapply (wp_w8 m c (some (1, 2)) rfl _ (none_lt _) (semOS_eq 2 rfl _) rfl rfl rfl rfl rfl rfl rfl rfl) $$ [HO S2 Z2]
  · isplitr; · iexact HR
    isplitr; · iexact HL
    isplitl [HO]; · iexact HO
    isplitl [S2] <;> iassumption
  iintro ⟨HO, T2, S2⟩
  iapply (wp_wLast m c (some (3, 2)) 0 rfl _ (none_lt _) (semGS_eq 2 rfl _) rfl) $$ [HO G2 Gz2]
  · isplitr; · iexact HR
    isplitr; · iexact HL
    isplitl [HO]; · iexact HO
    isplitl [G2] <;> iassumption
  iintro ⟨HO, Y2, G2⟩
  ihave G2 := (gs_pay m c 2) $$ G2
  iapply (wp_w8 m c (some (1, 1)) rfl _ (none_lt _) (semOS_eq 1 rfl _) rfl rfl rfl rfl rfl rfl rfl rfl) $$ [HO S1 Z1]
  · isplitr; · iexact HR
    isplitr; · iexact HL
    isplitl [HO]; · iexact HO
    isplitl [S1] <;> iassumption
  iintro ⟨HO, T1, S1⟩
  iapply (wp_wLast m c (some (3, 1)) 0 rfl _ (none_lt _) (semGS_eq 1 rfl _) rfl) $$ [HO G1 Gz1]
  · isplitr; · iexact HR
    isplitr; · iexact HL
    isplitl [HO]; · iexact HO
    isplitl [G1] <;> iassumption
  iintro ⟨HO, Y1, G1⟩
  ihave G1 := (gs_pay m c 1) $$ G1
  iapply (wp_w8 m c (some (1, 0)) rfl _ (none_lt _) (semOS_eq 0 rfl _) rfl rfl rfl rfl rfl rfl rfl rfl) $$ [HO S0 Z0]
  · isplitr; · iexact HR
    isplitr; · iexact HL
    isplitl [HO]; · iexact HO
    isplitl [S0] <;> iassumption
  iintro ⟨HO, T0, S0⟩
  iapply (wp_wLast m c (some (3, 0)) 0 rfl _ (none_lt _) (semGS_eq 0 rfl _) rfl) $$ [HO G0 Gz0]
  · isplitr; · iexact HR
    isplitr; · iexact HL
    isplitl [HO]; · iexact HO
    isplitl [G0] <;> iassumption
  iintro ⟨HO, Y0, G0⟩
  ihave G0 := (gs_pay m c 0) $$ G0
  iapply (wp_done c)
  iapply Hk
  isplitl [Ha3]; · iexact Ha3
  isplitl [Ha6]
  · ihave Ha6 := (epi_res m c X6 (off35_eq c) (off36_eq c 0) (off36_eq c 1) (off36_eq c 2) _ _ _ _) $$ [Ha6]
    · iexact Ha6
    iexact Ha6
  unfold epiPost oPost gPost
  isplitl [HO]; · iexact HO
  isplitl [HP]
  · iapply (Entails.of_eq (own_pieces c (OP m c))) $$ HP
  isplitl [Sw]; · iexact Sw
  isplitl [Hn]
  · iapply (own_stop c _) $$ Hn
  isplitl [V0 B0 T0 S0 V1 B1 T1 S1 V2 B2 T2 S2]
  · ihave B0 := (slot_back c 0 (off := ![0, 0, 0, 0]) rfl inb_S3x8x136x128_S1x8x136x128_0_0_0_0) $$ [B0]
    · iexact B0
    ihave B1 := (slot_back c 1 (off := ![1, 0, 0, 0]) rfl inb_S3x8x136x128_S1x8x136x128_1_0_0_0) $$ [B1]
    · iexact B1
    ihave B2 := (slot_back c 2 (off := ![2, 0, 0, 0]) rfl inb_S3x8x136x128_S1x8x136x128_2_0_0_0) $$ [B2]
    · iexact B2
    isplitl [V0 B0 T0 S0]
    · isplitl [V0]; · iexact V0
      isplitl [B0]; · iexact B0
      isplitl [T0]; · iexact T0
      iexact S0
    isplitl [V1 B1 T1 S1]
    · isplitl [V1]; · iexact V1
      isplitl [B1]; · iexact B1
      isplitl [T1]; · iexact T1
      iexact S1
    isplitl [V2]; · iexact V2
    isplitl [B2]; · iexact B2
    isplitl [T2]; · iexact T2
    iexact S2
  isplitl [U0 D0 Y0 U1 D1 Y1 U2 D2 Y2]
  · isplitl [U0 D0 Y0]
    · isplitl [U0]; · iexact U0
      isplitl [D0] <;> iassumption
    isplitl [U1 D1 Y1]
    · isplitl [U1]; · iexact U1
      isplitl [D1] <;> iassumption
    isplitl [U2]; · iexact U2
    isplitl [D2] <;> iassumption
  iexists (OG m c)
  iapply (sent_join c (OG m c)) $$ [Hgd G0 G1 G2]
  isplitl [Hgd]; · iexact Hgd
  isplitl [G0]; · iexact G0
  isplitl [G1] <;> iassumption

end Cert.KP

end
-- ==== Proof.Body.lean ====
/-
  The kernel's body at each grid point, between the invariants.
-/
module

public import proofs.«01_k».proof.Proof.Epi

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {a1 : Memref sig .tc .vmem S1x512x1024 .f32} {h1 : a1.IsWhole} {a2 : Memref sig .tc .vmem S1024x256 .f32} {h2 : a2.IsWhole}
  {a3 : Memref sig .tc .vmem S1024x1024 .f32} {h3 : a3.IsWhole} {a6 : Memref sig .tc .vmem S1x512x1024 .f32} {h6 : a6.IsWhole}

/-! ## Families over the heads -/

def kv (c : Dev nD) (h : Fin 8) : sProp 𝕄 := iprop(kaP m c h ∗ vaP m c h)
abbrev geq (n : ℕ) : Finset (Fin 8) := Finset.univ.filter fun h => n ≤ h.val
abbrev ltn (n : ℕ) : Finset (Fin 8) := Finset.univ.filter fun h => h.val < n
def kvs (c : Dev nD) (S : Finset (Fin 8)) : sProp 𝕄 := bigSep S (kv m c)
def tds (c : Dev nD) (S : Finset (Fin 8)) : sProp 𝕄 := bigSep S (todo (F := F) c)
def dns (c : Dev nD) (S : Finset (Fin 8)) : sProp 𝕄 := bigSep S fun h => opP c h c (OP m c)

theorem two_in {S T : Finset (Fin 8)} {a b : Fin 8} (hab : a ∉ insert b T) (hb : b ∉ T) (h : S = insert a (insert b T)) (Φ : Fin 8 → sProp 𝕄) :
    bigSep S Φ = iprop(Φ a ∗ Φ b ∗ bigSep T Φ) := by
  rw [h, bigSep_insert hab, bigSep_insert hb]; rfl

abbrev four (t : Fin cfg0.N) : Finset (Fin 8) := Finset.univ \ {hd t 0, hd t 1, hdN t 0, hdN t 1}

theorem fin_a : ∀ t : Fin cfg0.N, t.val < 3 → hdN t 0 ∉ insert (hdN t 1) (four t) ∧ hdN t 1 ∉ four t ∧ Finset.univ \ {hd t 0, hd t 1} = insert (hdN t 0) (insert (hdN t 1) (four t)) := by decide +kernel
theorem fin_b : ∀ t : Fin cfg0.N, t.val < 3 → hd t 0 ∉ insert (hd t 1) (four t) ∧ hd t 1 ∉ four t ∧ Finset.univ \ {hdN t 0, hdN t 1} = insert (hd t 0) (insert (hd t 1) (four t)) := by decide +kernel
theorem fin_c : ∀ t : Fin cfg0.N, hd t 0 ∉ insert (hd t 1) (geq (2 * t.val + 2)) ∧ hd t 1 ∉ geq (2 * t.val + 2) ∧ geq (2 * t.val) = insert (hd t 0) (insert (hd t 1) (geq (2 * t.val + 2))) := by decide +kernel
theorem fin_d : ∀ t : Fin cfg0.N, hd t 0 ∉ insert (hd t 1) (ltn (2 * t.val)) ∧ hd t 1 ∉ ltn (2 * t.val) ∧ ltn (2 * t.val + 2) = insert (hd t 0) (insert (hd t 1) (ltn (2 * t.val))) := by decide +kernel
theorem fin_e : ∀ t : Fin cfg0.N, hd t 0 ∉ insert (hd t 1) (Finset.univ \ {hd t 0, hd t 1}) ∧ hd t 1 ∉ Finset.univ \ {hd t 0, hd t 1} ∧ (Finset.univ : Finset (Fin 8)) = insert (hd t 0) (insert (hd t 1) (Finset.univ \ {hd t 0, hd t 1})) := by decide +kernel

theorem kvs_a (c : Dev nD) (t : Fin cfg0.N) (ht : t.val < 3) : kvs m c (Finset.univ \ {hd t 0, hd t 1}) = iprop(kv m c (hdN t 0) ∗ kv m c (hdN t 1) ∗ kvs m c (four t)) :=
  two_in (fin_a t ht).1 (fin_a t ht).2.1 (fin_a t ht).2.2 _
theorem kvs_b (c : Dev nD) (t : Fin cfg0.N) (ht : t.val < 3) : kvs m c (Finset.univ \ {hdN t 0, hdN t 1}) = iprop(kv m c (hd t 0) ∗ kv m c (hd t 1) ∗ kvs m c (four t)) :=
  two_in (fin_b t ht).1 (fin_b t ht).2.1 (fin_b t ht).2.2 _
theorem tds_c (c : Dev nD) (t : Fin cfg0.N) : (tds (F := F) c (geq (2 * t.val)) : sProp 𝕄) = iprop(todo c (hd t 0) ∗ todo c (hd t 1) ∗ tds c (geq (2 * t.val + 2))) :=
  two_in (fin_c t).1 (fin_c t).2.1 (fin_c t).2.2 _
theorem dns_d (c : Dev nD) (t : Fin cfg0.N) : dns m c (ltn (2 * t.val + 2)) = iprop(opP c (hd t 0) c (OP m c) ∗ opP c (hd t 1) c (OP m c) ∗ dns m c (ltn (2 * t.val))) :=
  two_in (fin_d t).1 (fin_d t).2.1 (fin_d t).2.2 _
theorem kvs_e (c : Dev nD) (t : Fin cfg0.N) : kvs m c Finset.univ = iprop(kv m c (hd t 0) ∗ kv m c (hd t 1) ∗ kvs m c (Finset.univ \ {hd t 0, hd t 1})) :=
  two_in (fin_e t).1 (fin_e t).2.1 (fin_e t).2.2 _

/-! ## The invariants -/

/-- Credits of the send cells for the heads sent. -/
def crs (c : Dev nD) (n : ℕ) : sProp 𝕄 := iprop(crN c (some (1, 0)) n ∗ crN c (some (1, 1)) n ∗ crN c (some (1, 2)) n)

theorem crs_add (c : Dev nD) (n : ℕ) : iprop(cr3 c ∗ cr3 c ∗ crs c n) ⊢ (crs (F := F) c (n + 2) : sProp 𝕄) := by
  unfold crs cr3
  show _ ⊢ iprop((crK c (some (1, 0)) ∗ crK c (some (1, 0)) ∗ crN c (some (1, 0)) n) ∗ (crK c (some (1, 1)) ∗ crK c (some (1, 1)) ∗ crN c (some (1, 1)) n)
    ∗ (crK c (some (1, 2)) ∗ crK c (some (1, 2)) ∗ crN c (some (1, 2)) n))
  iintro ⟨⟨A0, A1, A2⟩, ⟨B0, B1, B2⟩, C0, C1, C2⟩
  isplitl [A0 B0 C0]
  · isplitl [A0]; · iexact A0
    isplitl [B0] <;> iassumption
  isplitl [A1 B1 C1]
  · isplitl [A1]; · iexact A1
    isplitl [B1] <;> iassumption
  isplitl [A2]; · iexact A2
  isplitl [B2] <;> iassumption

/-- What waits for the epilogue: per slot the receive cells' credits and positions, the blocks' tokens; before the barrier, without the peers' pieces. -/
def ep0 (c : Dev nD) (j : Fin 3) : sProp 𝕄 :=
  iprop((crN c (some (0, j)) 8 ∗ WX m c (some (0, j)) 0 ∗ WX m c (some (1, j)) 0)
    ∗ (ptok c (some (3, j), 0) ∗ ptok c (some (2, j), 0) ∗ crK c (some (2, j)) ∗ WX m c (some (2, j)) 0 ∗ WX m c (some (3, j)) 0))
def ep1 (c : Dev nD) (j : Fin 3) : sProp 𝕄 := iprop((∃ f, ogP (tgt c j) j f) ∗ ep0 m c j)
def own0 (c : Dev nD) : sProp 𝕄 :=
  iprop(semVal ((c : Thread nD τ), SemLoc.dma oSem) 0 ∗ (∃ f, loc3 c ↦{fullShare} f) ∗ ∃ f, loc5 c ↦{fullShare} f)
def stat (c : Dev nD) : sProp 𝕄 := iprop(own0 c ∗ ep1 m c 0 ∗ ep1 m c 1 ∗ ep1 m c 2)

def slots0 (c : Dev nD) (s : Fin 2) : sProp 𝕄 := iprop((kFree c s 0 ∗ kFree c s 1) ∗ vFree c s 0 ∗ vFree c s 1)

/-- Between grid point `t` and the next. -/
def aft (c : Dev nD) (t : Fin cfg0.N) : sProp 𝕄 :=
  iprop(semVal (kcell c none) 0 ∗ nxtPost m c t ∗ slots0 c (sl t) ∗ kvs m c (Finset.univ \ {hdN t 0, hdN t 1})
    ∗ tds c (geq (2 * t.val + 2)) ∗ dns m c (ltn (2 * t.val + 2)) ∗ crs c (2 * t.val + 2) ∗ stat m c)

/-- At the launch. -/
def toks0 (c : Dev nD) (h : Fin 8) : sProp 𝕄 :=
  iprop(slab0 c h ∗ (ptok c (some (1, 0), h) ∗ ptok c (some (0, 0), h)) ∗ (ptok c (some (1, 1), h) ∗ ptok c (some (0, 1), h)) ∗ (ptok c (some (1, 2), h) ∗ ptok c (some (0, 2), h)))
def ini (c : Dev nD) : sProp 𝕄 :=
  iprop(barPre c ∗ (vPre c 0 0 ∗ vPre c 0 1 ∗ vPre c 1 0 ∗ vPre c 1 1) ∗ (kFree c 0 0 ∗ kFree c 0 1 ∗ kFree c 1 0 ∗ kFree c 1 1) ∗ kvs m c Finset.univ
    ∗ bigSep Finset.univ (toks0 (F := F) c) ∗ own0 c ∗ ep0 m c 0 ∗ ep0 m c 1 ∗ ep0 m c 2)

/-- At the end. -/
def fin (c : Dev nD) : sProp 𝕄 :=
  iprop(semVal (kcell c none) 0 ∗ slots0 c 0 ∗ slots0 c 1 ∗ kvs m c Finset.univ ∗ dns m c Finset.univ ∗ own0 c
    ∗ (oPost m c 0 ∗ oPost m c 1 ∗ oPost m c 2) ∗ (gPost m c 0 ∗ gPost m c 1 ∗ gPost m c 2))

theorem nxtPost_eq (c : Dev nD) (t t' : Fin cfg0.N) (h : t'.val + 1 = t.val) :
    nxtPost m c t' = iprop((kFl m c (sl t) 0 (hd t 0) ∗ vFl m c (sl t) 0 (hd t 0)) ∗ kFl m c (sl t) 1 (hd t 1) ∗ vFl m c (sl t) 1 (hd t 1)) := by
  have hN : t.val < 4 := lt_of_lt_of_eq t.isLt N_0
  have e : nx t' = sl t := Fin.ext (by show (t'.val + 1) % 2 = t.val % 2; rw [h])
  have e0 : hdN t' 0 = hd t 0 := Fin.ext (by show (2 * t'.val + 0 + 2) % 8 = 2 * t.val + 0; omega)
  have e1 : hdN t' 1 = hd t 1 := Fin.ext (by show (2 * t'.val + 1 + 2) % 8 = 2 * t.val + 1; omega)
  unfold nxtPost; rw [e, e0, e1]
theorem kvs_next (c : Dev nD) (t t' : Fin cfg0.N) (h : t'.val + 1 = t.val) : kvs m c (Finset.univ \ {hdN t' 0, hdN t' 1}) = kvs m c (Finset.univ \ {hd t 0, hd t 1}) := by
  have hN : t.val < 4 := lt_of_lt_of_eq t.isLt N_0
  have e0 : hdN t' 0 = hd t 0 := Fin.ext (by show (2 * t'.val + 0 + 2) % 8 = 2 * t.val + 0; omega)
  have e1 : hdN t' 1 = hd t 1 := Fin.ext (by show (2 * t'.val + 1 + 2) % 8 = 2 * t.val + 1; omega)
  rw [e0, e1]
theorem slots_next (t t' : Fin cfg0.N) (h : t'.val + 1 = t.val) : sl t' = nx t := Fin.ext (by show t'.val % 2 = (t.val + 1) % 2; omega)

/-- A middle grid point. -/
theorem body_mid (c : Dev nD) (t t' : Fin cfg0.N) (h : t'.val + 1 = t.val) (ht : t.val < 3) {q1 q2 : PosShare TreeShare} {X2 : Vec F S1024x256 .f32}
    (hX0 : ∀ (x : Fin 1024) (y : Fin 128), X2 (ix2 x ⟨128 * (0 : Fin 2).val + y.val, by have := y.isLt; show 128 * 0 + y.val < 256; omega⟩) = Wh m c (hd t 0) (ix2 x y))
    (hX1 : ∀ (x : Fin 1024) (y : Fin 128), X2 (ix2 x ⟨128 * (1 : Fin 2).val + y.val, by have := y.isLt; show 128 * 1 + y.val < 256; omega⟩) = Wh m c (hd t 1) (ix2 x y)) :
    iprop(Rec m ∗ levAts L lv ∗ owns (c : Thread nD τ) a1 q1 (Xa m c) ∗ owns (c : Thread nD τ) a2 q2 X2 ∗ Owes c (owd (2 * t.val)) ∗ aft m c t')
      ⊢ WP c (cc0__body (crd t) a1 h1 a2 h2 a3 h3 (Memref.whole main_arg2) (Memref.isWhole_whole _) (Memref.whole main_arg3) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13) fun _ =>
        iprop(owns (c : Thread nD τ) a1 q1 (Xa m c) ∗ owns (c : Thread nD τ) a2 q2 X2 ∗ Owes c (owd (2 * t.val + 2)) ∗ aft m c t) := by
  iintro ⟨#HR, #HL, Ha1, Ha2, HO, HA⟩
  iapply (body_from m c t hX0 hX1 (Pre := iprop(levAts L lv ∗ Owes c (owd (2 * t.val)) ∗ aft m c t'))
    (R := iprop(semVal (kcell c none) 0 ∗ nxtPost m c t ∗ kvs m c (four t) ∗ tds c (geq (2 * t.val + 2)) ∗ dns m c (ltn (2 * t.val)) ∗ crs c (2 * t.val) ∗ stat m c)) ?_ ?_ ?_)
  · intro Q'
    unfold aft
    rw [nxtPost_eq m c t t' h, kvs_next m c t t' h, slots_next t t' h, kvs_a m c t ht, show 2 * t'.val + 2 = 2 * t.val from by omega, tds_c]
    unfold slots0 kv
    iintro ⟨#HL, HO, Hb, ⟨⟨F0, F1⟩, F2, F3⟩, ⟨⟨K0, K1⟩, V0, V1⟩, ⟨⟨A0, B0⟩, ⟨A1, B1⟩, Hkv⟩, ⟨T0, T1, Ht⟩, Hd, Hc, Hs⟩ Hk
    iapply (part50B m c t (by omega) ht _ (owd_pos _)) $$ [HO F0 K0 K1 V0 V1 A0 A1 B0 B1]
    · isplitr; · iexact HL
      isplitl [HO]; · iexact HO
      isplitl [F0]; · iexact F0
      unfold nxtPre
      isplitl [K0 A0 V0 B0]
      · isplitl [K0]; · iexact K0
        isplitl [A0]; · iexact A0
        isplitl [V0] <;> iassumption
      isplitl [K1 A1]
      · isplitl [K1] <;> iassumption
      isplitl [V1] <;> iassumption
    iintro %x %y %z ⟨HO, Hf, Hn⟩
    iapply Hk
    isplitl [HO]; · iexact HO
    isplitl [Hf]; · iexact Hf
    isplitl [F1 F2 F3]
    · unfold restFl
      isplitl [F1]; · iexact F1
      isplitl [F2] <;> iassumption
    isplitl [T0]; · iexact T0
    isplitl [T1]; · iexact T1
    isplitl [Hb]; · iexact Hb
    isplitl [Hn]; · iexact Hn
    isplitl [Hkv]; · iexact Hkv
    isplitl [Ht]; · iexact Ht
    isplitl [Hd]; · iexact Hd
    isplitl [Hc] <;> iassumption
  · intro _
    unfold mainPost aft
    rw [kvs_b m c t ht, dns_d]
    unfold slots0 kv
    iintro ⟨Ha1, Ha2, ⟨HO, ⟨⟨K0, A0⟩, K1, A1⟩, ⟨⟨V0, B0⟩, V1, B1⟩, ⟨D0, D1⟩, C0, C1⟩, Hb, Hn, Hkv, Ht, Hd, Hc, Hs⟩
    isplitl [Ha1]; · iexact Ha1
    isplitl [Ha2]; · iexact Ha2
    isplitl [HO]; · iexact HO
    isplitl [Hb]; · iexact Hb
    isplitl [Hn]; · iexact Hn
    isplitl [K0 K1 V0 V1]
    · isplitl [K0 K1]
      · isplitl [K0] <;> iassumption
      isplitl [V0] <;> iassumption
    isplitl [A0 B0 A1 B1 Hkv]
    · isplitl [A0 B0]
      · isplitl [A0] <;> iassumption
      isplitl [A1 B1]
      · isplitl [A1] <;> iassumption
      iexact Hkv
    isplitl [Ht]; · iexact Ht
    isplitl [D0 D1 Hd]
    · isplitl [D0]; · iexact D0
      isplitl [D1] <;> iassumption
    isplitl [C0 C1 Hc]
    · iapply (crs_add c (2 * t.val)) $$ [C0 C1 Hc]
      isplitl [C0]; · iexact C0
      isplitl [C1] <;> iassumption
    iexact Hs
  · intro h3; omega
  isplitr; · iexact HR
  isplitr; · iexact HL
  isplitl [Ha1]; · iexact Ha1
  isplitl [Ha2]; · iexact Ha2
  isplitr; · iexact HL
  isplitl [HO] <;> iassumption

theorem geq8 (t : Fin cfg0.N) (ht : t.val = 3) : geq (2 * t.val + 2) = ∅ := by rw [ht]; decide
theorem ltn8 (t : Fin cfg0.N) (ht : t.val = 3) : ltn (2 * t.val + 2) = Finset.univ := by rw [ht]; decide

/-- The last grid point. -/
theorem body_last (c : Dev nD) (t t' : Fin cfg0.N) (h : t'.val + 1 = t.val) (ht : t.val = 3) {q1 q2 q3 : PosShare TreeShare} {X2 : Vec F S1024x256 .f32} {X6 : Vec F S1x512x1024 .f32}
    (hX0 : ∀ (x : Fin 1024) (y : Fin 128), X2 (ix2 x ⟨128 * (0 : Fin 2).val + y.val, by have := y.isLt; show 128 * 0 + y.val < 256; omega⟩) = Wh m c (hd t 0) (ix2 x y))
    (hX1 : ∀ (x : Fin 1024) (y : Fin 128), X2 (ix2 x ⟨128 * (1 : Fin 2).val + y.val, by have := y.isLt; show 128 * 1 + y.val < 256; omega⟩) = Wh m c (hd t 1) (ix2 x y)) :
    iprop(Rec m ∗ levAts L lv ∗ owns (c : Thread nD τ) a1 q1 (Xa m c) ∗ owns (c : Thread nD τ) a2 q2 X2
        ∗ (owns (c : Thread nD τ) a3 q3 (Woa m c) ∗ owns (c : Thread nD τ) a6 fullShare X6) ∗ Owes c (owd (2 * t.val)) ∗ aft m c t')
      ⊢ WP c (cc0__body (crd t) a1 h1 a2 h2 a3 h3 (Memref.whole main_arg2) (Memref.isWhole_whole _) (Memref.whole main_arg3) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13) fun _ =>
        iprop(owns (c : Thread nD τ) a1 q1 (Xa m c) ∗ owns (c : Thread nD τ) a2 q2 X2
          ∗ (owns (c : Thread nD τ) a3 q3 (Woa m c) ∗ owns (c : Thread nD τ) a6 fullShare (RES m c)) ∗ Owes c ∅ ∗ fin m c) := by
  iintro ⟨#HR, #HL, Ha1, Ha2, H36, HO, HA⟩
  iapply (body_from m c t hX0 hX1 (Pre := iprop(levAts L lv ∗ (owns (c : Thread nD τ) a3 q3 (Woa m c) ∗ owns (c : Thread nD τ) a6 fullShare X6) ∗ Owes c (owd (2 * t.val)) ∗ aft m c t'))
    (R := iprop((owns (c : Thread nD τ) a3 q3 (Woa m c) ∗ owns (c : Thread nD τ) a6 fullShare X6) ∗ semVal (kcell c none) 0 ∗ slots0 c (nx t)
      ∗ kvs m c (Finset.univ \ {hd t 0, hd t 1}) ∗ dns m c (ltn (2 * t.val)) ∗ crs c (2 * t.val) ∗ stat m c)) ?_ ?_ ?_)
  · intro Q'
    unfold aft
    rw [nxtPost_eq m c t t' h, kvs_next m c t t' h, slots_next t t' h, show 2 * t'.val + 2 = 2 * t.val from by omega, tds_c]
    iintro ⟨#HL, H36, HO, Hb, ⟨⟨F0, F1⟩, F2, F3⟩, Hsl, Hkv, ⟨T0, T1, Ht⟩, Hd, Hc, Hs⟩ Hk
    iapply (part50C m c t ht _ (owd_pos _)) $$ [HO F0]
    · isplitr; · iexact HL
      isplitl [HO]; · iexact HO
      iexact F0
    iintro %x %y %z ⟨HO, Hf⟩
    iapply Hk
    isplitl [HO]; · iexact HO
    isplitl [Hf]; · iexact Hf
    isplitl [F1 F2 F3]
    · unfold restFl
      isplitl [F1]; · iexact F1
      isplitl [F2] <;> iassumption
    isplitl [T0]; · iexact T0
    isplitl [T1]; · iexact T1
    isplitl [H36]; · iexact H36
    isplitl [Hb]; · iexact Hb
    isplitl [Hsl]; · iexact Hsl
    isplitl [Hkv]; · iexact Hkv
    isplitl [Hd]; · iexact Hd
    isplitl [Hc] <;> iassumption
  · intro h3; exact absurd ht h3
  · intro _ v2 h4
    unfold mainPost stat ep1 ep0 own0
    iintro ⟨#HR, #HL, Ha1, Ha2, ⟨HO, ⟨⟨K0, A0⟩, K1, A1⟩, ⟨⟨V0, B0⟩, V1, B1⟩, ⟨D0, D1⟩, C0, C1⟩, ⟨Ha3, Ha6⟩, Hb, Hsl, Hkv, Hd, Hc, ⟨Sw, Hw, Hg⟩,
      ⟨G0, ⟨R0, W0, Z0⟩, Q0, P0, E0, X0, Y0⟩, ⟨G1, ⟨R1, W1, Z1⟩, Q1, P1, E1, X1, Y1⟩, ⟨G2, ⟨R2, W2, Z2⟩, Q2, P2, E2, X2, Y2⟩⟩
    ihave Hc := (crs_add c (2 * t.val)) $$ [C0 C1 Hc]
    · isplitl [C0]; · iexact C0
      isplitl [C1] <;> iassumption
    ihave Hd := (show iprop(opP c (hd t 0) c (OP m c) ∗ opP c (hd t 1) c (OP m c) ∗ dns m c (ltn (2 * t.val))) ⊢ dns m c Finset.univ from
      Entails.of_eq ((dns_d m c t).symm.trans (congrArg _ (ltn8 t ht)))) $$ [D0 D1 Hd]
    · isplitl [D0]; · iexact D0
      isplitl [D1] <;> iassumption
    ihave Hc := (show (crs c (2 * t.val + 2) : sProp 𝕄) ⊢ crs c 8 from Entails.of_eq (by rw [ht])) $$ Hc
    ihave HO := (Owes_cast c (show owd (2 * t.val + 2) = owd 8 from by rw [ht])) $$ HO
    ihave Hkv := (show iprop(kv m c (hd t 0) ∗ kv m c (hd t 1) ∗ kvs m c (Finset.univ \ {hd t 0, hd t 1})) ⊢ kvs m c Finset.univ from Entails.of_eq (kvs_e m c t).symm) $$ [A0 B0 A1 B1 Hkv]
    · unfold kv
      isplitl [A0 B0]
      · isplitl [A0] <;> iassumption
      isplitl [A1 B1]
      · isplitl [A1] <;> iassumption
      iexact Hkv
    unfold crs
    icases Hc with ⟨C0, C1, C2⟩
    iapply (epi_wp m c t v2 h4) $$ [HO Hd Sw Hw Hg R0 W0 Z0 C0 G0 Q0 P0 E0 X0 Y0 R1 W1 Z1 C1 G1 Q1 P1 E1 X1 Y1 R2 W2 Z2 C2 G2 Q2 P2 E2 X2 Y2 Ha3 Ha6]
    · isplitr; · iexact HR
      isplitr; · iexact HL
      isplitl [Ha3]; · iexact Ha3
      isplitl [Ha6]; · iexact Ha6
      unfold epiPre oPre gPre
      isplitl [HO]; · iexact HO
      isplitl [Hd]
      · unfold dns; iexact Hd
      isplitl [Sw]; · iexact Sw
      isplitl [Hw]; · iexact Hw
      isplitl [R0 W0 Z0 C0 R1 W1 Z1 C1 R2 W2 Z2 C2]
      · isplitl [R0 W0 Z0 C0]
        · isplitl [R0]; · iexact R0
          isplitl [W0]; · iexact W0
          isplitl [C0] <;> iassumption
        isplitl [R1 W1 Z1 C1]
        · isplitl [R1]; · iexact R1
          isplitl [W1]; · iexact W1
          isplitl [C1] <;> iassumption
        isplitl [R2]; · iexact R2
        isplitl [W2]; · iexact W2
        isplitl [C2] <;> iassumption
      isplitl [G0 Q0 P0 E0 X0 Y0 G1 Q1 P1 E1 X1 Y1 G2 Q2 P2 E2 X2 Y2]
      · isplitl [G0 Q0 P0 E0 X0 Y0]
        · isplitl [G0]; · iexact G0
          isplitl [Q0]; · iexact Q0
          isplitl [P0]; · iexact P0
          isplitl [E0]; · iexact E0
          isplitl [X0] <;> iassumption
        isplitl [G1 Q1 P1 E1 X1 Y1]
        · isplitl [G1]; · iexact G1
          isplitl [Q1]; · iexact Q1
          isplitl [P1]; · iexact P1
          isplitl [E1]; · iexact E1
          isplitl [X1] <;> iassumption
        isplitl [G2]; · iexact G2
        isplitl [Q2]; · iexact Q2
        isplitl [P2]; · iexact P2
        isplitl [E2]; · iexact E2
        isplitl [X2] <;> iassumption
      iexact Hg
    unfold epiPost
    iintro ⟨Ha3, Ha6, HO, Hd, Sw, Hw, Ho, Hgp, Hg⟩
    isplitl [Ha1]; · iexact Ha1
    isplitl [Ha2]; · iexact Ha2
    isplitl [Ha3 Ha6]
    · isplitl [Ha3] <;> iassumption
    isplitl [HO]; · iexact HO
    unfold fin own0
    isplitl [Hb]; · iexact Hb
    ihave Hs1 := (show iprop((kFree c (sl t) 0 ∗ kFree c (sl t) 1) ∗ vFree c (sl t) 0 ∗ vFree c (sl t) 1) ⊢ (slots0 c 1 : sProp 𝕄) from
      (show (slots0 c (sl t) : sProp 𝕄) ⊢ slots0 c 1 from Entails.of_eq (congrArg _ (show sl t = 1 from Fin.ext (by show t.val % 2 = 1; omega))))) $$ [K0 K1 V0 V1]
    · isplitl [K0 K1]
      · isplitl [K0] <;> iassumption
      isplitl [V0] <;> iassumption
    ihave Hsl := (show (slots0 c (nx t) : sProp 𝕄) ⊢ slots0 c 0 from Entails.of_eq (congrArg _ (show nx t = 0 from Fin.ext (by show (t.val + 1) % 2 = 0; omega)))) $$ Hsl
    isplitl [Hsl]; · iexact Hsl
    isplitl [Hs1]; · iexact Hs1
    isplitl [Hkv]; · iexact Hkv
    isplitl [Hd]
    · unfold dns; iexact Hd
    isplitl [Sw Hw Hg]
    · isplitl [Sw]; · iexact Sw
      isplitl [Hw] <;> iassumption
    isplitl [Ho]; · iexact Ho
    iexact Hgp
  isplitr; · iexact HR
  isplitr; · iexact HL
  isplitl [Ha1]; · iexact Ha1
  isplitl [Ha2]; · iexact Ha2
  isplitr; · iexact HL
  isplitl [H36]; · iexact H36
  isplitl [HO] <;> iassumption

end Cert.KP

end
-- ==== Proof.Body0.lean ====
/-
  The first grid point and the body obligation.
-/
module

public import proofs.«01_k».proof.Proof.Body
public import proofs.«01_k».proof.Proof.Gen.KernelIdeal.Frame

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {a1 : Memref sig .tc .vmem S1x512x1024 .f32} {h1 : a1.IsWhole} {a2 : Memref sig .tc .vmem S1024x256 .f32} {h2 : a2.IsWhole}
  {a3 : Memref sig .tc .vmem S1024x1024 .f32} {h3 : a3.IsWhole} {a6 : Memref sig .tc .vmem S1x512x1024 .f32} {h6 : a6.IsWhole}

theorem hd00 : hd t0_0 0 = 0 := by decide
theorem hd01 : hd t0_0 1 = 1 := by decide
theorem sl0 : sl t0_0 = 0 := by decide
theorem nx0 : nx t0_0 = 1 := by decide
theorem geq0 : (Finset.univ : Finset (Fin 8)) = geq (2 * t0_0.val) := by decide

theorem tok_todo (c : Dev nD) (h : Fin 8) :
    iprop(toks0 c h ∗ (∃ f, ocP (F := F) (tgt c 0) 0 h f) ∗ (∃ f, ocP (F := F) (tgt c 1) 1 h f) ∗ (∃ f, ocP (F := F) (tgt c 2) 2 h f)) ⊢ (todo c h : sProp 𝕄) := by
  unfold toks0 todo sendRes
  iintro ⟨⟨S, ⟨P0, Q0⟩, ⟨P1, Q1⟩, P2, Q2⟩, H0, H1, H2⟩
  isplitl [S]; · iexact S
  isplitl [P0 Q0 H0]
  · isplitl [H0]; · iexact H0
    isplitl [P0] <;> iassumption
  isplitl [P1 Q1 H1]
  · isplitl [H1]; · iexact H1
    isplitl [P1] <;> iassumption
  isplitl [H2]; · iexact H2
  isplitl [P2] <;> iassumption

/-- The heads' tokens with the peers' landing pieces, once the barrier handed them over. -/
theorem toks_tds (c : Dev nD) :
    iprop((bigSep Finset.univ (toks0 (F := F) c)) ∗ (bigSep Finset.univ fun h : Fin 8 => iprop(∃ f, ocP (F := F) (tgt c 0) 0 h f))
      ∗ (bigSep Finset.univ fun h : Fin 8 => iprop(∃ f, ocP (F := F) (tgt c 1) 1 h f)) ∗ (bigSep Finset.univ fun h : Fin 8 => iprop(∃ f, ocP (F := F) (tgt c 2) 2 h f)))
    ⊢ (tds c Finset.univ : sProp 𝕄) := by
  rw [← bigSep_sep', ← bigSep_sep', ← bigSep_sep']
  exact bigSep_mono fun h _ => tok_todo c h

theorem dns_zero (c : Dev nD) : (iprop(emp) : sProp 𝕄) ⊢ dns m c (ltn (2 * t0_0.val)) := by
  unfold dns
  rw [show ltn (2 * t0_0.val) = ∅ from by decide, bigSep_empty]
  exact Entails.rfl
theorem crs_zero (c : Dev nD) : (iprop(emp) : sProp 𝕄) ⊢ crs c (2 * t0_0.val) := by
  show (iprop(emp) : sProp 𝕄) ⊢ iprop(emp ∗ emp ∗ emp)
  iintro -
  isplitr; · iempintro
  isplitr <;> iempintro

/-- The first grid point. -/
theorem body_first (c : Dev nD) {q1 q2 : PosShare TreeShare} {X2 : Vec F S1024x256 .f32}
    (hX0 : ∀ (x : Fin 1024) (y : Fin 128), X2 (ix2 x ⟨128 * (0 : Fin 2).val + y.val, by have := y.isLt; show 128 * 0 + y.val < 256; omega⟩) = Wh m c (hd t0_0 0) (ix2 x y))
    (hX1 : ∀ (x : Fin 1024) (y : Fin 128), X2 (ix2 x ⟨128 * (1 : Fin 2).val + y.val, by have := y.isLt; show 128 * 1 + y.val < 256; omega⟩) = Wh m c (hd t0_0 1) (ix2 x y)) :
    iprop(Rec m ∗ levAts L lv ∗ owns (c : Thread nD τ) a1 q1 (Xa m c) ∗ owns (c : Thread nD τ) a2 q2 X2 ∗ Owes c owedAll ∗ ini m c)
      ⊢ WP c (let t := t0_0; cc0__body (crd t) a1 h1 a2 h2 a3 h3 (Memref.whole main_arg2) (Memref.isWhole_whole _) (Memref.whole main_arg3) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13) fun _ =>
        iprop(owns (c : Thread nD τ) a1 q1 (Xa m c) ∗ owns (c : Thread nD τ) a2 q2 X2 ∗ Owes c (owd (2 * t0_0.val + 2)) ∗ aft m c t0_0) := by
  iintro ⟨#HR, #HL, Ha1, Ha2, HO, HA⟩
  iapply (body_from m c t0_0 hX0 hX1 (Pre := iprop(Rec m ∗ levAts L lv ∗ Owes c owedAll ∗ ini m c))
    (R := iprop(semVal (kcell c none) 0 ∗ nxtPost m c t0_0 ∗ kvs m c (four t0_0) ∗ tds c (geq (2 * t0_0.val + 2)) ∗ stat m c)) ?_ ?_ ?_)
  · intro Q'
    unfold ini
    rw [kvs_e m c t0_0, kvs_a m c t0_0 (by decide)]
    unfold kv
    iintro ⟨#HR, #HL, HO, Hb, ⟨P0, P1, P2, P3⟩, ⟨K0, K1, K2, K3⟩, ⟨⟨A0, B0⟩, ⟨A1, B1⟩, ⟨A2, B2⟩, ⟨A3, B3⟩, Hkv⟩, Ht, Hw, E0, E1, E2⟩ Hk
    iapply (part50A m c t0_0 rfl) $$ [HO Hb P0 P1 P2 P3 K0 K1 K2 K3 A0 B0 A1 B1 A2 B2 A3 B3]
    · isplitr; · iexact HR
      isplitr; · iexact HL
      isplitl [HO]; · iexact HO
      isplitl [Hb]; · iexact Hb
      unfold fstPre
      rw [hd00, hd01, nx0]
      isplitl [P0 P1 P2 P3 K0 K1 A0 B0 A1 B1]
      · isplitl [P0 P1 P2 P3 K0 A0]
        · isplitl [P0]; · iexact P0
          isplitl [P1]; · iexact P1
          isplitl [P2]; · iexact P2
          isplitl [P3]; · iexact P3
          isplitl [K0] <;> iassumption
        isplitl [B0]; · iexact B0
        isplitl [K1 A1]
        · isplitl [K1] <;> iassumption
        iexact B1
      isplitl [K2 A2 B2]
      · isplitl [K2]; · iexact K2
        isplitl [A2] <;> iassumption
      isplitl [K3]; · iexact K3
      isplitl [A3] <;> iassumption
    unfold barPost landP
    iintro %x %y %z ⟨HO, ⟨Hbz, ⟨L0, G0⟩, ⟨L1, G1⟩, L2, G2⟩, Hf, F1, F2, F3, Hn⟩
    ihave Ht := (toks_tds c) $$ [Ht L0 L1 L2]
    · isplitl [Ht]; · iexact Ht
      isplitl [L0]; · iexact L0
      isplitl [L1] <;> iassumption
    ihave Ht := (show (tds c Finset.univ : sProp 𝕄) ⊢ iprop(todo c (hd t0_0 0) ∗ todo c (hd t0_0 1) ∗ tds c (geq (2 * t0_0.val + 2))) from
      Entails.of_eq ((congrArg _ geq0).trans (tds_c c t0_0))) $$ Ht
    icases Ht with ⟨T0, T1, Ht⟩
    iapply Hk
    isplitl [HO]; · iexact HO
    isplitl [Hf]; · iexact Hf
    isplitl [F1 F2 F3]
    · unfold restFl
      isplitl [F1]; · iexact F1
      isplitl [F2] <;> iassumption
    isplitl [T0]; · iexact T0
    isplitl [T1]; · iexact T1
    isplitl [Hbz]; · iexact Hbz
    isplitl [Hn]; · iexact Hn
    isplitl [Hkv]; · iexact Hkv
    isplitl [Ht]; · iexact Ht
    unfold stat ep1
    isplitl [Hw]; · iexact Hw
    isplitl [G0 E0]
    · isplitl [G0] <;> iassumption
    isplitl [G1 E1]
    · isplitl [G1] <;> iassumption
    isplitl [G2] <;> iassumption
  · intro _
    unfold mainPost aft
    rw [kvs_b m c t0_0 (by decide), dns_d]
    unfold slots0 kv
    iintro ⟨Ha1, Ha2, ⟨HO, ⟨⟨K0, A0⟩, K1, A1⟩, ⟨⟨V0, B0⟩, V1, B1⟩, ⟨D0, D1⟩, C0, C1⟩, Hb, Hn, Hkv, Ht, Hs⟩
    isplitl [Ha1]; · iexact Ha1
    isplitl [Ha2]; · iexact Ha2
    isplitl [HO]; · iexact HO
    isplitl [Hb]; · iexact Hb
    isplitl [Hn]; · iexact Hn
    isplitl [K0 K1 V0 V1]
    · isplitl [K0 K1]
      · isplitl [K0] <;> iassumption
      isplitl [V0] <;> iassumption
    isplitl [A0 B0 A1 B1 Hkv]
    · isplitl [A0 B0]
      · isplitl [A0] <;> iassumption
      isplitl [A1 B1]
      · isplitl [A1] <;> iassumption
      iexact Hkv
    isplitl [Ht]; · iexact Ht
    isplitl [D0 D1]
    · isplitl [D0]; · iexact D0
      isplitl [D1]; · iexact D1
      iapply (dns_zero m c); iempintro
    isplitl [C0 C1]
    · iapply (crs_add c (2 * t0_0.val)) $$ [C0 C1]
      isplitl [C0]; · iexact C0
      isplitl [C1]; · iexact C1
      iapply (crs_zero c); iempintro
    iexact Hs
  · intro h3; exact absurd h3 (by decide)
  isplitr; · iexact HR
  isplitr; · iexact HL
  isplitl [Ha1]; · iexact Ha1
  isplitl [Ha2]; · iexact Ha2
  isplitr; · iexact HR
  isplitr; · iexact HL
  isplitl [HO] <;> iassumption

/-! ## The proof data -/

variable (ρ : Dev nD → PrngReg)

/-- The body's invariant before grid point `n`. -/
def inv (c : Dev nD) : ℕ → sProp 𝕄
  | 0 => ini m c
  | 1 => aft m c t0_0
  | 2 => aft m c t0_1
  | 3 => aft m c t0_2
  | _ => fin m c
/-- The payments owed before grid point `n`. -/
def owedN : ℕ → Finset Pm
  | 0 => owedAll
  | 1 => owd 2
  | 2 => owd 4
  | 3 => owd 6
  | _ => ∅

/-- The four windows' blocks at a grid point: the inputs in place, the output at the result. -/
def aftW (c : Dev nD) : (w : Fin cfg0.W) → Fin cfg0.N → (cfg0.win w).block.Idx → Elt F (cfg0.win w).elt
  | ⟨0, _⟩, t => iblk m c 0 t
  | ⟨1, _⟩, t => iblk m c 1 t
  | ⟨2, _⟩, t => iblk m c 2 t
  | ⟨3, _⟩, _ => RES m c

def dats (_ : Fin 1) (c : Dev nD) : Dat τ (Elt F) Unit ℕ UU ℕ cfg0 c where
  A w := (s₀ m ρ).mem ((cfg0.win w).arr.view.loc (c : Thread nD τ))
  after w t := aftW m c w t
  Φ t := iprop(Rec m ∗ levAts L lv ∗ inv m c t.val)
  q _ := fullShare
  owed t := Ow c (owedN t.val)

theorem owesAt_in (c : Dev nD) (t : Fin (cfg0.N + 1)) : (dats m ρ 0 c).owesAt () t ⊢ (Owes c (owedN t.val) : sProp 𝕄) := by
  unfold Dat.owesAt Pipeline.owesWithin Owes
  iintro ⟨%W, %hW, HO⟩
  iexists W
  iexact HO
theorem owesAt_out (c : Dev nD) (t : Fin (cfg0.N + 1)) : (Owes c (owedN t.val) : sProp 𝕄) ⊢ (dats m ρ 0 c).owesAt () t := by
  unfold Dat.owesAt Pipeline.owesWithin Owes
  iintro ⟨%W, HO⟩
  iexists W
  isplitr
  · ipureintro; exact fun _ _ => Or.inl trivial
  iexact HO

theorem before0 (c : Dev nD) (t : Fin cfg0.N) (d) : (dats m ρ 0 c).before 0 t d = iblk m c 0 t :=
  ((dats m ρ 0 c).before_in_eq_fetched 0 rfl (fun _ => rfl) (fun _ _ _ => rfl) (fun t => rfl) t d).trans rfl
theorem before1 (c : Dev nD) (t : Fin cfg0.N) (d) : (dats m ρ 0 c).before 1 t d = iblk m c 1 t :=
  ((dats m ρ 0 c).before_in_eq_fetched 1 rfl (fun _ => rfl) (fun _ _ _ => rfl) (fun t => rfl) t d).trans rfl
theorem before2 (c : Dev nD) (t : Fin cfg0.N) (d) : (dats m ρ 0 c).before 2 t d = iblk m c 2 t :=
  ((dats m ρ 0 c).before_in_eq_fetched 2 rfl (fun _ => rfl) (fun _ _ _ => rfl) (fun t => rfl) t d).trans rfl

end Cert.KP

end
-- ==== Proof.Obl.lean ====
/-
  The body obligation of the kernel at its four grid points.
-/
module

public import proofs.«01_k».proof.Proof.Body0
public import proofs.«01_k».proof.Proof.Gen.KernelIdeal.Frame

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The windows' blocks -/

theorem iblk0 (c : Dev nD) (t : Fin cfg0.N) : (iblk m c 0 t : Vec F S1x512x1024 .f32) = Xa m c := by
  have hi : win0_0.index t 0 = 0 ∧ win0_0.index t 1 = 0 ∧ win0_0.index t 2 = 0 := by
    rcases fin_N0 t with rfl | rfl | rfl | rfl <;> decide
  funext j
  unfold iblk
  rw [View.read_apply]
  show V m c main_arg0 _ = m (c.tc.loc main_arg0) j
  unfold V
  congr 1
  funext a
  apply Fin.ext
  match a with
  | ⟨0, _⟩ => show win0_0.index t 0 * 1 + 1 * (j 0).val = (j 0).val; rw [hi.1]; omega
  | ⟨1, _⟩ => show win0_0.index t 1 * 512 + 1 * (j 1).val = (j 1).val; rw [hi.2.1]; omega
  | ⟨2, _⟩ => show win0_0.index t 2 * 1024 + 1 * (j 2).val = (j 2).val; rw [hi.2.2]; omega

theorem iblk2 (c : Dev nD) (t : Fin cfg0.N) : (iblk m c 2 t : Vec F S1024x1024 .f32) = Woa m c := by
  have hi : win0_2.index t 0 = 0 ∧ win0_2.index t 1 = 0 := by
    rcases fin_N0 t with rfl | rfl | rfl | rfl <;> decide
  funext j
  unfold iblk
  rw [View.read_apply]
  show V m c main_arg4 _ = m (c.tc.loc main_arg4) j
  unfold V
  congr 1
  funext a
  apply Fin.ext
  match a with
  | ⟨0, _⟩ => show win0_2.index t 0 * 1024 + 1 * (j 0).val = (j 0).val; rw [hi.1]; omega
  | ⟨1, _⟩ => show win0_2.index t 1 * 1024 + 1 * (j 1).val = (j 1).val; rw [hi.2]; omega

/-- The projection's column block at a grid point holds the columns of that point's two heads. -/
theorem iblk1 (c : Dev nD) (t : Fin cfg0.N) (i : Fin 2) (x : Fin 1024) (y : Fin 128) (h : 128 * i.val + y.val < 256) :
    (iblk m c 1 t : Vec F S1024x256 .f32) (ix2 x ⟨128 * i.val + y.val, h⟩) = Wh m c (hd t i) (ix2 x y) := by
  have hi : win0_1.index t 0 = 0 ∧ win0_1.index t 1 = t.val := by
    rcases fin_N0 t with rfl | rfl | rfl | rfl <;> decide
  have hv : (hd t i).val = 2 * t.val + i.val := rfl
  unfold iblk Wh
  rw [View.read_apply]
  show V m c main_arg1 _ = m (c.tc.loc main_arg1) _
  unfold V
  congr 1
  funext a
  apply Fin.ext
  match a with
  | ⟨0, _⟩ => show win0_1.index t 0 * 1024 + 1 * x.val = x.val; rw [hi.1]; omega
  | ⟨1, _⟩ =>
    show win0_1.index t 1 * 256 + 1 * (128 * i.val + y.val) = 128 * (hd t i).val + y.val
    rw [hi.2, hv]; omega

/-! ## The body obligation -/

/-- What window `w`'s buffer is before the body at `t`. -/
abbrev bef (c : Dev nD) (w : Fin cfg0.W) (t : Fin cfg0.N) : sProp 𝕄 :=
  iprop(∃ d, owns (c : Thread nD τ) ((cfg0.win w).stage (cfg0.slots t w)) fullShare ((dats m ρ 0 c).before w t d))

theorem bef0 (c : Dev nD) (t : Fin cfg0.N) : (bef m ρ c 0 t : sProp 𝕄) ⊢ owns (c : Thread nD τ) (st0_0 t) fullShare (Xa m c) := by
  iintro ⟨%d, H⟩
  ihave H := (Entails.of_eq (congrArg (fun X => (owns (c : Thread nD τ) (st0_0 t) fullShare X : sProp 𝕄)) ((before0 m ρ c t d).trans (iblk0 m c t)))) $$ [H]
  · iexact H
  iexact H
theorem bef1 (c : Dev nD) (t : Fin cfg0.N) : (bef m ρ c 1 t : sProp 𝕄) ⊢ owns (c : Thread nD τ) (st0_1 t) fullShare (iblk m c 1 t) := by
  iintro ⟨%d, H⟩
  ihave H := (Entails.of_eq (congrArg (fun X => (owns (c : Thread nD τ) (st0_1 t) fullShare X : sProp 𝕄)) (before1 m ρ c t d))) $$ [H]
  · iexact H
  iexact H
theorem bef2 (c : Dev nD) (t : Fin cfg0.N) : (bef m ρ c 2 t : sProp 𝕄) ⊢ owns (c : Thread nD τ) (st0_2 t) fullShare (Woa m c) := by
  iintro ⟨%d, H⟩
  ihave H := (Entails.of_eq (congrArg (fun X => (owns (c : Thread nD τ) (st0_2 t) fullShare X : sProp 𝕄)) ((before2 m ρ c t d).trans (iblk2 m c t)))) $$ [H]
  · iexact H
  iexact H
theorem aft0 (c : Dev nD) (t : Fin cfg0.N) : (owns (c : Thread nD τ) (st0_0 t) fullShare (Xa m c) : sProp 𝕄) ⊢ (dats m ρ 0 c).leavesExact 0 t :=
  Entails.of_eq (congrArg (fun X => (owns (c : Thread nD τ) (st0_0 t) fullShare X : sProp 𝕄)) (iblk0 m c t).symm)
theorem aft1 (c : Dev nD) (t : Fin cfg0.N) : (owns (c : Thread nD τ) (st0_1 t) fullShare (iblk m c 1 t) : sProp 𝕄) ⊢ (dats m ρ 0 c).leavesExact 1 t :=
  Entails.of_eq rfl
theorem aft2 (c : Dev nD) (t : Fin cfg0.N) : (owns (c : Thread nD τ) (st0_2 t) fullShare (Woa m c) : sProp 𝕄) ⊢ (dats m ρ 0 c).leavesExact 2 t :=
  Entails.of_eq (congrArg (fun X => (owns (c : Thread nD τ) (st0_2 t) fullShare X : sProp 𝕄)) (iblk2 m c t).symm)
theorem aft3_idle (c : Dev nD) (t : Fin cfg0.N) (ht : t.val < 3) : (bef m ρ c 3 t : sProp 𝕄) ⊢ (dats m ρ 0 c).leavesExact 3 t := by
  refine Entails.of_eq ((dats m ρ 0 c).leavesExact_idle 3 t ?_ ?_).symm
  · rcases fin_N0 t with rfl | rfl | rfl | rfl <;> first | rfl | decide | exact absurd ht (by decide)
  · have h := flush0_3 t
    cases hf : (cfg0.win 3).flush t with
    | false => rfl
    | true => have := h.mp hf; omega
theorem aft3_full (c : Dev nD) : (owns (c : Thread nD τ) (st0_3 t0_3) fullShare (RES m c) : sProp 𝕄) ⊢ (dats m ρ 0 c).leavesExact 3 t0_3 := by
  have hi : cfg0.idle 3 (cfg0.grid.coords t0_3) = false := by decide
  unfold Dat.leavesExact
  rw [hi]
  exact Entails.of_eq rfl

/-- The obligation at one point from a run of the body there. -/
theorem obl_of (c : Dev nD) (t : Fin cfg0.N)
    (h : iprop(Rec m ∗ levAts L lv ∗ inv m c t.val ∗ Owes c (owedN t.val) ∗ bef m ρ c 0 t ∗ bef m ρ c 1 t ∗ bef m ρ c 2 t ∗ bef m ρ c 3 t)
      ⊢ WP c (bodyAt0 t) fun _ => iprop(inv m c (t.val + 1) ∗ Owes c (owedN (t.val + 1)) ∗ (dats m ρ 0 c).leavesExact 0 t ∗ (dats m ρ 0 c).leavesExact 1 t
        ∗ (dats m ρ 0 c).leavesExact 2 t ∗ (dats m ρ 0 c).leavesExact 3 t)) :
    iprop((dats m ρ 0 c).Φ t.castSucc ∗ (dats m ρ 0 c).owesAt () t.castSucc ∗ (bef m ρ c 0 t ∗ bef m ρ c 1 t ∗ bef m ρ c 2 t ∗ bef m ρ c 3 t))
      ⊢ WP c (bodyAt0 t) fun _ => iprop((dats m ρ 0 c).Φ t.succ ∗ (dats m ρ 0 c).owesAt () t.succ
        ∗ ((dats m ρ 0 c).leavesExact 0 t ∗ (dats m ρ 0 c).leavesExact 1 t ∗ (dats m ρ 0 c).leavesExact 2 t ∗ (dats m ρ 0 c).leavesExact 3 t)) := by
  rw [show (dats m ρ 0 c).Φ t.castSucc = iprop(Rec m ∗ levAts L lv ∗ inv m c t.val) from rfl,
    show (dats m ρ 0 c).Φ t.succ = iprop(Rec m ∗ levAts L lv ∗ inv m c (t.val + 1)) from rfl]
  iintro ⟨⟨#HR, #HL, HI⟩, HO, H⟩
  ihave HO := (owesAt_in m ρ c t.castSucc) $$ HO
  iapply wp_wand_r
  isplitl [HI HO H]
  · iapply h
    isplitr; · iexact HR
    isplitr; · iexact HL
    isplitl [HI]; · iexact HI
    isplitl [HO]; · iexact HO
    iexact H
  iintro %r ⟨HI, HO, H⟩
  ihave HO := (owesAt_out m ρ c t.succ) $$ [HO]
  · iexact HO
  isplitl [HI]
  · isplitr; · iexact HR
    isplitr; · iexact HL
    iexact HI
  isplitl [HO]; · iexact HO
  iexact H

theorem run_first (c : Dev nD) :
    iprop(Rec m ∗ levAts L lv ∗ ini m c ∗ Owes c owedAll ∗ bef m ρ c 0 t0_0 ∗ bef m ρ c 1 t0_0 ∗ bef m ρ c 2 t0_0 ∗ bef m ρ c 3 t0_0)
      ⊢ WP c (bodyAt0 t0_0) fun _ => iprop(aft m c t0_0 ∗ Owes c (owd (2 * t0_0.val + 2)) ∗ (dats m ρ 0 c).leavesExact 0 t0_0 ∗ (dats m ρ 0 c).leavesExact 1 t0_0
        ∗ (dats m ρ 0 c).leavesExact 2 t0_0 ∗ (dats m ρ 0 c).leavesExact 3 t0_0) := by
  iintro ⟨#HR, #HL, HI, HO, B0, B1, B2, B3⟩
  ihave B0 := (bef0 m ρ c t0_0) $$ B0
  ihave B1 := (bef1 m ρ c t0_0) $$ B1
  ihave B2 := (bef2 m ρ c t0_0) $$ B2
  iapply wp_wand_r
  isplitl [HI HO B0 B1]
  · iapply (body_first m c (fun x y => iblk1 m c t0_0 0 x y _) (fun x y => iblk1 m c t0_0 1 x y _))
    isplitr; · iexact HR
    isplitr; · iexact HL
    isplitl [B0]; · iexact B0
    isplitl [B1]; · iexact B1
    isplitl [HO]; · iexact HO
    iexact HI
  iintro %r ⟨B0, B1, HO, HI⟩
  isplitl [HI]; · iexact HI
  isplitl [HO]; · iexact HO
  isplitl [B0]; · iapply (aft0 m ρ c t0_0); iexact B0
  isplitl [B1]; · iapply (aft1 m ρ c t0_0); iexact B1
  isplitl [B2]; · iapply (aft2 m ρ c t0_0); iexact B2
  iapply (aft3_idle m ρ c t0_0 (by decide)); iexact B3

theorem run_mid (c : Dev nD) (t t' : Fin cfg0.N) (h : t'.val + 1 = t.val) (ht : t.val < 3) :
    iprop(Rec m ∗ levAts L lv ∗ aft m c t' ∗ Owes c (owd (2 * t.val)) ∗ bef m ρ c 0 t ∗ bef m ρ c 1 t ∗ bef m ρ c 2 t ∗ bef m ρ c 3 t)
      ⊢ WP c (bodyAt0 t) fun _ => iprop(aft m c t ∗ Owes c (owd (2 * t.val + 2)) ∗ (dats m ρ 0 c).leavesExact 0 t ∗ (dats m ρ 0 c).leavesExact 1 t
        ∗ (dats m ρ 0 c).leavesExact 2 t ∗ (dats m ρ 0 c).leavesExact 3 t) := by
  iintro ⟨#HR, #HL, HI, HO, B0, B1, B2, B3⟩
  ihave B0 := (bef0 m ρ c t) $$ B0
  ihave B1 := (bef1 m ρ c t) $$ B1
  ihave B2 := (bef2 m ρ c t) $$ B2
  iapply wp_wand_r
  isplitl [HI HO B0 B1]
  · iapply (body_mid m c t t' h ht (fun x y => iblk1 m c t 0 x y _) (fun x y => iblk1 m c t 1 x y _))
    isplitr; · iexact HR
    isplitr; · iexact HL
    isplitl [B0]; · iexact B0
    isplitl [B1]; · iexact B1
    isplitl [HO]; · iexact HO
    iexact HI
  iintro %r ⟨B0, B1, HO, HI⟩
  isplitl [HI]; · iexact HI
  isplitl [HO]; · iexact HO
  isplitl [B0]; · iapply (aft0 m ρ c t); iexact B0
  isplitl [B1]; · iapply (aft1 m ρ c t); iexact B1
  isplitl [B2]; · iapply (aft2 m ρ c t); iexact B2
  iapply (aft3_idle m ρ c t ht); iexact B3

theorem run_last (c : Dev nD) :
    iprop(Rec m ∗ levAts L lv ∗ aft m c t0_2 ∗ Owes c (owd 6) ∗ bef m ρ c 0 t0_3 ∗ bef m ρ c 1 t0_3 ∗ bef m ρ c 2 t0_3 ∗ bef m ρ c 3 t0_3)
      ⊢ WP c (bodyAt0 t0_3) fun _ => iprop(fin m c ∗ Owes c ∅ ∗ (dats m ρ 0 c).leavesExact 0 t0_3 ∗ (dats m ρ 0 c).leavesExact 1 t0_3
        ∗ (dats m ρ 0 c).leavesExact 2 t0_3 ∗ (dats m ρ 0 c).leavesExact 3 t0_3) := by
  iintro ⟨#HR, #HL, HI, HO, B0, B1, B2, ⟨%d, B3⟩⟩
  ihave B0 := (bef0 m ρ c t0_3) $$ B0
  ihave B1 := (bef1 m ρ c t0_3) $$ B1
  ihave B2 := (bef2 m ρ c t0_3) $$ B2
  iapply wp_wand_r
  isplitl [HI HO B0 B1 B2 B3]
  · iapply (body_last m c t0_3 t0_2 rfl rfl (fun x y => iblk1 m c t0_3 0 x y _) (fun x y => iblk1 m c t0_3 1 x y _))
    isplitr; · iexact HR
    isplitr; · iexact HL
    isplitl [B0]; · iexact B0
    isplitl [B1]; · iexact B1
    isplitl [B2 B3]
    · isplitl [B2]; · iexact B2
      iexact B3
    isplitl [HO]; · iexact HO
    iexact HI
  iintro %r ⟨B0, B1, ⟨B2, B3⟩, HO, HI⟩
  isplitl [HI]; · iexact HI
  isplitl [HO]; · iexact HO
  isplitl [B0]; · iapply (aft0 m ρ c t0_3); iexact B0
  isplitl [B1]; · iapply (aft1 m ρ c t0_3); iexact B1
  isplitl [B2]; · iapply (aft2 m ρ c t0_3); iexact B2
  iapply (aft3_full m ρ c); iexact B3

set_option maxRecDepth 8000 in
theorem body_obligation (c : Dev nD) : BodyObligation (dats m ρ 0 c) (defs₀ (F := F)) 𝒱₀ () Set.univ := fun t => by
  rw [bigSep_W0, bigSep_W0]
  have key := obl_of m ρ c t (by
    rcases fin_N0 t with rfl | rfl | rfl | rfl
    · exact run_first m ρ c
    · exact run_mid m ρ c t0_1 t0_0 rfl (by decide)
    · exact run_mid m ρ c t0_2 t0_1 rfl (by decide)
    · have h3 : t0_3.val + 1 = 4 := rfl
      rw [h3, show inv m c 4 = fin m c from rfl, show owedN 4 = ∅ from rfl, show inv m c t0_3.val = aft m c t0_2 from rfl, show owedN t0_3.val = owd 6 from rfl]
      exact run_last m ρ c)
  exact key

end Cert.KP

end
-- ==== Proof.Launch1.lean ====
/-
  The launch: the ghost state minted, the invariants allocated, the payment rights handed to their payers.
-/
module

public import proofs.«01_k».proof.Proof.Obl
public import proofs.«01_k».proof.Proof.Gen.KernelIdeal.Frame

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The kernel's own semaphores: the nine of its local copies, and the twelve remote cells'. -/
abbrev KO : Type := Fin 9 ⊕ (Fin 4 × Fin 3)
def osem : KO → SemLoc sig
  | .inl n => .dma ⟨5 + n.val, by have := n.isLt; show 5 + n.val < 26; omega⟩
  | .inr x => csem (some x)

theorem ownSemFacts : Pipeline.OwnSemFacts cfg0.spec osem := by decide +kernel

/-- The semaphores of the local copies, at zero. -/
def locS (c : Dev nD) : sProp 𝕄 := bigSep Finset.univ fun n : Fin 9 => semVal ((c : Thread nD τ), osem (.inl n)) 0

theorem locS_eq (c : Dev nD) : (locS c : sProp 𝕄) = iprop(semVal ((c : Thread nD τ), SemLoc.dma (kSem 0 0)) 0 ∗ semVal ((c : Thread nD τ), SemLoc.dma (kSem 0 1)) 0
    ∗ semVal ((c : Thread nD τ), SemLoc.dma (kSem 1 0)) 0 ∗ semVal ((c : Thread nD τ), SemLoc.dma (kSem 1 1)) 0
    ∗ semVal ((c : Thread nD τ), SemLoc.dma (vSem 0 0)) 0 ∗ semVal ((c : Thread nD τ), SemLoc.dma (vSem 0 1)) 0
    ∗ semVal ((c : Thread nD τ), SemLoc.dma (vSem 1 0)) 0 ∗ semVal ((c : Thread nD τ), SemLoc.dma (vSem 1 1)) 0
    ∗ semVal ((c : Thread nD τ), SemLoc.dma oSem) 0) :=
  bigSep_univ_eq_bigSepL [0, 1, 2, 3, 4, 5, 6, 7, 8] (by decide) (by decide) _

theorem bigSep_option {I : Type} [Fintype I] [DecidableEq I] (Φ : Option I → sProp 𝕄) :
    bigSep Finset.univ Φ = iprop(Φ none ∗ bigSep Finset.univ fun x => Φ (some x)) := by
  rw [bigSep_univ_equiv ((Equiv.sumComm PUnit.{1} I).trans (Equiv.optionEquivSumPUnit.{0} I).symm) Φ, bigSep_univ_sum]
  congr 1
  rw [Finset.univ_unique, bigSep_singleton]; rfl

theorem ownSems0_eq (c : Dev nD) : (Pipeline.ownSems0 (Ix := Unit) (Name := ℕ) (U := UU) (Lvl := ℕ) (Val := Elt F) (τ := τ) osem c : sProp 𝕄)
    = iprop(locS c ∗ bigSep Finset.univ fun x : Fin 4 × Fin 3 => semVal (kcell c (some x)) 0) := by
  unfold Pipeline.ownSems0
  rw [bigSep_univ_sum]
  rfl

theorem unscopedSems0_eq (c : Dev nD) : (unscopedSems0 c : sProp 𝕄) = semVal (kcell c none) 0 := by
  unfold unscopedSems0; rw [bigSep_eq_bigSepL_of_eq [SemLoc.reg barS] (by decide) (by decide)]; rfl

theorem sems0_eq (c : Dev nD) :
    (iprop(Pipeline.ownSems0 (Ix := Unit) (Name := ℕ) (U := UU) (Lvl := ℕ) (Val := Elt F) (τ := τ) osem c ∗ unscopedSems0 c) : sProp 𝕄)
      ⊢ iprop(locS c ∗ bigSep Finset.univ fun k : Kd => semVal (kcell c k) 0) := by
  rw [ownSems0_eq, unscopedSems0_eq, bigSep_option (fun k : Kd => (semVal (kcell c k) 0 : sProp 𝕄))]
  iintro ⟨⟨HL, HS⟩, HB⟩
  isplitl [HL]; · iexact HL
  isplitl [HB] <;> iassumption

/-! ## The ghost state -/

theorem kcell_inj : Function.Injective fun ck : Dev nD × Kd => kcell ck.1 ck.2 := by
  rintro ⟨c, k⟩ ⟨c', k'⟩ h
  have h1 : c = c' := congrArg (fun g : GSem nD τ sig => g.1.1) h
  subst h1
  have h2 : csem k = csem k' := congrArg Prod.snd h
  rw [csem_inj h2]
def ringCells : Finset (GSem nD τ sig) := Finset.univ.map ⟨fun ck : Dev nD × Kd => kcell ck.1 ck.2, kcell_inj⟩

theorem tok_inj : Function.Injective fun cp : Dev nD × Pm => ((kcell cp.1 cp.2.1, 0, cp.2.2) : GSem nD τ sig × ℕ × Fin 8) := by
  rintro ⟨c, k, d⟩ ⟨c', k', d'⟩ h
  have h1 : kcell c k = kcell c' k' := congrArg (fun x : GSem nD τ sig × ℕ × Fin 8 => x.1) h
  have h2 : d = d' := congrArg (fun x : GSem nD τ sig × ℕ × Fin 8 => x.2.2) h
  have h3 := kcell_inj (a₁ := (c, k)) (a₂ := (c', k')) h1
  obtain ⟨rfl, rfl⟩ := Prod.mk.inj h3
  rw [h2]
def ringToks : Finset (GSem nD τ sig × ℕ × Fin 8) := Finset.univ.map ⟨fun cp : Dev nD × Pm => (kcell cp.1 cp.2.1, 0, cp.2.2), tok_inj⟩

def u₀ : UU :=
  (initOf (Pipeline.cells cfgs cellOf_inj) (Pipeline.launchToks cfgs cellOf_inj), (initOf ringCells ringToks, (1 : Counters)))

/-- The tokens of device `c`'s own cells, as minted; and of the payments it makes. -/
def toks (c : Dev nD) : sProp 𝕄 := bigSep Finset.univ fun p : Pm => dutyTok ER (kcell c p.1) 0 p.2
def payToks (c : Dev nD) : sProp 𝕄 := bigSep Finset.univ (ptok (F := F) c)

def G (c : Dev nD) : sProp 𝕄 :=
  iprop((bigSep Finset.univ fun k : Kd => roundState ER (Rd m) (kcell c k) 0)
    ∗ ((bigSep Finset.univ fun k : Kd => reached ER (kcell c k) 0) ∗ bigSep Finset.univ fun k : Kd => atPos ER (kcell c k) 0 ∅ 0) ∗ toks c)
def G' (c : Dev nD) : sProp 𝕄 :=
  iprop(Rec m ∗ (bigSep Finset.univ fun k : Kd => atPos ER (kcell c k) 0 ∅ 0) ∗ payToks c ∗ locS c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Kd => Φ (kcell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hr'] <;> iassumption
  iexact Htok'

/-- One device's share after its invariants are allocated. -/
def Gi (c : Dev nD) : sProp 𝕄 :=
  iprop((bigSep Finset.univ fun k : Kd => iprop((∃ κ : ℕ, cellInv ER (Rd m) κ (kcell c k)) ∗ reached ER (kcell c k) 0))
    ∗ (bigSep Finset.univ fun k : Kd => atPos ER (kcell c k) 0 ∅ 0) ∗ toks c ∗ locS c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> Gi m c := by
  unfold G Gi
  iintro ⟨Hos, Hus, Hst, ⟨Hr, Hat⟩, Htok⟩
  ihave Hv := (sems0_eq (F := F) c) $$ [Hos Hus]
  · isplitl [Hos] <;> iassumption
  icases Hv with ⟨HL, Hv⟩
  imod (show iprop((bigSep Finset.univ fun k : Kd => semVal (kcell c k) 0) ∗ bigSep Finset.univ fun k : Kd => roundState ER (Rd m) (kcell c k) 0)
      ⊢ (|={Set.univ}=> bigSep Finset.univ fun k => iprop(∃ κ : ℕ, cellInv ER (Rd m) κ (kcell c k)) : sProp 𝕄) from by
        rw [← bigSep_sep']
        exact (bigSep_mono fun k _ => (Rounds.body_intro ER (Rd m) (kcell c k)).trans inv_alloc).trans (bigSep_fupd _ _)) $$ [Hv Hst] with Hinv
  · isplitl [Hv] <;> iassumption
  imodintro
  isplitl [Hinv Hr]
  · simp only [bigSep_sep']
    isplitl [Hinv] <;> iassumption
  isplitl [Hat]; · iexact Hat
  isplitl [Htok] <;> iassumption

/-- Every token to the device that pays with it. -/
theorem toks_around : (bigSep Finset.univ fun c : Dev nD => (toks c : sProp 𝕄)) = bigSep Finset.univ fun c : Dev nD => payToks c := by
  unfold toks payToks ptok
  rw [bigSep_univ_comm, bigSep_univ_comm (fun (c : Dev nD) (p : Pm) => (dutyTok ER (payCell c p) 0 p.2 : sProp 𝕄))]
  exact bigSep_congr fun p _ => bigSep_univ_equiv (whoP p) (fun c : Dev nD => (dutyTok ER (kcell c p.1) 0 p.2 : sProp 𝕄))

theorem bigSep_share {I : Type} [DecidableEq I] {S : Finset I} {R : sProp 𝕄} [BI.Persistent R] {Φ : I → sProp 𝕄} :
    iprop(R ∗ bigSep S Φ) ⊢ bigSep S fun i => iprop(R ∗ Φ i) := by
  rw [bigSep_sep']
  exact sep_mono_left (BI.bigSep_of_persistent S R)

theorem regroup : (bigSep Finset.univ (Gi m) : sProp 𝕄) ⊢ bigSep Finset.univ (G' m) := by
  have e : (bigSep Finset.univ (Gi m) : sProp 𝕄) = iprop(Rec m ∗ (bigSep Finset.univ fun c : Dev nD => bigSep Finset.univ fun k : Kd => atPos ER (kcell c k) 0 ∅ 0)
      ∗ (bigSep Finset.univ fun c : Dev nD => payToks c) ∗ bigSep Finset.univ fun c : Dev nD => locS c) := by
    unfold Gi Rec
    rw [bigSep_sep', bigSep_sep', bigSep_sep', toks_around, bigSep_univ_prod (fun ck : Dev nD × Kd => iprop((∃ κ, cellInv ER (Rd m) κ (kcell ck.1 ck.2)) ∗ reached ER (kcell ck.1 ck.2) 0))]
  rw [e]
  refine BI.Entails.trans ?_ (bigSep_share (R := Rec m) (Φ := fun c : Dev nD => iprop((bigSep Finset.univ fun k : Kd => atPos ER (kcell c k) 0 ∅ 0) ∗ payToks c ∗ locS c)))
  rw [bigSep_sep', bigSep_sep']; exact (BI.Entails.refl (P := _))

/-- The step over every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem kcell_eq_iff {a b : Dev nD} {k k' : Kd} : kcell a k = kcell b k' ↔ a = b ∧ k = k' :=
  ⟨fun h => by
    have h3 := kcell_inj (a₁ := (a, k)) (a₂ := (b, k')) h
    exact Prod.mk.inj h3, fun ⟨h, h'⟩ => by rw [h, h']⟩

/-- The devices owe a cell, all together, one payment for each of its owed duties. -/
theorem owed_total (c : Dev nD) (k : Kd) :
    ∑ d : Dev nD, O₀ d (kcell c k) () = ∑ p ∈ owedAll, if p.1 = k then amtK p.1 else 0 := by
  unfold O₀ Ow
  simp only [Finset.sum_apply, Finsupp.finset_sum_apply]
  rw [Finset.sum_comm]
  refine Finset.sum_congr rfl fun p _ => ?_
  simp only [tallyAt_apply, and_true]
  by_cases h : p.1 = k
  · subst h
    rw [if_pos rfl, Finset.sum_eq_single ((whoP p).symm c)]
    · rw [if_pos]; unfold payCell; rw [Equiv.apply_symm_apply]
    · intro d _ hd
      rw [if_neg]
      intro h'
      exact hd (by rw [(kcell_eq_iff.mp h').1, Equiv.symm_apply_apply])
    · intro h'; exact absurd (Finset.mem_univ _) h'
  · rw [if_neg h]
    refine Finset.sum_eq_zero fun d _ => if_neg fun h' => h (kcell_eq_iff.mp h').2.symm

end Cert.KP

end
-- ==== Proof.Launch2.lean ====
/-
  The launch: the credits counted, the buffers cut into their pieces and put together again, the run of the whole program.
-/
module

public import proofs.«01_k».proof.Proof.Launch1
public import proofs.«01_k».proof.Proof.Gen.KernelIdeal.Frame

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit, cell by cell -/

theorem owed_card : ∀ k : Kd, (owedAll.filter fun p => p.1 = k).card = match k with
    | none => 3 | some (0, _) => 8 | some (2, _) => 1 | some (1, _) => 0 | some (3, _) => 0 := by decide +kernel

/-- How many payments a cell is owed at launch. -/
def cnt (k : Kd) : ℕ := (owedAll.filter fun p => p.1 = k).card

theorem launch_k (c : Dev nD) (k : Kd) :
    tallyOn (kcell c k) (launchCredit (Pipeline.owing O₀) 0 (kcell c k)) = (tallyAt (kcell c k) () (cnt k * amtK k) : CellTallies nD τ sig Unit) := by
  unfold tallyAt; refine congrArg _ (Finsupp.ext fun u => ?_); cases u
  rw [Pipeline.launchCredit_owing, Finsupp.single_eq_same, owed_total, ← Finset.sum_filter, Finset.sum_congr rfl (g := fun _ => amtK k) (fun p hp => by
    rw [(Finset.mem_filter.mp hp).2]), Finset.sum_const, smul_eq_mul]
  rfl

theorem launch_all (c : Dev nD) :
    (Pipeline.launchCred O₀ c : sProp 𝕄) ⊢ bigSep Finset.univ fun k : Kd => cred (tallyAt (kcell c k) () (cnt k * amtK k)) := by
  unfold Pipeline.launchCred
  have e : (bigSep Finset.univ fun k : Kd => (cred (tallyAt (kcell c k) () (cnt k * amtK k)) : sProp 𝕄))
      = bigSep (Finset.univ.map ⟨csem, csem_inj⟩) fun sm : SemLoc sig => cred (tallyOn ((c : Thread nD τ), sm) (launchCredit (Pipeline.owing O₀) 0 ((c : Thread nD τ), sm))) := by
    rw [bigSep_map]
    exact bigSep_congr fun k _ => congrArg cred (launch_k c k).symm
  rw [e]
  exact bigSep_subset (Finset.subset_univ _)

theorem cred_crN (c : Dev nD) (k : Kd) : ∀ n : ℕ, (cred (tallyAt (kcell c k) () (n * amtK k)) : sProp 𝕄) ⊢ crN c k n
  | 0 => by unfold crN; iintro -; iempintro
  | n + 1 => by
    rw [show (n + 1) * amtK k = amtK k + n * amtK k from by rw [Nat.succ_mul, Nat.add_comm], ← tallyAt_add]
    unfold crN
    iintro H
    ihave H := (cred_add _ _).1 $$ H
    icases H with ⟨H1, H2⟩
    isplitl [H1]; · iexact H1
    iapply (cred_crN c k n); iexact H2

theorem bigSep_kd (Φ : Kd → sProp 𝕄) : bigSep Finset.univ Φ = iprop(Φ none ∗ Φ (some (0, 0)) ∗ Φ (some (0, 1)) ∗ Φ (some (0, 2)) ∗ Φ (some (1, 0)) ∗ Φ (some (1, 1))
    ∗ Φ (some (1, 2)) ∗ Φ (some (2, 0)) ∗ Φ (some (2, 1)) ∗ Φ (some (2, 2)) ∗ Φ (some (3, 0)) ∗ Φ (some (3, 1)) ∗ Φ (some (3, 2))) :=
  bigSep_univ_eq_bigSepL [none, some (0, 0), some (0, 1), some (0, 2), some (1, 0), some (1, 1), some (1, 2), some (2, 0), some (2, 1), some (2, 2),
    some (3, 0), some (3, 1), some (3, 2)] (by decide) (by decide) Φ

/-- The credits a device starts with. -/
def crd0 (c : Dev nD) : sProp 𝕄 :=
  iprop(cred (tallyAt (kcell c none) () 3) ∗ (crN c (some (0, 0)) 8 ∗ crN c (some (0, 1)) 8 ∗ crN c (some (0, 2)) 8)
    ∗ crK c (some (2, 0)) ∗ crK c (some (2, 1)) ∗ crK c (some (2, 2)))

theorem creds (c : Dev nD) : (Pipeline.launchCred O₀ c : sProp 𝕄) ⊢ crd0 c := by
  have h := launch_all (F := F) c
  have h0 : cnt none * amtK none = 3 := by rw [show cnt none = 3 from owed_card none]; rfl
  have h1 (j : Fin 3) : cnt (some (0, j)) = 8 := owed_card (some (0, j))
  have h2 (j : Fin 3) : cnt (some (2, j)) * amtK (some (2, j)) = amtK (some (2, j)) := by
    rw [show cnt (some (2, j)) = 1 from owed_card (some (2, j)), Nat.one_mul]
  rw [bigSep_kd, h0, h1, h1, h1, h2, h2, h2] at h
  unfold crd0
  iintro H
  ihave H := h $$ H
  icases H with ⟨H, A0, A1, A2, -, -, -, B0, B1, B2, -, -, -⟩
  isplitl [H]; · iexact H
  isplitl [A0 A1 A2]
  · isplitl [A0]; · iapply (cred_crN c _ 8); iexact A0
    isplitl [A1]; · iapply (cred_crN c _ 8); iexact A1
    iapply (cred_crN c _ 8); iexact A2
  isplitl [B0]; · iexact B0
  isplitl [B1]; · iexact B1
  iexact B2

/-! ## The buffers in pieces -/

/-- The sets `S k` part the whole index space. -/
abbrev Cut {I K : Type} [Fintype I] [DecidableEq I] [Fintype K] [DecidableEq K] (S : K → Finset I) : Prop :=
  Finset.univ.biUnion S = Finset.univ ∧ ∀ k ∈ (Finset.univ : Finset K), ∀ k' ∈ (Finset.univ : Finset K), k ≠ k' → Disjoint (S k) (S k')

theorem fib {I K : Type} [Fintype I] [DecidableEq I] [Fintype K] [DecidableEq K] (S : K → Finset I) (key : I → K) (h : ∀ k i, i ∈ S k ↔ key i = k) : Cut S :=
  ⟨by ext i; simp only [Finset.mem_biUnion, Finset.mem_univ, _root_.true_and, iff_true]; exact ⟨key i, (h _ _).mpr rfl⟩,
    fun k _ k' _ hne => Finset.disjoint_left.mpr fun i hi hi' => hne (((h k i).mp hi).symm.trans ((h k' i).mp hi'))⟩

theorem split_of {ℓ : Loc nD τ sig} {K : Type} [Fintype K] [DecidableEq K] (S : K → Finset (Idx ℓ))
    (h : Cut S) (f : Buf (Elt F) ℓ) :
    (ℓ ↦{fullShare} f : sProp 𝕄) = bigSep Finset.univ fun k => ℓ ↦[S k]{fullShare} f := by
  rw [← pointsTo_biUnion _ _ h.2, h.1]

theorem split_ex {ℓ : Loc nD τ sig} {K : Type} [Fintype K] [DecidableEq K] (S : K → Finset (Idx ℓ))
    (h : Cut S) :
    (iprop(∃ f, ℓ ↦{fullShare} f) : sProp 𝕄) ⊢ bigSep Finset.univ fun k => iprop(∃ f, ℓ ↦[S k]{fullShare} f) := by
  iintro ⟨%f, H⟩
  ihave H := (Entails.of_eq (split_of S h f)) $$ H
  have e : (bigSep Finset.univ fun k => (ℓ ↦[S k]{fullShare} f : sProp 𝕄)) ⊢ bigSep Finset.univ fun k => iprop(∃ f, ℓ ↦[S k]{fullShare} f) :=
    bigSep_mono fun k _ => show (ℓ ↦[S k]{fullShare} f : sProp 𝕄) ⊢ iprop(∃ f, ℓ ↦[S k]{fullShare} f) from by
      iintro H; iexists f; iexact H
  iapply e; iexact H

theorem join_ex {ℓ : Loc nD τ sig} {K : Type} [Fintype K] [DecidableEq K] [Inhabited K] (S : K → Finset (Idx ℓ))
    (h : Cut S)
    [Nonempty (Buf (Elt F) ℓ)] :
    (bigSep Finset.univ fun k => iprop(∃ f, ℓ ↦[S k]{fullShare} f)) ⊢ (iprop(∃ f, ℓ ↦{fullShare} f) : sProp 𝕄) := by
  iintro H
  ihave H := (BI.bigSep_exists_pi Finset.univ (fun (k : K) (f : Buf (Elt F) ℓ) => (ℓ ↦[S k]{fullShare} f : sProp 𝕄))) $$ H
  icases H with ⟨%fs, H⟩
  ihave H := (pointsTo_biUnion_join Finset.univ S fs (fs default) h.2) $$ H
  icases H with ⟨%g, -, H⟩
  iexists g
  rw [← h.1]
  iexact H

theorem kS_fib : Cut (fun p : Fin 2 × Fin 2 => kSet p.1 p.2) := fib (fun p : Fin 2 × Fin 2 => kSet p.1 p.2) (fun i => ((i 0, i 1) : Fin 2 × Fin 2)) fun p i => by
  simp only [kSet, Finset.mem_filter, Finset.mem_univ, _root_.true_and]
  exact ⟨fun h => Prod.ext (Fin.ext h.1) (Fin.ext h.2), fun h => by subst h; exact ⟨rfl, rfl⟩⟩
theorem vS_fib : Cut (fun p : Fin 2 × Fin 2 => vSet p.1 p.2) := fib (fun p : Fin 2 × Fin 2 => vSet p.1 p.2) (fun i => ((i 0, i 1) : Fin 2 × Fin 2)) fun p i => by
  simp only [vSet, Finset.mem_filter, Finset.mem_univ, _root_.true_and]
  exact ⟨fun h => Prod.ext (Fin.ext h.1) (Fin.ext h.2), fun h => by subst h; exact ⟨rfl, rfl⟩⟩
theorem slab_fib : Cut (slabSet) := fib slabSet (fun i => (i 0 : Fin 8)) fun p i => by
  simp only [slabSet, Finset.mem_filter, Finset.mem_univ, _root_.true_and]
  exact ⟨fun h => Fin.ext h, fun h => by subst h; rfl⟩
theorem oc_fib : Cut (fun p : Fin 3 × Fin 8 => ocSet p.1 p.2) := fib (fun p : Fin 3 × Fin 8 => ocSet p.1 p.2) (fun i => ((i 0, i 1) : Fin 3 × Fin 8)) fun p i => by
  simp only [ocSet, Finset.mem_filter, Finset.mem_univ, _root_.true_and]
  exact ⟨fun h => Prod.ext (Fin.ext h.1) (Fin.ext h.2), fun h => by subst h; exact ⟨rfl, rfl⟩⟩
theorem slot_fib : Cut (slotSet) := fib slotSet (fun i => (i 0 : Fin 3)) fun p i => by
  simp only [slotSet, Finset.mem_filter, Finset.mem_univ, _root_.true_and]
  exact ⟨fun h => Fin.ext h, fun h => by subst h; rfl⟩
theorem og_fib : Cut (ogSet) := fib ogSet (fun i => (i 0 : Fin 3)) fun p i => by
  simp only [ogSet, Finset.mem_filter, Finset.mem_univ, _root_.true_and]
  exact ⟨fun h => Fin.ext h, fun h => by subst h; rfl⟩
theorem ha_fib : Cut (haSet) := fib haSet (fun i => (i 2 : Fin 8)) fun p i => by
  simp only [haSet, Finset.mem_filter, Finset.mem_univ, _root_.true_and]
  exact ⟨fun h => Fin.ext h, fun h => by subst h; rfl⟩

theorem bigSep_f3 (Φ : Fin 3 → sProp 𝕄) : bigSep Finset.univ Φ = iprop(Φ 0 ∗ Φ 1 ∗ Φ 2) := bigSep_univ_eq_bigSepL [0, 1, 2] (by decide) (by decide) Φ
theorem bigSep_f22 (Φ : Fin 2 × Fin 2 → sProp 𝕄) : bigSep Finset.univ Φ = iprop(Φ (0, 0) ∗ Φ (0, 1) ∗ Φ (1, 0) ∗ Φ (1, 1)) :=
  bigSep_univ_eq_bigSepL [(0, 0), (0, 1), (1, 0), (1, 1)] (by decide) (by decide) Φ

theorem kbuf_split (c : Dev nD) : (iprop(∃ f, loc0 c ↦{fullShare} f) : sProp 𝕄) ⊢ iprop((∃ f, loc0 c ↦[kSet 0 0]{fullShare} f) ∗ (∃ f, loc0 c ↦[kSet 0 1]{fullShare} f)
    ∗ (∃ f, loc0 c ↦[kSet 1 0]{fullShare} f) ∗ ∃ f, loc0 c ↦[kSet 1 1]{fullShare} f) := by
  have h := split_ex (F := F) (ℓ := loc0 c) _ kS_fib
  rw [bigSep_f22] at h
  exact h
theorem kbuf_join (c : Dev nD) : iprop((∃ f, loc0 c ↦[kSet 0 0]{fullShare} f) ∗ (∃ f, loc0 c ↦[kSet 0 1]{fullShare} f)
    ∗ (∃ f, loc0 c ↦[kSet 1 0]{fullShare} f) ∗ ∃ f, loc0 c ↦[kSet 1 1]{fullShare} f) ⊢ (iprop(∃ f, loc0 c ↦{fullShare} f) : sProp 𝕄) := by
  have h := join_ex (F := F) (ℓ := loc0 c) _ kS_fib
  rw [bigSep_f22] at h
  exact h
theorem vbuf_split (c : Dev nD) : (iprop(∃ f, loc1 c ↦{fullShare} f) : sProp 𝕄) ⊢ iprop((∃ f, loc1 c ↦[vSet 0 0]{fullShare} f) ∗ (∃ f, loc1 c ↦[vSet 0 1]{fullShare} f)
    ∗ (∃ f, loc1 c ↦[vSet 1 0]{fullShare} f) ∗ ∃ f, loc1 c ↦[vSet 1 1]{fullShare} f) := by
  have h := split_ex (F := F) (ℓ := loc1 c) _ vS_fib
  rw [bigSep_f22] at h
  exact h
theorem vbuf_join (c : Dev nD) : iprop((∃ f, loc1 c ↦[vSet 0 0]{fullShare} f) ∗ (∃ f, loc1 c ↦[vSet 0 1]{fullShare} f)
    ∗ (∃ f, loc1 c ↦[vSet 1 0]{fullShare} f) ∗ ∃ f, loc1 c ↦[vSet 1 1]{fullShare} f) ⊢ (iprop(∃ f, loc1 c ↦{fullShare} f) : sProp 𝕄) := by
  have h := join_ex (F := F) (ℓ := loc1 c) _ vS_fib
  rw [bigSep_f22] at h
  exact h
theorem part_split (c : Dev nD) : (iprop(∃ f, loc2 c ↦{fullShare} f) : sProp 𝕄) ⊢ bigSep Finset.univ (slab0 (F := F) c) := split_ex (ℓ := loc2 c) _ slab_fib
theorem part_join (c : Dev nD) : (bigSep Finset.univ fun h : Fin 8 => iprop(∃ f, loc2 c ↦[slabSet h]{fullShare} f)) ⊢ (iprop(∃ f, loc2 c ↦{fullShare} f) : sProp 𝕄) :=
  join_ex (ℓ := loc2 c) _ slab_fib
theorem ocs_split (c : Dev nD) : (iprop(∃ f, loc4 c ↦{fullShare} f) : sProp 𝕄) ⊢ iprop((bigSep Finset.univ fun h : Fin 8 => iprop(∃ f, ocP c 0 h f))
    ∗ (bigSep Finset.univ fun h : Fin 8 => iprop(∃ f, ocP c 1 h f)) ∗ bigSep Finset.univ fun h : Fin 8 => iprop(∃ f, ocP c 2 h f)) := by
  have h := split_ex (F := F) (ℓ := loc4 c) _ oc_fib
  rw [bigSep_univ_prod, bigSep_f3] at h
  exact h
theorem ocs_join (c : Dev nD) : iprop((∃ f, loc4 c ↦[slotSet 0]{fullShare} f) ∗ (∃ f, loc4 c ↦[slotSet 1]{fullShare} f) ∗ ∃ f, loc4 c ↦[slotSet 2]{fullShare} f)
    ⊢ (iprop(∃ f, loc4 c ↦{fullShare} f) : sProp 𝕄) := by
  have h := join_ex (F := F) (ℓ := loc4 c) _ slot_fib
  rw [bigSep_f3] at h
  exact h
theorem ogs_split (c : Dev nD) : (iprop(∃ f, loc6 c ↦{fullShare} f) : sProp 𝕄) ⊢ iprop((∃ f, ogP c 0 f) ∗ (∃ f, ogP c 1 f) ∗ ∃ f, ogP c 2 f) := by
  have h := split_ex (F := F) (ℓ := loc6 c) _ og_fib
  rw [bigSep_f3] at h
  exact h
theorem ogs_join (c : Dev nD) : iprop((∃ f, ogP c 0 f) ∗ (∃ f, ogP c 1 f) ∗ ∃ f, ogP c 2 f) ⊢ (iprop(∃ f, loc6 c ↦{fullShare} f) : sProp 𝕄) := by
  have h := join_ex (F := F) (ℓ := loc6 c) _ og_fib
  rw [bigSep_f3] at h
  exact h
theorem kvs_eq (c : Dev nD) : (iprop(((c : Thread nD τ).loc main_arg2 ↦{fullShare} Ka m c) ∗ ((c : Thread nD τ).loc main_arg3 ↦{fullShare} Va m c)) : sProp 𝕄) = kvs m c Finset.univ := by
  unfold kvs kv kaP vaP
  rw [bigSep_sep', split_of (ℓ := (c : Thread nD τ).loc main_arg2) _ ha_fib, split_of (ℓ := (c : Thread nD τ).loc main_arg3) _ ha_fib]

/-- The partials' quarters, back from where they went, are the whole buffer. -/
theorem slab_whole (c : Dev nD) (h : Fin 8) :
    (iprop(opP c h c (OP m c) ∗ opP c h (tgt c 0) (OP m c) ∗ opP c h (tgt c 1) (OP m c) ∗ opP c h (tgt c 2) (OP m c)) : sProp 𝕄)
      ⊢ iprop(∃ f, loc2 c ↦[slabSet h]{fullShare} f) := by
  iintro H
  ihave H := (Entails.of_eq (slab_quarters c h (OP m c)).symm) $$ H
  iexists _
  iexact H

end Cert.KP

end
-- ==== Proof.Launch3.lean ====
/-
  The launch, its last part: what a device starts with and ends with, and the run of the whole program.
-/
module

public import proofs.«01_k».proof.Proof.Launch2
public import proofs.«01_k».proof.Proof.Gen.KernelIdeal.Frame
public import Idealize.ShloMosaic.Lib.Pipeline.CollectiveSegs

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a device brings to its kernel beside the scoped buffers. -/
def start (c : Dev nD) : sProp 𝕄 :=
  iprop(levAts L lv ∗ G' m c ∗ crd0 c ∗ kvs m c Finset.univ)

theorem rest_two (c : Dev nD) : (Pipeline.unscopedRestP Pipeline.Prefetch.none cfg0.spec c (fun b => m ((c : Thread nD τ).loc b)) : sProp 𝕄)
    ⊢ iprop(((c : Thread nD τ).loc main_arg2 ↦{fullShare} Ka m c) ∗ ((c : Thread nD τ).loc main_arg3 ↦{fullShare} Va m c)) :=
  Entails.of_eq (Pipeline.unscopedRestP_eq_of_list spec0 c Pipeline.Prefetch.none (fun b => m ((c : Thread nD τ).loc b)) [main_arg2, main_arg3]
    (by decide +kernel) (by decide +kernel))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> (iprop(start m c ∗ emp) : sProp 𝕄) := by
  iintro ⟨Hu, Hlev, Hcr, -, HG⟩
  ihave Hu := (rest_two m c) $$ Hu
  icases Hu with ⟨H2, H3⟩
  ihave Hc := (creds (F := F) c) $$ Hcr
  imodintro
  unfold start
  isplitl
  · isplitl [Hlev]; · iexact Hlev
    isplitl [HG]; · iexact HG
    isplitl [Hc]; · iexact Hc
    iapply (Entails.of_eq (kvs_eq m c))
    isplitl [H2]; · iexact H2
    iexact H3
  · iempintro

/-- The payment rights, cell by cell. -/
theorem payToks_list (c : Dev nD) : (payToks c : sProp 𝕄) = iprop((bigSep Finset.univ fun h : Fin 8 => ptok c (none, h))
    ∗ (bigSep Finset.univ fun h : Fin 8 => ptok c (some (0, 0), h)) ∗ (bigSep Finset.univ fun h : Fin 8 => ptok c (some (0, 1), h))
    ∗ (bigSep Finset.univ fun h : Fin 8 => ptok c (some (0, 2), h)) ∗ (bigSep Finset.univ fun h : Fin 8 => ptok c (some (1, 0), h))
    ∗ (bigSep Finset.univ fun h : Fin 8 => ptok c (some (1, 1), h)) ∗ (bigSep Finset.univ fun h : Fin 8 => ptok c (some (1, 2), h))
    ∗ (bigSep Finset.univ fun h : Fin 8 => ptok c (some (2, 0), h)) ∗ (bigSep Finset.univ fun h : Fin 8 => ptok c (some (2, 1), h))
    ∗ (bigSep Finset.univ fun h : Fin 8 => ptok c (some (2, 2), h)) ∗ (bigSep Finset.univ fun h : Fin 8 => ptok c (some (3, 0), h))
    ∗ (bigSep Finset.univ fun h : Fin 8 => ptok c (some (3, 1), h)) ∗ (bigSep Finset.univ fun h : Fin 8 => ptok c (some (3, 2), h))) := by
  unfold payToks
  rw [bigSep_univ_prod, bigSep_kd]

/-- Each head's partials slab with its six payment rights. -/
theorem toks0_intro (c : Dev nD) : (iprop(bigSep Finset.univ (slab0 (F := F) c)
    ∗ ((bigSep Finset.univ fun h : Fin 8 => ptok c (some (1, 0), h)) ∗ bigSep Finset.univ fun h : Fin 8 => ptok c (some (0, 0), h))
    ∗ ((bigSep Finset.univ fun h : Fin 8 => ptok c (some (1, 1), h)) ∗ bigSep Finset.univ fun h : Fin 8 => ptok c (some (0, 1), h))
    ∗ ((bigSep Finset.univ fun h : Fin 8 => ptok c (some (1, 2), h)) ∗ bigSep Finset.univ fun h : Fin 8 => ptok c (some (0, 2), h))) : sProp 𝕄)
    ⊢ bigSep Finset.univ (toks0 (F := F) c) := by
  rw [← bigSep_sep', ← bigSep_sep', ← bigSep_sep', ← bigSep_sep', ← bigSep_sep', ← bigSep_sep']
  exact Entails.of_eq (bigSep_congr fun h _ => rfl)

theorem tok_zero (c : Dev nD) (k : Kd) : (bigSep Finset.univ fun h : Fin 8 => ptok c (k, h) : sProp 𝕄) ⊢ ptok c (k, 0) :=
  bigSep_elim (Finset.mem_univ (0 : Fin 8))

theorem bigSep_f8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

set_option maxHeartbeats 1000000 in
theorem ini_intro (c : Dev nD) : iprop(start m c ∗ Pipeline.scopedRest cfg0.spec c) ⊢ (iprop(Rec m ∗ levAts L lv ∗ ini m c) : sProp 𝕄) := by
  rw [scopedRest0_eq]
  unfold start G' crd0
  iintro ⟨⟨Hlev, ⟨HR, Hat, Htok, Hloc⟩, ⟨HcB, ⟨A0, A1, A2⟩, B0, B1, B2⟩, Hkv⟩, S0, S1, S2, S3, S4, S5, S6⟩
  isplitl [HR]; · iexact HR
  isplitl [Hlev]; · iexact Hlev
  ihave Hat := (Entails.of_eq (bigSep_kd _)) $$ Hat
  icases Hat with ⟨pB, p00, p01, p02, p10, p11, p12, p20, p21, p22, p30, p31, p32⟩
  ihave Htok := (Entails.of_eq (payToks_list c)) $$ Htok
  icases Htok with ⟨tB, t00, t01, t02, t10, t11, t12, t20, t21, t22, t30, t31, t32⟩
  ihave tB := (Entails.of_eq (bigSep_f8 _)) $$ tB
  icases tB with ⟨tB0, tB1, tB2, -, -, -, -, -⟩
  ihave Hloc := (Entails.of_eq (locS_eq c)) $$ Hloc
  icases Hloc with ⟨k00, k01, k10, k11, v00, v01, v10, v11, o⟩
  ihave S0 := (kbuf_split c) $$ [S0]
  · iexact S0
  icases S0 with ⟨a00, a01, a10, a11⟩
  ihave S1 := (vbuf_split c) $$ [S1]
  · iexact S1
  icases S1 with ⟨b00, b01, b10, b11⟩
  ihave S2 := (part_split c) $$ [S2]
  · iexact S2
  ihave S4 := (ocs_split c) $$ [S4]
  · iexact S4
  icases S4 with ⟨d0, d1, d2⟩
  ihave S6 := (ogs_split c) $$ [S6]
  · iexact S6
  icases S6 with ⟨g0, g1, g2⟩
  unfold ini
  isplitl [d0 d1 d2 g0 g1 g2 tB0 tB1 tB2 HcB pB]
  · unfold barPre landP
    isplitl [d0 g0 tB0]
    · isplitl [d0 g0]
      · isplitl [d0]; · iexact d0
        iexact g0
      · iexact tB0
    isplitl [d1 g1 tB1]
    · isplitl [d1 g1]
      · isplitl [d1]; · iexact d1
        iexact g1
      · iexact tB1
    isplitl [d2 g2 tB2]
    · isplitl [d2 g2]
      · isplitl [d2]; · iexact d2
        iexact g2
      · iexact tB2
    isplitl [HcB]; · iexact HcB
    iexact pB
  isplitl [v00 v01 v10 v11 b00 b01 b10 b11]
  · unfold vPre
    isplitl [v00 b00]; · isplitl [v00] <;> iassumption
    isplitl [v01 b01]; · isplitl [v01] <;> iassumption
    isplitl [v10 b10]; · isplitl [v10] <;> iassumption
    isplitl [v11] <;> iassumption
  isplitl [k00 k01 k10 k11 a00 a01 a10 a11]
  · unfold kFree
    isplitl [k00 a00]; · isplitl [k00] <;> iassumption
    isplitl [k01 a01]; · isplitl [k01] <;> iassumption
    isplitl [k10 a10]; · isplitl [k10] <;> iassumption
    isplitl [k11] <;> iassumption
  isplitl [Hkv]; · iexact Hkv
  isplitl [S2 t00 t01 t02 t10 t11 t12]
  · iapply (toks0_intro c)
    isplitl [S2]; · iexact S2
    isplitl [t10 t00]; · isplitl [t10] <;> iassumption
    isplitl [t11 t01]; · isplitl [t11] <;> iassumption
    isplitl [t12] <;> iassumption
  isplitl [o S3 S5]
  · unfold own0
    isplitl [o]; · iexact o
    isplitl [S3]; · iexact S3
    iexact S5
  isplitl [A0 p00 p10 t30 t20 B0 p20 p30]
  · unfold ep0
    isplitl [A0 p00 p10]
    · isplitl [A0]; · iexact A0
      isplitl [p00]; · iapply (WX_start m c _); iexact p00
      iapply (WX_start m c _); iexact p10
    isplitl [t30]; · iapply (tok_zero c _); iexact t30
    isplitl [t20]; · iapply (tok_zero c _); iexact t20
    isplitl [B0]; · iexact B0
    isplitl [p20]; · iapply (WX_start m c _); iexact p20
    iapply (WX_start m c _); iexact p30
  isplitl [A1 p01 p11 t31 t21 B1 p21 p31]
  · unfold ep0
    isplitl [A1 p01 p11]
    · isplitl [A1]; · iexact A1
      isplitl [p01]; · iapply (WX_start m c _); iexact p01
      iapply (WX_start m c _); iexact p11
    isplitl [t31]; · iapply (tok_zero c _); iexact t31
    isplitl [t21]; · iapply (tok_zero c _); iexact t21
    isplitl [B1]; · iexact B1
    isplitl [p21]; · iapply (WX_start m c _); iexact p21
    iapply (WX_start m c _); iexact p31
  unfold ep0
  isplitl [A2 p02 p12]
  · isplitl [A2]; · iexact A2
    isplitl [p02]; · iapply (WX_start m c _); iexact p02
    iapply (WX_start m c _); iexact p12
  isplitl [t32]; · iapply (tok_zero c _); iexact t32
  isplitl [t22]; · iapply (tok_zero c _); iexact t22
  isplitl [B2]; · iexact B2
  isplitl [p22]; · iapply (WX_start m c _); iexact p22
  iapply (WX_start m c _); iexact p32

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(Rec m ∗ levAts L lv ∗ ini m c) from rfl]
  iintro ⟨Hs, -, Hr⟩
  iapply (ini_intro m c)
  isplitl [Hs] <;> iassumption

/-- What is read off at the end: the barrier's counter, and the two arguments the kernel fetches by its own copies. -/
def left (c : Dev nD) : sProp 𝕄 :=
  iprop(unscopedSems0 c ∗ ((c : Thread nD τ).loc main_arg2 ↦{fullShare} Ka m c) ∗ ((c : Thread nD τ).loc main_arg3 ↦{fullShare} Va m c))

theorem parts_back (c : Dev nD) : (iprop(dns m c Finset.univ ∗ (bigSep Finset.univ fun h : Fin 8 => opP c h (tgt c 0) (OP m c))
    ∗ (bigSep Finset.univ fun h : Fin 8 => opP c h (tgt c 1) (OP m c)) ∗ bigSep Finset.univ fun h : Fin 8 => opP c h (tgt c 2) (OP m c)) : sProp 𝕄)
    ⊢ iprop(∃ f, loc2 c ↦{fullShare} f) := by
  unfold dns
  rw [← bigSep_sep', ← bigSep_sep', ← bigSep_sep']
  exact BI.Entails.trans (bigSep_mono fun h _ => slab_whole m c h) (part_join c)

theorem sems12 (Φ : Fin 4 × Fin 3 → sProp 𝕄) : bigSep Finset.univ Φ = iprop(Φ (0, 0) ∗ Φ (0, 1) ∗ Φ (0, 2) ∗ Φ (1, 0) ∗ Φ (1, 1) ∗ Φ (1, 2)
    ∗ Φ (2, 0) ∗ Φ (2, 1) ∗ Φ (2, 2) ∗ Φ (3, 0) ∗ Φ (3, 1) ∗ Φ (3, 2)) :=
  bigSep_univ_eq_bigSepL [(0, 0), (0, 1), (0, 2), (1, 0), (1, 1), (1, 2), (2, 0), (2, 1), (2, 2), (3, 0), (3, 1), (3, 2)] (by decide) (by decide) Φ

set_option maxHeartbeats 1000000 in
theorem fin_exit (c : Dev nD) : (iprop(Rec m ∗ levAts L lv ∗ fin m c) : sProp 𝕄)
    ⊢ iprop(left m c ∗ Pipeline.ownSems0 osem c ∗ Pipeline.scopedRest cfg0.spec c) := by
  rw [scopedRest0_eq, ownSems0_eq, locS_eq, sems12]
  unfold fin left slots0 kFree vFree own0 oPost gPost
  rw [unscopedSems0_eq]
  iintro ⟨-, -, HB, ⟨⟨⟨k00, a00⟩, k01, a01⟩, ⟨v00, ⟨%f00, -, b00⟩⟩, v01, ⟨%f01, -, b01⟩⟩,
    ⟨⟨⟨k10, a10⟩, k11, a11⟩, ⟨v10, ⟨%f10, -, b10⟩⟩, v11, ⟨%f11, -, b11⟩⟩, Hkv, Hd, ⟨o, S3, S5⟩,
    ⟨⟨z00, l0, z10, q0⟩, ⟨z01, l1, z11, q1⟩, z02, l2, z12, q2⟩, ⟨z20, g0, z30⟩, ⟨z21, g1, z31⟩, z22, g2, z32⟩
  isplitl [HB Hkv]
  · isplitl [HB]; · iexact HB
    iapply (Entails.of_eq (kvs_eq m c).symm); iexact Hkv
  isplitl [k00 k01 k10 k11 v00 v01 v10 v11 o z00 z01 z02 z10 z11 z12 z20 z21 z22 z30 z31 z32]
  · isplitl [k00 k01 k10 k11 v00 v01 v10 v11 o]
    · isplitl [k00]; · iexact k00
      isplitl [k01]; · iexact k01
      isplitl [k10]; · iexact k10
      isplitl [k11]; · iexact k11
      isplitl [v00]; · iexact v00
      isplitl [v01]; · iexact v01
      isplitl [v10]; · iexact v10
      isplitl [v11]; · iexact v11
      iexact o
    isplitl [z00]; · iexact z00
    isplitl [z01]; · iexact z01
    isplitl [z02]; · iexact z02
    isplitl [z10]; · iexact z10
    isplitl [z11]; · iexact z11
    isplitl [z12]; · iexact z12
    isplitl [z20]; · iexact z20
    isplitl [z21]; · iexact z21
    isplitl [z22]; · iexact z22
    isplitl [z30]; · iexact z30
    isplitl [z31]; · iexact z31
    iexact z32
  isplitl [a00 a01 a10 a11]
  · iapply (kbuf_join c)
    isplitl [a00]; · iexact a00
    isplitl [a01]; · iexact a01
    isplitl [a10]; · iexact a10
    iexact a11
  isplitl [b00 b01 b10 b11]
  · iapply (vbuf_join c)
    isplitl [b00]; · iexists f00; iexact b00
    isplitl [b01]; · iexists f01; iexact b01
    isplitl [b10]; · iexists f10; iexact b10
    iexists f11; iexact b11
  isplitl [Hd q0 q1 q2]
  · iapply (parts_back m c)
    isplitl [Hd]; · iexact Hd
    isplitl [q0]; · iexact q0
    isplitl [q1]; · iexact q1
    iexact q2
  isplitl [S3]; · iexact S3
  isplitl [l0 l1 l2]
  · iapply (ocs_join c)
    isplitl [l0]; · iexact l0
    isplitl [l1]; · iexact l1
    iexact l2
  isplitl [S5]; · iexact S5
  iapply (ogs_join c)
  isplitl [g0]; · iexists _; iexact g0
  isplitl [g1]; · iexists _; iexact g1
  iexists _; iexact g2

theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = iprop(Rec m ∗ levAts L lv ∗ fin m c) from rfl]
  exact fin_exit m c

theorem lvK_pos : ∀ p ∈ owedAll, 0 < lvK p.1 := by decide +kernel
theorem owedN_sub : ∀ n < 5, owedN n ⊆ owedAll := by decide +kernel

theorem waits (c : Dev nD) : (levAts L lv : sProp 𝕄) ⊢ Pipeline.cellsWaits cfgs (dats m ρ) () 0 c :=
  Pipeline.cellsWaits_intro cfgs (dats m ρ) () 0 c fun w s t =>
    mayWait_of c _ _ 0 (Nat.le_of_eq (lv_other c _ (by fin_cases w <;> fin_cases s <;> decide +kernel) ())) fun p hp =>
      lvK_pos p (owedN_sub _ (lt_of_lt_of_eq t.isLt (congrArg (· + 1) N_0)) hp)

theorem share_eq (c : Dev nD) (w : Fin cfg0.W) : (dats m ρ 0 c).share w = fullShare := by unfold Dat.share; split <;> rfl

/-! ## The run -/

def finalA (c : Dev nD) (w : Fin cfg0.W) : Buf (Elt F) ((cfg0.win w).arr.view.loc (c : Thread nD τ)) := (dats m ρ 0 c).arrAt w cfg0.N

/-- Every window's array ends as computed, and the two arguments the kernel fetches itself end as they were. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = Ka m c ∧ r.2.mem ((c : Thread nD τ).loc main_arg3) = Va m c

/-- What the last resources say of the last state. -/
def QYs (c : Dev nD) (s : MemSt nD τ sig (Elt F)) : Prop :=
  (∀ sm : SemLoc sig, sm.isScoped .tc = false → s.sem ((c.tc : Thread nD τ), sm) = 0)
    ∧ s.mem ((c : Thread nD τ).loc main_arg2) = Ka m c ∧ s.mem ((c : Thread nD τ).loc main_arg3) = Va m c

theorem left_read (c : Dev nD) (s' : Phys nD τ sig (Elt F)) :
    (iprop(left m c ∗ SI s') : sProp 𝕄) ⊢ |={Set.univ}=> iprop(⌜QYs m c s'.mem⌝ ∗ SI s') := by
  unfold left
  iintro ⟨⟨Hu, H2, H3⟩, HSI⟩
  icombine HSI H2 gives %h2
  icombine HSI H3 gives %h3
  imod (Pipeline.unscopedSems0_read (X := unscopedSems0 c) (c := c) fupd_intro s') $$ [Hu HSI] with ⟨%hs, HSI⟩
  · isplitl [Hu] <;> iassumption
  imodintro
  isplitr
  · ipureintro
    exact ⟨hs, Buf.eq_of_forall_mem_univ h2, Buf.eq_of_forall_mem_univ h3⟩
  · iexact HSI

set_option maxRecDepth 8000 in
/-- At the compiled mesh of four devices, for any float values, from any memory with zero counters: every weakly fair
    execution of @main terminates, every array ends at the computed contents, and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun c => Ow_empty c)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (show BI.own (((Emb.inl : Emb UB (UB × Counters)).trans embR) (initOf ringCells ringToks)) ⊢ (|==> bigSep Finset.univ (G m) : sProp 𝕄) from fund_ring m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m ρ) (hout := phi1_exit m ρ)
    (QY := QYs m)
    (hY := fun c s' => by
      iintro ⟨Hu, -, HSI⟩
      iapply (left_read m c s')
      isplitl [Hu] <;> iassumption)
    (hQ := fun _ h hs => ⟨fun c => ⟨fun w => (h c).1 w, (h c).2.2.2.1, (h c).2.2.2.2⟩, sem_eq_zero hs fun c => (h c).2.2.1⟩)

end Cert.KP

end
-- ==== Proof.Frames.lean ====
/-
  The frame claims, from the one run of the program over any float values.
-/
module

public import proofs.«01_k».proof.Proof.Launch3
public import proofs.«01_k».proof.Defs
public import proofs.«01_k».proof.Proof.Gen.Kernel
public import proofs.«01_k».proof.Proof.Gen.ReferenceIdeal.Run

@[expose] public section

noncomputable section

namespace Cert.KP

open Idealize.ShloMosaic Idealize.SL.Sem
open Cert.KernelIdeal Cert.KernelIdeal.Gen

variable {F : FTy → Type} [FloatOps F]
variable (m : (ℓ : Loc nD τ sig) → Buf (Elt F) ℓ) (ρ : Dev nD → PrngReg)

theorem QC_args (r : PUnit × MemSt nD τ sig (Elt F)) (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans ((dats m ρ 0 c).arrAt_in (0 : Fin 4) rfl _), ((h c).1 1).trans ((dats m ρ 0 c).arrAt_in (1 : Fin 4) rfl _),
    (h c).2.1, (h c).2.2, ((h c).1 2).trans ((dats m ρ 0 c).arrAt_in (2 : Fin 4) rfl _)⟩

/-- Over any float values: the arguments end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => QC_args m ρ r h.1 c, h.2⟩) (run_main m ρ)

end Cert.KP

namespace Cert

open Idealize.ShloMosaic Idealize.SL.Sem

attribute [local instance] Cert.Kernel.Gen.facts Cert.KernelIdeal.Gen.facts Cert.ReferenceIdeal.Gen.facts

theorem frame_kernelIdeal : Cert.quiescent_KernelIdeal := fun m ρ _ => Cert.KP.frame_any m ρ

/-- The two printed texts are one: the same body table. -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl
  | ⟨n + 1, h⟩, _ => exact absurd h (Nat.not_lt.2 (Nat.le_add_left _ _))

theorem defs_eq {F : FTy → Type} [FloatOps F] : Cert.Kernel.defs (F := F) = Cert.KernelIdeal.defs (F := F) :=
  congrArg (Pipeline.defs Cert.KernelIdeal.pcfgs) bodies_eq

theorem frame_kernel : Cert.quiescent_Kernel := fun m ρ _ => by
  rw [defs_eq]
  exact Cert.KP.frame_any (F := Bits) m ρ

theorem frame_referenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

end Cert

end
-- ==== Proof.Softmax.lean ====
/-
  Softmax in pieces, over the extended reals: partial numerators and denominators taken against partial maxima, rescaled
  to the common maximum and added, are the whole ones. No value need be finite.
-/
module

public import proofs.«01_k».proof.Proof.Base
public import Idealize.ShloMosaic.PureOps.Ideal.Laws
public import Idealize.ShloMosaic.Lib.IdealHost

@[expose] public section

noncomputable section

namespace Cert.KP

open Idealize.ShloMosaic
open Cert.KernelIdeal (nD)
open scoped BigOperators

theorem exp_coe (r : ℝ) : Ideal.exp (r : EReal) = (Real.exp r : EReal) := rfl
theorem exp_bot : Ideal.exp ⊥ = 0 := rfl

/-- The exponential of a value less a bound on it is a nonnegative real. -/
theorem exp_real {s M : EReal} (h : s ≤ M) : ∃ r : ℝ, 0 ≤ r ∧ Ideal.exp (s - M) = (r : EReal) := by
  induction M using EReal.rec with
  | bot => rw [le_bot_iff.mp h]; exact ⟨0, le_rfl, by simp [exp_bot]⟩
  | top => exact ⟨0, le_rfl, by simp [sub_eq_add_neg, exp_bot]⟩
  | coe b =>
    induction s using EReal.rec with
    | bot => exact ⟨0, le_rfl, by simp [sub_eq_add_neg, exp_bot]⟩
    | top => exact absurd h (by simp)
    | coe a => exact ⟨Real.exp (a - b), (Real.exp_pos _).le, by rw [← EReal.coe_sub, exp_coe]⟩

/-- Rescaling from a partial bound to a larger one. -/
theorem exp_split {s m M : EReal} (h1 : s ≤ m) (h2 : m ≤ M) : Ideal.exp (s - m) * Ideal.exp (m - M) = Ideal.exp (s - M) := by
  induction M using EReal.rec with
  | bot => have hm := le_bot_iff.mp h2; subst hm; have hs := le_bot_iff.mp h1; subst hs; simp [exp_bot]
  | top => simp [sub_eq_add_neg, exp_bot]
  | coe c =>
    induction m using EReal.rec with
    | bot => have hs := le_bot_iff.mp h1; subst hs; simp [sub_eq_add_neg, exp_bot]
    | top => exact absurd h2 (by simp)
    | coe b =>
      induction s using EReal.rec with
      | bot => simp [sub_eq_add_neg, exp_bot]
      | top => exact absurd h1 (by simp)
      | coe a =>
        rw [← EReal.coe_sub, ← EReal.coe_sub, ← EReal.coe_sub, exp_coe, exp_coe, exp_coe, ← EReal.coe_mul, ← Real.exp_add]
        congr 2; ring

/-- A nonnegative real factor goes into a sum. -/
theorem sum_mul_real {ι : Type} (S : Finset ι) (f : ι → EReal) {r : ℝ} (hr : 0 ≤ r) : (∑ i ∈ S, f i) * (r : EReal) = ∑ i ∈ S, f i * (r : EReal) := by
  classical
  induction S using Finset.induction_on with
  | empty => simp
  | insert i S hi ih =>
    rw [Finset.sum_insert hi, Finset.sum_insert hi, EReal.right_distrib_of_nonneg_of_ne_top (EReal.coe_nonneg.mpr hr) (EReal.coe_ne_top r), ih]

/-- One piece, rescaled. -/
theorem piece {κ : Type} [Fintype κ] (s v : κ → EReal) {M : EReal} (hM : Finset.univ.sup s ≤ M) :
    (∑ k, v k * Ideal.exp (s k - Finset.univ.sup s)) * Ideal.exp (Finset.univ.sup s - M) = ∑ k, v k * Ideal.exp (s k - M) := by
  obtain ⟨r, hr, e⟩ := exp_real hM
  rw [e, sum_mul_real _ _ hr, ← e]
  exact Finset.sum_congr rfl fun k _ => by rw [mul_assoc, exp_split (Finset.le_sup (Finset.mem_univ k)) hM]

/-- The devices in the order in which device `c` meets them: itself, then its slots' senders. -/
theorem sum_devs (c : Dev nD) (f : Dev nD → EReal) : f c + f (src c 0) + f (src c 1) + f (src c 2) = ∑ p, f p := by
  rw [show (∑ p : Dev nD, f p) = f 0 + f 1 + f 2 + f 3 from Fin.sum_univ_four f]
  fin_cases c
  · rfl
  · show f 1 + f 2 + f 3 + f 0 = _; ac_rfl
  · show f 2 + f 3 + f 0 + f 1 = _; ac_rfl
  · show f 3 + f 0 + f 1 + f 2 = _; ac_rfl

theorem max_devs (c : Dev nD) (f : Dev nD → EReal) : max (max (f c) (f (src c 0))) (max (f (src c 1)) (f (src c 2))) = Finset.univ.sup f := by
  have e : (Finset.univ : Finset (Dev nD)).sup f = max (max (f 0) (f 1)) (max (f 2) (f 3)) := by
    rw [show (Finset.univ : Finset (Dev nD)) = {0, 1, 2, 3} from by decide]
    simp only [Finset.sup_insert, Finset.sup_singleton]
    show max _ (max _ (max _ _)) = _
    ac_rfl
  rw [e]
  fin_cases c
  · rfl
  · show max (max (f 1) (f 2)) (max (f 3) (f 0)) = _; ac_rfl
  · show max (max (f 2) (f 3)) (max (f 0) (f 1)) = _; ac_rfl
  · show max (max (f 3) (f 0)) (max (f 1) (f 2)) = _; ac_rfl

/-- The keys of all devices, device by device. -/
def keys : Dev nD × Fin 2048 ≃ Fin 8192 := finProdFinEquiv (m := 4) (n := 2048)

theorem keys_val (p : Dev nD) (k : Fin 2048) : (keys (p, k)).val = 2048 * p.val + k.val := by
  show k.val + 2048 * p.val = _; omega

theorem sup_keys (S : Fin 8192 → EReal) : (Finset.univ.sup fun p : Dev nD => Finset.univ.sup fun k : Fin 2048 => S (keys (p, k))) = Finset.univ.sup S := by
  rw [← Finset.univ_map_equiv_to_embedding keys, Finset.sup_map, ← Finset.univ_product_univ, Finset.sup_product_left]
  rfl

theorem sum_keys (S : Fin 8192 → EReal) : (∑ p : Dev nD, ∑ k : Fin 2048, S (keys (p, k))) = ∑ j, S j := by
  rw [← Equiv.sum_comp keys, Fintype.sum_prod_type]

/-- **The whole softmax from the four devices' partials**, in the order in which device `c` adds them. -/
theorem merged (c : Dev nD) (S V : Fin 8192 → EReal) (mx : Dev nD → EReal) (hm : ∀ p, mx p = Finset.univ.sup fun k : Fin 2048 => S (keys (p, k)))
    (o : Dev nD → EReal) (ho : ∀ p, o p = ∑ k : Fin 2048, V (keys (p, k)) * Ideal.exp (S (keys (p, k)) - mx p)) {M : EReal}
    (hM : M = max (max (mx c) (mx (src c 0))) (max (mx (src c 1)) (mx (src c 2)))) :
    o c * Ideal.exp (mx c - M) + o (src c 0) * Ideal.exp (mx (src c 0) - M) + o (src c 1) * Ideal.exp (mx (src c 1) - M)
      + o (src c 2) * Ideal.exp (mx (src c 2) - M) = ∑ j, V j * Ideal.exp (S j - Finset.univ.sup S) := by
  have hMS : M = Finset.univ.sup S := by
    rw [hM, max_devs c mx, ← sup_keys S]
    exact Finset.sup_congr rfl fun p _ => hm p
  rw [sum_devs c fun p => o p * Ideal.exp (mx p - M), ← sum_keys fun j => V j * Ideal.exp (S j - Finset.univ.sup S)]
  refine Finset.sum_congr rfl fun p _ => ?_
  rw [ho p, hm p, ← hMS]
  refine piece (fun k => S (keys (p, k))) (fun k => V (keys (p, k))) ?_
  rw [← hm p, hM, max_devs c mx]
  exact Finset.le_sup (Finset.mem_univ p)

end Cert.KP

end
-- ==== Proof.Attn.lean ====
/-
  What both programs compute, over the extended reals: attention of the queries `x · wq` over all keys, head by head, and
  its projection by `wo`. Then the reference's term read at an index.
-/
module

public import proofs.«01_k».proof.Proof.Softmax
public import proofs.«01_k».proof.Proof.Gen.ReferenceIdeal.Run
public import Idealize.ShloMosaic.Lib.Pointwise

@[expose] public section

set_option maxRecDepth 16384

noncomputable section

namespace Cert.KP

open Idealize.ShloMosaic
open scoped BigOperators

/-- Column `d` of head `h` among the 1024. -/
def hcol (h : Fin 8) (d : Fin 128) : Fin 1024 := ⟨128 * h.val + d.val, by have := h.isLt; have := d.isLt; omega⟩
def headOf (y : Fin 1024) : Fin 8 := ⟨y.val / 128, by have := y.isLt; omega⟩
def laneOf (y : Fin 1024) : Fin 128 := ⟨y.val % 128, Nat.mod_lt _ (by decide)⟩

theorem headOf_hcol (h : Fin 8) (d : Fin 128) : headOf (hcol h d) = h := Fin.ext (by show (128 * h.val + d.val) / 128 = h.val; have := d.isLt; omega)
theorem laneOf_hcol (h : Fin 8) (d : Fin 128) : laneOf (hcol h d) = d := Fin.ext (by show (128 * h.val + d.val) % 128 = d.val; have := d.isLt; omega)

/-- A sum over the columns, head by head. -/
theorem sum_heads (f : Fin 1024 → EReal) : (∑ y, f y) = ∑ h : Fin 8, ∑ d : Fin 128, f (hcol h d) := by
  rw [← Equiv.sum_comp (finProdFinEquiv (m := 8) (n := 128)) f, Fintype.sum_prod_type]
  refine Finset.sum_congr rfl fun h _ => Finset.sum_congr rfl fun d _ => congrArg f (Fin.ext ?_)
  show d.val + 128 * h.val = 128 * h.val + d.val
  omega

/-- The score scale both programs write. -/
def scale : EReal := Ideal.ofBits .f32 0x3DB504F3#32

theorem scale_real : ∃ r : ℝ, 0 ≤ r ∧ scale = (r : EReal) := by
  refine ⟨_, ?_, by simp [scale, Ideal.ofBits, Ideal.ieee, -EReal.coe_mul]; rfl⟩
  norm_num

theorem negInf_f32 : Ideal.ofBits .f32 0xFF800000#32 = ⊥ := by simp [Ideal.ofBits, Ideal.ieee]
theorem negInf_bf16 : Ideal.ofBits .bf16 0xFF80#16 = ⊥ := by simp [Ideal.ofBits, Ideal.ieee]

section
variable (x : Fin 512 → Fin 1024 → EReal) (wq wo : Fin 1024 → Fin 1024 → EReal) (k v : Fin 8192 → Fin 8 → Fin 128 → EReal)

def score (h : Fin 8) (q : Fin 512) (j : Fin 8192) : EReal := (∑ d, (∑ e, x q e * wq e (hcol h d)) * k j h d) * scale

def att (h : Fin 8) (q : Fin 512) (d : Fin 128) : EReal :=
  Ideal.div (∑ j, v j h d * Ideal.exp (score x wq k h q j - Finset.univ.sup (score x wq k h q)))
    (∑ j, Ideal.exp (score x wq k h q j - Finset.univ.sup (score x wq k h q)))

def outAt (q : Fin 512) (n : Fin 1024) : EReal := ∑ y : Fin 1024, att x wq k v (headOf y) q (laneOf y) * wo y n

/-- The scale may be put on the queries first. -/
theorem score_scaled (h : Fin 8) (q : Fin 512) (j : Fin 8192) :
    (∑ d, k j h d * ((∑ e, x q e * wq e (hcol h d)) * scale)) = score x wq k h q j := by
  unfold score
  obtain ⟨r, hr, e⟩ := scale_real
  rw [e, sum_mul_real _ _ hr]
  exact Finset.sum_congr rfl fun d _ => by ac_rfl

end

section Ref
open Cert.ReferenceIdeal Cert.ReferenceIdeal.Gen

/-- The reference's scores, maxima, exponentials and result, as it writes them. -/
def refS (x : FVec Ideal S1x512x1024 .f32) (w : FVec Ideal S1024x1024 .f32) (k : FVec Ideal S1x8192x8x128 .f32) : FVec Ideal S1x8x512x8192 .f32 :=
  mulf (Host.dotGeneral dot_S1x512x8x128_S1x8192x8x128_S1x8x512x8192_3_3_1_1_02_02 none
      (shapeCast _ (Host.dotGeneral dot_S1x512x1024_S1024x1024_S1x512x1024_2_0_01_1_n_n none x w) shapeCasts_S1x512x1024_S1x512x8x128) k)
    (broadcastInDim S1x8x512x8192 ![] bcast_S_S1x8x512x8192 (constant S_ .f32 0x3DB504F3#32))
def refM (S : FVec Ideal S1x8x512x8192 .f32) : FVec Ideal S1x8x512 .f32 :=
  Host.reduce FloatOps.maximumf S (constant S_ .f32 0xFF800000#32) reducesTo_S1x8x512x8192_S1x8x512_d3 h_S_
def refE (S : FVec Ideal S1x8x512x8192 .f32) (M : FVec Ideal S1x8x512 .f32) : FVec Ideal S1x8x512x8192 .f32 :=
  Host.exp (subf S (broadcastInDim S1x8x512x8192 ![0, 1, 2, 3] bcast_S1x8x512x1_S1x8x512x8192_0_1_2_3
    (broadcastInDim S1x8x512x1 ![0, 1, 2] bcast_S1x8x512_S1x8x512x1_0_1_2 M)))
def refO (E : FVec Ideal S1x8x512x8192 .f32) (v : FVec Ideal S1x8192x8x128 .f32) (wo : FVec Ideal S1024x1024 .f32) : FVec Ideal S1x512x1024 .f32 :=
  Host.dotGeneral dot_S1x512x1024_S1024x1024_S1x512x1024_2_0_01_1_n_n none
    (shapeCast _ (Host.divf
      (transpose S1x512x8x128 [0, 3, 1, 2] (Host.dotGeneral dot_S1x8192x8x128_S1x8x512x8192_S1x8x128x512_1_3_3_2_02_01 none v E)
        transposes_S1x8x128x512_S1x512x8x128_0_3_1_2)
      (broadcastInDim S1x512x8x128 ![0, 1, 2, 3] bcast_S1x512x8x1_S1x512x8x128_0_1_2_3
        (transpose S1x512x8x1 [0, 2, 1, 3] (broadcastInDim S1x8x512x1 ![0, 1, 2] bcast_S1x8x512_S1x8x512x1_0_1_2
          (Host.reduceAdd E (constant S_ .f32 0x00000000#32) reducesTo_S1x8x512x8192_S1x8x512_d3 h_S_)) transposes_S1x8x512x1_S1x512x8x1_0_2_1_3)))
      shapeCasts_S1x512x8x128_S1x512x1024) wo

variable (x : FVec Ideal S1x512x1024 .f32) (w wo : FVec Ideal S1024x1024 .f32) (k v : FVec Ideal S1x8192x8x128 .f32)

def refRes : FVec Ideal S1x512x1024 .f32 := refO (refE (refS x w k) (refM (refS x w k))) v wo

theorem refS_at (h : Fin 8) (q : Fin 512) (j : Fin 8192) : refS x w k (ix4 0 h q j)
    = score (fun q e => x (ix3 0 q e)) (fun a b => w (ix2 a b)) (fun j h d => k (ix4 0 j h d)) h q j := by
  pointwise [refS]
  unfold score scale
  refine congrArg (· * _) (Finset.sum_congr rfl fun d _ => congrArg (· * _) (Finset.sum_congr rfl fun e _ => ?_))
  refine congrArg (fun b : Fin 1024 => x (ix3 0 q e) * w (ix2 e b)) (Fin.ext ?_)
  show h.val * 128 + d.val = 128 * h.val + d.val
  omega

theorem refM_at (S : FVec Ideal S1x8x512x8192 .f32) (h : Fin 8) (q : Fin 512) : refM S (ix3 0 h q) = Finset.univ.sup fun j : Fin 8192 => S (ix4 0 h q j) := by
  pointwise [refM]
  rw [negInf_f32]
  rfl

theorem refE_at (S : FVec Ideal S1x8x512x8192 .f32) (M : FVec Ideal S1x8x512 .f32) (h : Fin 8) (q : Fin 512) (j : Fin 8192) :
    refE S M (ix4 0 h q j) = Ideal.exp (S (ix4 0 h q j) - M (ix3 0 h q)) := by
  pointwise [refE]

theorem refO_at (E : FVec Ideal S1x8x512x8192 .f32) (q : Fin 512) (n : Fin 1024) : refO E v wo (ix3 0 q n)
    = ∑ y : Fin 1024, Ideal.div (∑ j, v (ix4 0 j (headOf y) (laneOf y)) * E (ix4 0 (headOf y) q j)) (∑ j, E (ix4 0 (headOf y) q j)) * wo (ix2 y n) := by
  pointwise [refO]
  rfl

/-- The reference's result at an index. -/
theorem refRes_at (q : Fin 512) (n : Fin 1024) : refRes x w wo k v (ix3 0 q n)
    = outAt (fun q e => x (ix3 0 q e)) (fun a b => w (ix2 a b)) (fun a b => wo (ix2 a b)) (fun j h d => k (ix4 0 j h d)) (fun j h d => v (ix4 0 j h d)) q n := by
  unfold refRes outAt att
  rw [refO_at]
  simp only [refE_at, refM_at, refS_at]

end Ref

end Cert.KP

end
-- ==== Proof.Value.lean ====
/-
  The kernel's arithmetic read at an index, over the extended reals.
-/
module

public import proofs.«01_k».proof.Proof.Attn

@[expose] public section

set_option maxRecDepth 16384

noncomputable section

namespace Cert.KP

open Idealize.ShloMosaic
open Cert.KernelIdeal Cert.KernelIdeal.Gen
open scoped BigOperators

/-! ## Single values -/

section Pay
variable (x : Vec Ideal S1x512x1024 .f32) (w : Vec Ideal S1024x128 .f32) (k : Vec Ideal S1x1x2048x128 .f32) (v : Vec Ideal S1x1x2048x136 .f32)

theorem pay130_at (j : Fin 2048) (q : Fin 512) : k0_pay130 (k0_pay129 x) w k (ix2 j q)
    = ∑ d, k (ix4 0 0 j d) * ((∑ e, x (ix3 0 q e) * w (ix2 e d)) * scale) := by
  pointwise [k0_pay130, k0_pay129]
  rfl

theorem pay131_at (q : Fin 512) : k0_pay131 (k0_pay129 x) w k (ix2 0 q)
    = Finset.univ.sup fun j : Fin 2048 => k0_pay130 (k0_pay129 x) w k (ix2 j q) := by
  unfold k0_pay131
  generalize k0_pay130 (k0_pay129 x) w k = S
  pointwise []
  rw [negInf_bf16]
  rfl

theorem pay132_at (r : Fin 136) (q : Fin 512) : k0_pay132 (k0_pay129 x) w k v (ix3 0 r q)
    = ∑ j, v (ix4 0 0 j r) * Ideal.exp (k0_pay130 (k0_pay129 x) w k (ix2 j q) - k0_pay131 (k0_pay129 x) w k (ix2 0 q)) := by
  unfold k0_pay132
  generalize k0_pay130 (k0_pay129 x) w k = S
  generalize k0_pay131 (k0_pay129 x) w k = M
  pointwise []

theorem pay133_at (q : Fin 512) : k0_pay133 (k0_pay129 x) w k (ix3 0 0 q) = k0_pay131 (k0_pay129 x) w k (ix2 0 q) := by
  unfold k0_pay133
  generalize k0_pay131 (k0_pay129 x) w k = M
  pointwise []

end Pay

/-- The merge at an index: numerators and denominators rescaled to the common maximum, added and divided. -/
theorem mergeF_at (mo m0 m1 m2 : Vec Ideal S1x1x128 .bf16) (oo o0 o1 o2 : Vec Ideal S1x128x128 .bf16) (lo l0 l1 l2 : Vec Ideal S1x1x128 .bf16)
    (d q : Fin 128) {M : EReal} (hM : M = max (max (mo (ix3 0 0 q)) (m0 (ix3 0 0 q))) (max (m1 (ix3 0 0 q)) (m2 (ix3 0 0 q)))) :
    mergeF mo m0 m1 m2 oo o0 o1 o2 lo l0 l1 l2 (ix3 0 d q)
      = Ideal.div
          (oo (ix3 0 d q) * Ideal.exp (mo (ix3 0 0 q) - M) + o0 (ix3 0 d q) * Ideal.exp (m0 (ix3 0 0 q) - M)
            + o1 (ix3 0 d q) * Ideal.exp (m1 (ix3 0 0 q) - M) + o2 (ix3 0 d q) * Ideal.exp (m2 (ix3 0 0 q) - M))
          (lo (ix3 0 0 q) * Ideal.exp (mo (ix3 0 0 q) - M) + l0 (ix3 0 0 q) * Ideal.exp (m0 (ix3 0 0 q) - M)
            + l1 (ix3 0 0 q) * Ideal.exp (m1 (ix3 0 0 q) - M) + l2 (ix3 0 0 q) * Ideal.exp (m2 (ix3 0 0 q) - M)) := by
  subst hM
  pointwise [mergeF, k0_pay20, k0_pay17, k0_pay8, k0_pay10, k0_pay6, k0_pay7, k0_pay12, k0_pay14, k0_pay15, k0_pay18, k0_pay13, k0_pay19, k0_pay9, k0_pay11, k0_pay16]

section Proj
variable (W : Vec Ideal S1024x1024 .f32) (a : Fin 8 → Vec Ideal S1x128x128 .bf16)

theorem outq_at (q : Fin 128) (n : Fin 1024) :
    k0_pay123 (k0_pay5 W) (k0_pay121 (k0_pay5 W) (a 0) (a 1) (a 2)) (a 3) (a 4) (a 5) (a 6) (a 7) (ix3 0 q n)
      = ∑ h, ∑ d, a h (ix3 0 d q) * W (ix2 (hcol h d) n) := by
  rw [Fin.sum_univ_eight]
  pointwise [k0_pay123, k0_pay5, k0_pay121, k0_pay122]
  simp only [hcol]
  rfl

theorem outg_at (q : Fin 128) (n : Fin 1024) :
    k0_pay124 (k0_pay5 W) (k0_pay121 (k0_pay5 W) (a 0) (a 1) (a 2)) (a 3) (a 4) (a 5) (a 6) (a 7) (ix2 q n)
      = ∑ h, ∑ d, a h (ix3 0 d q) * W (ix2 (hcol h d) n) := by
  rw [Fin.sum_univ_eight]
  pointwise [k0_pay124, k0_pay5, k0_pay121, k0_pay122]
  simp only [hcol]
  rfl

theorem pay125_at (g : Vec Ideal S1x128x1024 .bf16) (q : Fin 128) (n : Fin 1024) : k0_pay125 g (ix3 0 q n) = g (ix3 0 q n) := by
  pointwise [k0_pay125]

end Proj

/-! ## The devices' partials -/

section Kernel
variable (m : (ℓ : Loc nD τ sig) → Buf (Elt Ideal) ℓ)
variable {x : Fin 512 → Fin 1024 → EReal} {wq wo : Fin 1024 → Fin 1024 → EReal} {k v : Fin 8192 → Fin 8 → Fin 128 → EReal}

section Parts
variable (hx : ∀ (p : Dev nD) q e, Xa m p (ix3 0 q e) = x q e) (hw : ∀ (p : Dev nD) a b, Wqa m p (ix2 a b) = wq a b)
  (hk : ∀ (p : Dev nD) j h d, Ka m p (ix4 0 j h d) = k (keys (p, j)) h d)

include hx hw hk

theorem part_score (p : Dev nD) (h : Fin 8) (j : Fin 2048) (q : Fin 512) :
    k0_pay130 (k0_pay129 (Xa m p)) (Wh m p h) (Kh m p h) (ix2 j q) = score x wq k h q (keys (p, j)) := by
  rw [pay130_at, ← score_scaled]
  refine Finset.sum_congr rfl fun d _ => ?_
  rw [show Kh m p h (ix4 0 0 j d) = k (keys (p, j)) h d from hk p j h d]
  refine congrArg (_ * ·) (congrArg (· * _) (Finset.sum_congr rfl fun e _ => ?_))
  rw [hx p q e, show Wh m p h (ix2 e d) = wq e (hcol h d) from hw p e (hcol h d)]

theorem part_max (p : Dev nD) (h : Fin 8) (q : Fin 512) :
    k0_pay131 (k0_pay129 (Xa m p)) (Wh m p h) (Kh m p h) (ix2 0 q) = Finset.univ.sup fun j : Fin 2048 => score x wq k h q (keys (p, j)) := by
  rw [pay131_at]
  exact Finset.sup_congr rfl fun j _ => part_score m hx hw hk p h j q

/-- Device `p`'s maximum over its keys. -/
theorem opv_max (p : Dev nD) (h : Fin 8) (q : Fin 512) : opv m p h 129 q = Finset.univ.sup fun j : Fin 2048 => score x wq k h q (keys (p, j)) := by
  rw [show opv m p h 129 q = mVec m p h (ix3 0 0 q) from if_pos rfl]
  rw [show mVec m p h (ix3 0 0 q) = k0_pay131 (k0_pay129 (Xa m p)) (Wh m p h) (Kh m p h) (ix2 0 q) from pay133_at _ _ _ _]
  exact part_max m hx hw hk p h q

theorem opv_row (p : Dev nD) (h : Fin 8) (r : Fin 136) (hr : r.val ≠ 129) (q : Fin 512) : opv m p h r q
    = ∑ j : Fin 2048, Vh m p h (ix4 0 0 j r) * Ideal.exp (score x wq k h q (keys (p, j)) - opv m p h 129 q) := by
  rw [show opv m p h r q = oVec m p h (ix3 0 r q) from if_neg hr]
  rw [show oVec m p h (ix3 0 r q) = _ from pay132_at _ _ _ _ _ _, part_max m hx hw hk, opv_max m hx hw hk]
  exact Finset.sum_congr rfl fun j _ => by rw [part_score m hx hw hk]

/-- Its denominator. -/
theorem opv_den (p : Dev nD) (h : Fin 8) (q : Fin 512) : opv m p h 128 q
    = ∑ j : Fin 2048, (1 : EReal) * Ideal.exp (score x wq k h q (keys (p, j)) - opv m p h 129 q) := by
  rw [opv_row m hx hw hk p h 128 (by decide) q]
  refine Finset.sum_congr rfl fun j _ => congrArg (· * _) ?_
  exact (dif_neg (show ¬ (128 : ℕ) < 128 from Nat.lt_irrefl 128)).trans Ideal.ofBits_one_f32

/-- Its numerator at column `d`. -/
theorem opv_num (hv : ∀ (p : Dev nD) j h d, Va m p (ix4 0 j h d) = v (keys (p, j)) h d) (p : Dev nD) (h : Fin 8) (d : Fin 128) (q : Fin 512) :
    opv m p h ⟨d.val, Nat.lt_trans d.isLt (by decide : (128 : ℕ) < 136)⟩ q
      = ∑ j : Fin 2048, v (keys (p, j)) h d * Ideal.exp (score x wq k h q (keys (p, j)) - opv m p h 129 q) := by
  rw [opv_row m hx hw hk p h _ (by show d.val ≠ 129; have := d.isLt; omega) q]
  refine Finset.sum_congr rfl fun j _ => congrArg (· * _) ?_
  exact (dif_pos (show d.val < 128 from d.isLt)).trans (hv p j h d)

variable (hv : ∀ (p : Dev nD) j h d, Va m p (ix4 0 j h d) = v (keys (p, j)) h d) (ho : ∀ (p : Dev nD) a b, Woa m p (ix2 a b) = wo a b)
include hv

/-- **The merge is the attention over all keys.** -/
theorem ATT_at (c : Dev nD) (h : Fin 8) (d q : Fin 128) : ATT m c h (ix3 0 d q) = att x wq k v h (qcol c q) d := by
  unfold ATT
  rw [mergeF_at _ _ _ _ _ _ _ _ _ _ _ _ d q rfl]
  have hm := fun p => opv_max m hx hw hk p h (qcol c q)
  refine congrArg₂ Ideal.div ?_ ?_
  · exact merged c (score x wq k h (qcol c q)) (fun j => v j h d) (fun p => opv m p h 129 (qcol c q)) hm
      (fun p => opv m p h ⟨d.val, Nat.lt_trans d.isLt (by decide : (128 : ℕ) < 136)⟩ (qcol c q))
      (fun p => opv_num m hx hw hk hv p h d (qcol c q)) rfl
  · refine (merged c (score x wq k h (qcol c q)) (fun _ => 1) (fun p => opv m p h 129 (qcol c q)) hm
      (fun p => opv m p h 128 (qcol c q)) (fun p => opv_den m hx hw hk p h (qcol c q)) rfl).trans ?_
    exact Finset.sum_congr rfl fun j _ => one_mul _

include ho

theorem block_at (c : Dev nD) (q : Fin 128) (n : Fin 1024) :
    (∑ h, ∑ d, ATT m c h (ix3 0 d q) * Woa m c (ix2 (hcol h d) n)) = outAt x wq wo k v (qcol c q) n := by
  unfold outAt
  rw [sum_heads]
  refine Finset.sum_congr rfl fun h _ => Finset.sum_congr rfl fun d _ => ?_
  rw [ATT_at m hx hw hk hv, ho, headOf_hcol, laneOf_hcol]

theorem OUTq_at (c : Dev nD) (q : Fin 128) (n : Fin 1024) : OUTq m c (ix3 0 q n) = outAt x wq wo k v (qcol c q) n :=
  (outq_at (Woa m c) (ATT m c) q n).trans (block_at m hx hw hk hv ho c q n)

theorem OG_at (c : Dev nD) (q : Fin 128) (n : Fin 1024) : OG m c (ix2 q n) = outAt x wq wo k v (qcol c q) n :=
  (outg_at (Woa m c) (ATT m c) q n).trans (block_at m hx hw hk hv ho c q n)

theorem OUTs_at (c : Dev nD) (j : Fin 3) (q : Fin 128) (n : Fin 1024) : OUTs m c j (ix3 0 q n) = outAt x wq wo k v (qcol (src c j) q) n :=
  (pay125_at _ q n).trans (OG_at m hx hw hk hv ho (src c j) q n)

/-- **Every device ends with the whole result.** -/
theorem RES_at (c : Dev nD) (q : Fin 512) (n : Fin 1024) : RES m c (ix3 0 q n) = outAt x wq wo k v q n := by
  have h128 : q.val % 128 < 128 := Nat.mod_lt _ (by decide)
  have hq (p : Dev nD) (hp : q.val / 128 = p.val) : qcol p ⟨q.val % 128, h128⟩ = q :=
    Fin.ext (by show 128 * p.val + q.val % 128 = q.val; omega)
  show (if q.val / 128 = c.val then OUTq m c (ix3 0 ⟨q.val % 128, h128⟩ n)
    else if q.val / 128 = (src c 0).val then OUTs m c 0 (ix3 0 ⟨q.val % 128, h128⟩ n)
    else if q.val / 128 = (src c 1).val then OUTs m c 1 (ix3 0 ⟨q.val % 128, h128⟩ n)
    else OUTs m c 2 (ix3 0 ⟨q.val % 128, h128⟩ n)) = _
  split_ifs with h0 h1 h2
  · rw [OUTq_at m hx hw hk hv ho, hq _ h0]
  · rw [OUTs_at m hx hw hk hv ho, hq _ h1]
  · rw [OUTs_at m hx hw hk hv ho, hq _ h2]
  · have h3 : q.val / 128 = (src c 2).val := by
      have e0 : (src c 0).val = (c.val + 0 + 1) % 4 := rfl
      have e1 : (src c 1).val = (c.val + 1 + 1) % 4 := rfl
      have e2 : (src c 2).val = (c.val + 2 + 1) % 4 := rfl
      have hc : c.val < 4 := c.isLt
      have := q.isLt
      omega
    rw [OUTs_at m hx hw hk hv ho, hq _ h3]

end Parts
end Kernel

end Cert.KP

end
-- ==== Proof.Algebraic.lean ====
/-
  The value claim: over the extended reals every device's result array is the reference's.
-/
module

public import proofs.«01_k».proof.Proof.Frames
public import proofs.«01_k».proof.Proof.Value
public import Idealize.ShloMosaic.Lib.Pipeline.Value
public import Idealize.ShloMosaic.Lib.LayoutAt

@[expose] public section

set_option maxRecDepth 16384

noncomputable section

namespace Cert.KP

open Idealize.ShloMosaic Idealize.SL.Sem
open Idealize.ShloMosaic.TcCoe
open Cert.KernelIdeal Cert.KernelIdeal.Gen
open Idealize.ShloMosaic.Pipeline (Dat Cfg Window)

section Final
variable {F : FTy → Type} [FloatOps F]
variable (m : (ℓ : Loc nD τ sig) → Buf (Elt F) ℓ) (ρ : Dev nD → PrngReg)

/-- The one write-back of the result, after the last grid point, writes `RES`: its one block is the whole array. -/
theorem flushed_res (c : Dev nD) (t : Fin cfg0.N) (hf : (cfg0.win 3).flush t = true) :
    (dats m ρ 0 c).flushed 3 t = ((cfg0.win 3).blk t).view.read (Elt F) (RES m c) := by
  have hN : cfg0.N = 4 := N_0
  have h3 : t.val = 3 := by have := (flush0_3 t).mp hf; have := t.isLt; omega
  obtain rfl : t = t0_3 := Fin.ext h3
  have hz' : (fun a => win0_3.index t0_3 a * main_v1.ty.shape.size a) = fun _ => 0 := funext fun a => by fin_cases a <;> decide
  exact (Memref.read_access_unit_zero (Elt F) main_v1 hz' (fun a => by rw [congrFun hz' a]; simp) (RES m c)).symm

/-- So the result array ends at `RES`. -/
theorem final_res (c : Dev nD) : finalA m ρ c 3 = RES m c :=
  (dats m ρ 0 c).arrAt_eq_of_cover 3 (RES m c) (flushed_res m ρ c) fun i =>
    ⟨t0_3, (flush0_3 t0_3).mpr rfl, by
      show i ∈ ((View.whole main_v1).slice (win0_3.rect t0_3)).set
      rw [View.set_slice_whole, Rect.mem_set_unit]
      intro a
      have e0 : win0_3.index t0_3 a * win0_3.size a = 0 := by fin_cases a <;> decide +kernel
      have e1 : win0_3.xsize (grid0.coords t0_3) a = main_v1.ty.shape.size a := by fin_cases a <;> decide +kernel
      show win0_3.index t0_3 a * win0_3.size a ≤ (i a : Nat) ∧ (i a : Nat) < win0_3.index t0_3 a * win0_3.size a + win0_3.xsize (grid0.coords t0_3) a
      rw [e0, e1, Nat.zero_add]
      exact ⟨Nat.zero_le _, (i a).isLt⟩⟩

/-- The run with the result read: every device's array at `RES`, the arguments unchanged. -/
theorem run_res : θ_run defs (onTc (τ := τ) (main (F := F))) ⟨m, fun _ => 0, ρ⟩ (fun r => ∀ c : Dev nD,
      r.2.mem ((c.tc : Thread nD τ).loc main_v1) = RES m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 3).trans (final_res m ρ c), QC_args m ρ r h.1 c⟩) (run_main m ρ)

end Final

/-- Device `p`'s block of a whole key or value array, at an index. -/
theorem block_key (p : Dev nD) (A : (⟨4, ![1, 8192, 8, 128]⟩ : Shape).Idx → EReal)
    (H : Layout.Tiles ⟨4, ![1, 2048, 8, 128]⟩ ⟨4, ![1, 8192, 8, 128]⟩ 1 4) (j : Fin 2048) (h : Fin 8) (d : Fin 128) :
    Layout.block ⟨4, ![1, 2048, 8, 128]⟩ ⟨4, ![1, 8192, 8, 128]⟩ 1 4 p A H (ix4 0 j h d) = A (ix4 0 (keys (p, j)) h d) := by
  rw [Layout.block_apply]
  have hk := keys_val p j
  refine congrArg A (funext fun a => Fin.ext ?_)
  fin_cases a
  · exact Layout.Tiles.idx_val_of_ne H p _ _ (by decide)
  · refine (Layout.Tiles.idx_val_self H p _ _ rfl).trans ?_
    show p.val * 2048 + j.val = (keys (p, j)).val
    omega
  · exact Layout.Tiles.idx_val_of_ne H p _ _ (by decide)
  · exact Layout.Tiles.idx_val_of_ne H p _ _ (by decide)

/-- **Every device's result is the reference's**, where every device holds the replicated arguments and its block of the
    keys and values. -/
theorem RES_eq (m : (ℓ : Loc nD τ sig) → Buf (Elt Ideal) ℓ) (x : FVec Ideal Cert.ReferenceIdeal.S1x512x1024 .f32)
    (w wo : FVec Ideal Cert.ReferenceIdeal.S1024x1024 .f32) (k v : FVec Ideal Cert.ReferenceIdeal.S1x8192x8x128 .f32)
    (H : Layout.Tiles ⟨4, ![1, 2048, 8, 128]⟩ ⟨4, ![1, 8192, 8, 128]⟩ 1 4)
    (hx : ∀ p, Xa m p = x) (hw : ∀ p, Wqa m p = w) (hk : ∀ p, Ka m p = Layout.block ⟨4, ![1, 2048, 8, 128]⟩ ⟨4, ![1, 8192, 8, 128]⟩ 1 4 p k H)
    (hv : ∀ p, Va m p = Layout.block ⟨4, ![1, 2048, 8, 128]⟩ ⟨4, ![1, 8192, 8, 128]⟩ 1 4 p v H) (ho : ∀ p, Woa m p = wo) (c : Dev nD) :
    RES m c = refRes x w wo k v := by
  funext i
  obtain ⟨z, q, n, rfl⟩ : ∃ (z : Fin 1) (q : Fin 512) (n : Fin 1024), i = ix3 z q n := ⟨i 0, i 1, i 2, eq_ix3 i⟩
  obtain rfl : z = 0 := Subsingleton.elim _ _
  rw [refRes_at]
  exact RES_at m (fun p q e => congrFun (hx p) _) (fun p a b => congrFun (hw p) _)
    (fun p j h d => (congrFun (hk p) _).trans (block_key p k H j h d)) (fun p j h d => (congrFun (hv p) _).trans (block_key p v H j h d))
    (fun p a b => congrFun (ho p) _) c q n

end Cert.KP

namespace Cert

open Idealize.ShloMosaic Idealize.SL.Sem

attribute [local instance] Cert.Kernel.Gen.facts Cert.KernelIdeal.Gen.facts Cert.ReferenceIdeal.Gen.facts

theorem algebraic_kernelIdeal : Cert.algebraic_KernelIdeal_ReferenceIdeal := fun m g m' g' _ h => by
  refine ⟨Cert.KP.refRes (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg4))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r hr c => ⟨(hr c).1.trans ?_, (hr c).2⟩) (Cert.KP.run_res m g)
    exact Cert.KP.RES_eq m _ _ _ _ _ (by decide) (fun p => (h p).1) (fun p => (h p).2.1) (fun p => (h p).2.2.1) (fun p => (h p).2.2.2.1)
      (fun p => (h p).2.2.2.2) c
  · exact (θ_run Cert.ReferenceIdeal.defs _ _).mono (fun r hr => hr 0) (Cert.ReferenceIdeal.Value.run m' g')

end Cert

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.frame_kernel, Cert.frame_kernelIdeal, Cert.frame_referenceIdeal, trivial, Cert.algebraic_kernelIdeal⟩

end Cert.Proof

end
